-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "big" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x3 : Shape := ⟨3, ![1, 4096, 3]⟩
abbrev S4096x3 : Shape := ⟨2, ![4096, 3]⟩
abbrev S3x4096 : Shape := ⟨2, ![3, 4096]⟩
abbrev S_ : Shape := ⟨0, ![]⟩
abbrev S8x4096 : Shape := ⟨2, ![8, 4096]⟩
abbrev S1 : Shape := ⟨1, ![1]⟩
abbrev S12288 : Shape := ⟨1, ![12288]⟩
abbrev S24576 : Shape := ⟨1, ![24576]⟩
abbrev S1024 : Shape := ⟨1, ![1024]⟩
abbrev S131072 : Shape := ⟨1, ![131072]⟩
abbrev S512 : Shape := ⟨1, ![512]⟩
abbrev S4096 : Shape := ⟨1, ![4096]⟩
abbrev S32 : Shape := ⟨1, ![32]⟩
abbrev S16 : Shape := ⟨1, ![16]⟩
abbrev S3072x3 : Shape := ⟨2, ![3072, 3]⟩
abbrev S3072x1 : Shape := ⟨2, ![3072, 1]⟩
abbrev S1x4096 : Shape := ⟨2, ![1, 4096]⟩
abbrev S1x1 : Shape := ⟨2, ![1, 1]⟩
abbrev S256x3 : Shape := ⟨2, ![256, 3]⟩
abbrev S256x1 : Shape := ⟨2, ![256, 1]⟩
abbrev S256x4096 : Shape := ⟨2, ![256, 4096]⟩
abbrev S256 : Shape := ⟨1, ![256]⟩
abbrev S1x256x1 : Shape := ⟨3, ![1, 256, 1]⟩
abbrev S1x1x1 : Shape := ⟨3, ![1, 1, 1]⟩
abbrev S8x64 : Shape := ⟨2, ![8, 64]⟩
abbrev S32x4096 : Shape := ⟨2, ![32, 4096]⟩
abbrev S1x8x64 : Shape := ⟨3, ![1, 8, 64]⟩
abbrev S1x1x4096 : Shape := ⟨3, ![1, 1, 4096]⟩
abbrev S3072 : Shape := ⟨1, ![3072]⟩

abbrev nBuf : Table → Nat
  | .hbm => 38
  | .local .tc .vmem => 16
  | .local .scVector .vmem => 10
  | _ => 0

abbrev bufTy : (tb : Table) → Fin (nBuf tb) → BufTy
  | .hbm, ⟨0, _⟩ => ⟨S1x4096x3, .f32⟩
  | .hbm, ⟨1, _⟩ => ⟨S1x4096x3, .f32⟩
  | .hbm, ⟨2, _⟩ => ⟨S1x4096x3, .f32⟩
  | .hbm, ⟨3, _⟩ => ⟨S4096x3, .f32⟩
  | .hbm, ⟨4, _⟩ => ⟨S4096x3, .f32⟩
  | .hbm, ⟨5, _⟩ => ⟨S1x4096x3, .f32⟩
  | .hbm, ⟨6, _⟩ => ⟨S4096x3, .f32⟩
  | .hbm, ⟨7, _⟩ => ⟨S3x4096, .f32⟩
  | .hbm, ⟨8, _⟩ => ⟨S4096x3, .f32⟩
  | .hbm, ⟨9, _⟩ => ⟨S3x4096, .f32⟩
  | .hbm, ⟨10, _⟩ => ⟨S_, .f32⟩
  | .hbm, ⟨11, _⟩ => ⟨S8x4096, .f32⟩
  | .hbm, ⟨12, _⟩ => ⟨S_, .i32⟩
  | .hbm, ⟨13, _⟩ => ⟨S1, .i32⟩
  | .hbm, ⟨14, _⟩ => ⟨S8x4096, .f32⟩
  | .hbm, ⟨15, _⟩ => ⟨S12288, .f32⟩
  | .hbm, ⟨16, _⟩ => ⟨S12288, .f32⟩
  | .hbm, ⟨17, _⟩ => ⟨S24576, .f32⟩
  | .hbm, ⟨18, _⟩ => ⟨S1024, .f32⟩
  | .hbm, ⟨19, _⟩ => ⟨S1024, .i32⟩
  | .hbm, ⟨20, _⟩ => ⟨S131072, .f32⟩
  | .hbm, ⟨21, _⟩ => ⟨S512, .f32⟩
  | .hbm, ⟨22, _⟩ => ⟨S3072x3, .f32⟩
  | .hbm, ⟨23, _⟩ => ⟨S3072x3, .f32⟩
  | .hbm, ⟨24, _⟩ => ⟨S3072x1, .f32⟩
  | .hbm, ⟨25, _⟩ => ⟨S3072x1, .i32⟩
  | .hbm, ⟨26, _⟩ => ⟨S1x4096, .f32⟩
  | .hbm, ⟨27, _⟩ => ⟨S1x1, .f32⟩
  | .hbm, ⟨28, _⟩ => ⟨S8x64, .f32⟩
  | .hbm, ⟨29, _⟩ => ⟨S32x4096, .f32⟩
  | .hbm, ⟨30, _⟩ => ⟨S1x1, .f32⟩
  | .hbm, ⟨31, _⟩ => ⟨S3072, .f32⟩
  | .hbm, ⟨32, _⟩ => ⟨S4096, .f32⟩
  | .hbm, ⟨33, _⟩ => ⟨S3072, .i32⟩
  | .hbm, ⟨34, _⟩ => ⟨S4096, .i32⟩
  | .hbm, ⟨35, _⟩ => ⟨S_, .f32⟩
  | .hbm, ⟨36, _⟩ => ⟨S1x4096, .f32⟩
  | .hbm, ⟨37, _⟩ => ⟨S1x4096, .i32⟩
  | .local .tc .vmem, ⟨0, _⟩ => ⟨S256x3, .f32⟩
  | .local .tc .vmem, ⟨1, _⟩ => ⟨S256x3, .f32⟩
  | .local .tc .vmem, ⟨2, _⟩ => ⟨S256x3, .f32⟩
  | .local .tc .vmem, ⟨3, _⟩ => ⟨S256x3, .f32⟩
  | .local .tc .vmem, ⟨4, _⟩ => ⟨S8x4096, .f32⟩
  | .local .tc .vmem, ⟨5, _⟩ => ⟨S256x1, .f32⟩
  | .local .tc .vmem, ⟨6, _⟩ => ⟨S256x1, .f32⟩
  | .local .tc .vmem, ⟨7, _⟩ => ⟨S256x1, .i32⟩
  | .local .tc .vmem, ⟨8, _⟩ => ⟨S256x1, .i32⟩
  | .local .tc .vmem, ⟨9, _⟩ => ⟨S1x4096, .f32⟩
  | .local .tc .vmem, ⟨10, _⟩ => ⟨S1x1, .f32⟩
  | .local .tc .vmem, ⟨11, _⟩ => ⟨S8x64, .f32⟩
  | .local .tc .vmem, ⟨12, _⟩ => ⟨S32x4096, .f32⟩
  | .local .tc .vmem, ⟨13, _⟩ => ⟨S1x4096, .f32⟩
  | .local .tc .vmem, ⟨14, _⟩ => ⟨S1x1, .f32⟩
  | .local .tc .vmem, ⟨15, _⟩ => ⟨S1x1, .f32⟩
  | .local .scVector .vmem, ⟨0, _⟩ => ⟨S4096, .f32⟩
  | .local .scVector .vmem, ⟨1, _⟩ => ⟨S4096, .f32⟩
  | .local .scVector .vmem, ⟨2, _⟩ => ⟨S4096, .f32⟩
  | .local .scVector .vmem, ⟨3, _⟩ => ⟨S32, .f32⟩
  | .local .scVector .vmem, ⟨4, _⟩ => ⟨S32, .f32⟩
  | .local .scVector .vmem, ⟨5, _⟩ => ⟨S32, .f32⟩
  | .local .scVector .vmem, ⟨6, _⟩ => ⟨S4096, .f32⟩
  | .local .scVector .vmem, ⟨7, _⟩ => ⟨S32, .f32⟩
  | .local .scVector .vmem, ⟨8, _⟩ => ⟨S32, .i32⟩
  | .local .scVector .vmem, ⟨9, _⟩ => ⟨S16, .f32⟩
  | _, _ => ⟨S1x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v12_scv : Ref sig .scVector := ⟨.hbm, 17, rfl⟩
abbrev main_v13_0_scv : Ref sig .scVector := ⟨.hbm, 18, rfl⟩
abbrev main_v13_1_scv : Ref sig .scVector := ⟨.hbm, 19, rfl⟩
abbrev main_v13_2_scv : Ref sig .scVector := ⟨.hbm, 20, rfl⟩
abbrev main_v13_3_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg6_0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c3072_i32 : BitVec 32 := 3072#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v3 : BitVec 32 := Scalar.addi c3072_i32 v2
  ![v3.toNat]
def k0_off2 (i : grid0.Coords) (c4096_i32 : BitVec 32) : Fin 1 → Nat :=
  let c3072_i32 : BitVec 32 := 3072#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let v3 : BitVec 32 := Scalar.addi c3072_i32 v2
  let v4 : BitVec 32 := Scalar.addi c4096_i32 v3
  ![v4.toNat]
@[reducible] def k0_t1_loop : Scf.Loop 32 :=
  let c0_i32_0 : BitVec 32 := 0#32
  let c256_i32 : BitVec 32 := 256#32
  let v7 : BitVec 32 := Scalar.addi c0_i32_0 c256_i32
  let c1_i32 : BitVec 32 := 1#32
  ⟨c0_i32_0, v7, c1_i32⟩
def k0_off3 (k0_t1 : Fin k0_t1_loop.trips) : Fin 1 → Nat :=
  let c0_i32_0 : BitVec 32 := 0#32
  let c1_i32 : BitVec 32 := 1#32
  let arg17 : BitVec 32 := Scf.iv c0_i32_0 c1_i32 k0_t1
  let c16_i32_217 : BitVec 32 := 16#32
  let v2414 : BitVec 32 := Scalar.muli arg17 c16_i32_217
  let v2415 : Index := Scalar.indexCast v2414
  ![v2415.toNat]
@[reducible] def k0_t2_loop : Scf.Loop 32 :=
  let c0_i32_21 : BitVec 32 := 0#32
  let c128_i32 : BitVec 32 := 128#32
  let v102 : BitVec 32 := Scalar.addi c0_i32_21 c128_i32
  let c1_i32_22 : BitVec 32 := 1#32
  ⟨c0_i32_21, v102, c1_i32_22⟩
def k0_off4 (k0_t2 : Fin k0_t2_loop.trips) (c0_i32_217 : BitVec 32) : Fin 1 → Nat :=
  let c0_i32_21 : BitVec 32 := 0#32
  let c1_i32_22 : BitVec 32 := 1#32
  let arg17 : BitVec 32 := Scf.iv c0_i32_21 c1_i32_22 k0_t2
  let c32_i32_216 : BitVec 32 := 32#32
  let v2413 : BitVec 32 := Scalar.muli arg17 c32_i32_216
  let v2414 : BitVec 32 := Scalar.addi v2413 c0_i32_217
  let v2415 : Index := Scalar.indexCast v2414
  ![v2415.toNat]
@[reducible] def k0_t3_loop : Scf.Loop 32 :=
  let c0_i32_67 : BitVec 32 := 0#32
  let c128_i32_68 : BitVec 32 := 128#32
  let v699 : BitVec 32 := Scalar.addi c0_i32_67 c128_i32_68
  let c1_i32_69 : BitVec 32 := 1#32
  ⟨c0_i32_67, v699, c1_i32_69⟩
def k0_off5 (k0_t3 : Fin k0_t3_loop.trips) (c0_i32_217 : BitVec 32) : Fin 1 → Nat :=
  let c0_i32_67 : BitVec 32 := 0#32
  let c1_i32_69 : BitVec 32 := 1#32
  let arg17 : BitVec 32 := Scf.iv c0_i32_67 c1_i32_69 k0_t3
  let c32_i32_216 : BitVec 32 := 32#32
  let v2413 : BitVec 32 := Scalar.muli arg17 c32_i32_216
  let v2414 : BitVec 32 := Scalar.addi v2413 c0_i32_217
  let v2415 : Index := Scalar.indexCast v2414
  ![v2415.toNat]
@[reducible] def k0_t4_loop : Scf.Loop 32 :=
  let c0_i32_115 : BitVec 32 := 0#32
  let c128_i32_116 : BitVec 32 := 128#32
  let v1298 : BitVec 32 := Scalar.addi c0_i32_115 c128_i32_116
  let c1_i32_117 : BitVec 32 := 1#32
  ⟨c0_i32_115, v1298, c1_i32_117⟩
def k0_off6 (k0_t4 : Fin k0_t4_loop.trips) (c0_i32_217 : BitVec 32) : Fin 1 → Nat :=
  let c0_i32_115 : BitVec 32 := 0#32
  let c1_i32_117 : BitVec 32 := 1#32
  let arg17 : BitVec 32 := Scf.iv c0_i32_115 c1_i32_117 k0_t4
  let c32_i32_216 : BitVec 32 := 32#32
  let v2413 : BitVec 32 := Scalar.muli arg17 c32_i32_216
  let v2414 : BitVec 32 := Scalar.addi v2413 c0_i32_217
  let v2415 : Index := Scalar.indexCast v2414
  ![v2415.toNat]
@[reducible] def k0_t5_loop : Scf.Loop 32 :=
  let c0_i32_170 : BitVec 32 := 0#32
  let c128_i32_171 : BitVec 32 := 128#32
  let v1895 : BitVec 32 := Scalar.addi c0_i32_170 c128_i32_171
  let c1_i32_172 : BitVec 32 := 1#32
  ⟨c0_i32_170, v1895, c1_i32_172⟩
def k0_off7 (k0_t5 : Fin k0_t5_loop.trips) (c0_i32_217 : BitVec 32) : Fin 1 → Nat :=
  let c0_i32_170 : BitVec 32 := 0#32
  let c1_i32_172 : BitVec 32 := 1#32
  let arg17 : BitVec 32 := Scf.iv c0_i32_170 c1_i32_172 k0_t5
  let c32_i32_216 : BitVec 32 := 32#32
  let v2413 : BitVec 32 := Scalar.muli arg17 c32_i32_216
  let v2414 : BitVec 32 := Scalar.addi v2413 c0_i32_217
  let v2415 : Index := Scalar.indexCast v2414
  ![v2415.toNat]
def k0_off8 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_212 : BitVec 32 := 32#32
  let v2409 : BitVec 32 := Scalar.muli v1 c32_i32_212
  ![v2409.toNat]
def k0_off9 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4096_i32_214 : BitVec 32 := 4096#32
  let v2411 : BitVec 32 := Scalar.muli v1 c4096_i32_214
  ![v2411.toNat]
def k0_off10 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_215 : BitVec 32 := 16#32
  let v2412 : BitVec 32 := Scalar.muli v1 c16_i32_215
  ![v2412.toNat]
abbrev grid1 : Pipeline.Grid := ⟨1, ![12], ![false]⟩

def k1_cond1 (i : grid1.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_13 : BitVec 32 := 0#32
  let v43 : BitVec 1 := Scalar.cmpi .ne v42 c0_i32_13
  v43

def k1_cond2 (i : grid1.Coords) : BitVec 1 :=
  let arg0 : BitVec 32 := BitVec.ofNat 32 (i 0).val
  let c0_i32_14 : BitVec 32 := 0#32
  let v44 : BitVec 1 := Scalar.cmpi .ne arg0 c0_i32_14
  let v45 : BitVec 32 := Scalar.extui v44
  let c0_i32_15 : BitVec 32 := 0#32
  let v46 : BitVec 1 := Scalar.cmpi .ne v45 c0_i32_15
  v46

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := .none

abbrev stage2_0 : Fin 1 → Memref sig .tc .vmem S8x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "big" => some ⊤
  | _ => none
-- ==== ReferenceIdeal.lean ====
abbrev S1x4096x3 : Shape := ⟨3, ![1, 4096, 3]⟩
abbrev S1x4096x1x3 : Shape := ⟨4, ![1, 4096, 1, 3]⟩
abbrev S1x1x4096x3 : Shape := ⟨4, ![1, 1, 4096, 3]⟩
abbrev S1x4096x4096x3 : Shape := ⟨4, ![1, 4096, 4096, 3]⟩
abbrev S_ : Shape := ⟨0, ![]⟩
abbrev S1x4096x4096 : Shape := ⟨3, ![1, 4096, 4096]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S1x4096x3, .f32⟩
  | .hbm, ⟨1, _⟩ => ⟨S1x4096x3, .f32⟩
  | .hbm, ⟨2, _⟩ => ⟨S1x4096x3, .f32⟩
  | .hbm, ⟨3, _⟩ => ⟨S1x4096x3, .f32⟩
  | .hbm, ⟨4, _⟩ => ⟨S1x4096x1x3, .f32⟩
  | .hbm, ⟨5, _⟩ => ⟨S1x1x4096x3, .f32⟩
  | .hbm, ⟨6, _⟩ => ⟨S1x4096x4096x3, .f32⟩
  | .hbm, ⟨7, _⟩ => ⟨S1x4096x4096x3, .f32⟩
  | .hbm, ⟨8, _⟩ => ⟨S1x4096x4096x3, .f32⟩
  | .hbm, ⟨9, _⟩ => ⟨S1x4096x4096x3, .f32⟩
  | .hbm, ⟨10, _⟩ => ⟨S_, .f32⟩
  | .hbm, ⟨11, _⟩ => ⟨S1x4096x4096, .f32⟩
  | .hbm, ⟨12, _⟩ => ⟨S_, .f32⟩
  | .hbm, ⟨13, _⟩ => ⟨S1x4096, .f32⟩
  | .hbm, ⟨14, _⟩ => ⟨S1x4096x4096, .i32⟩
  | .hbm, ⟨15, _⟩ => ⟨S_, .f32⟩
  | .hbm, ⟨16, _⟩ => ⟨S_, .i32⟩
  | .hbm, ⟨17, _⟩ => ⟨S1x4096, .f32⟩
  | .hbm, ⟨18, _⟩ => ⟨S1x4096, .i32⟩
  | .hbm, ⟨19, _⟩ => ⟨S1x4096x1x3, .f32⟩
  | .hbm, ⟨20, _⟩ => ⟨S1x1x4096x3, .f32⟩
  | .hbm, ⟨21, _⟩ => ⟨S1x4096x4096x3, .f32⟩
  | .hbm, ⟨22, _⟩ => ⟨S1x4096x4096x3, .f32⟩
  | .hbm, ⟨23, _⟩ => ⟨S1x4096x4096x3, .f32⟩
  | .hbm, ⟨24, _⟩ => ⟨S1x4096x4096x3, .f32⟩
  | .hbm, ⟨25, _⟩ => ⟨S_, .f32⟩
  | .hbm, ⟨26, _⟩ => ⟨S1x4096x4096, .f32⟩
  | .hbm, ⟨27, _⟩ => ⟨S_, .f32⟩
  | .hbm, ⟨28, _⟩ => ⟨S1x4096, .f32⟩
  | .hbm, ⟨29, _⟩ => ⟨S1x4096x4096, .i32⟩
  | .hbm, ⟨30, _⟩ => ⟨S_, .f32⟩
  | .hbm, ⟨31, _⟩ => ⟨S_, .i32⟩
  | .hbm, ⟨32, _⟩ => ⟨S1x4096, .f32⟩
  | .hbm, ⟨33, _⟩ => ⟨S1x4096, .i32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S1x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_call1_v0 : Ref sig .tc := ⟨.hbm, 29, rfl⟩
abbrev main_call1_cst : Ref sig .tc := ⟨.hbm, 30, rfl⟩
abbrev main_call1_c : Ref sig .tc := ⟨.hbm, 31, rfl⟩
abbrev main_call1_v1_0 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Proof.KI.Spec.lean ====
module

public import proofs.«01_k».proof.Proof.Gen.KernelIdeal.Skeleton

@[expose] public section

noncomputable section

namespace Cert.KernelIdeal.KI

open Idealize.ShloMosaic Idealize.SL.Sem Cert.KernelIdeal Cert.KernelIdeal.Gen

variable {F : FTy → Type} [FloatOps F] [Named F]

/-! # What one tile computes, in its own operations

The vectors of one tile are sixteen lanes wide.  A scan carries eight running minima and the eight
indices they were found at. -/

/-- The large number the minima start from. -/
abbrev bigW : F .f32 := Named.named κ "big" 0x7F61B1E6#32

/-- The carry of one scan: eight minima and eight indices. -/
abbrev Carry (F : FTy → Type) : Type :=
  FVec F S16 .f32 × FVec F S16 .f32 × FVec F S16 .f32 × FVec F S16 .f32 × FVec F S16 .f32 × FVec F S16 .f32 × FVec F S16 .f32 × FVec F S16 .f32 × IVec S16 32 × IVec S16 32 × IVec S16 32 × IVec S16 32 × IVec S16 32 × IVec S16 32 × IVec S16 32 × IVec S16 32

/-- A carry from its minima and its indices. -/
abbrev tup (rm : Fin 8 → FVec F S16 .f32) (ri : Fin 8 → IVec S16 32) : Carry F :=
  (rm 0, rm 1, rm 2, rm 3, rm 4, rm 5, rm 6, rm 7, ri 0, ri 1, ri 2, ri 3, ri 4, ri 5, ri 6, ri 7)

/-- Sixteen distances to one query. -/
def dst (bx by' bz px py pz : FVec F S16 .f32) : FVec F S16 .f32 :=
  addf (addf (absf (subf px bx)) (absf (subf py by'))) (absf (subf pz bz))

/-- The running minima after sixteen more distances. -/
def nxM (d rm : FVec F S16 .f32) : FVec F S16 .f32 := select (cmpf .olt d rm) d rm

/-- The running indices after sixteen more distances. -/
def nxI (d rm : FVec F S16 .f32) (jv ri : IVec S16 32) : IVec S16 32 :=
  select (cmpf .olt d rm) jv ri

/-- The indices of chunk `u` of trip `k`. -/
def jvec (v6 : IVec S16 32) (k : ℕ) (u : BitVec 32) : IVec S16 32 :=
  addi v6 (broadcast S16 (Scalar.addi (Scalar.muli (Scf.iv 0#32 1#32 k) 32#32) u))

/-- The column minima after one chunk's distances to the eight queries. -/
def cm8 (bx by' bz : Fin 8 → FVec F S16 .f32) (px py pz cm : FVec F S16 .f32) : FVec F S16 .f32 :=
  minimumf (minimumf (minimumf (minimumf (minimumf (minimumf (minimumf (minimumf cm
    (dst (bx 0) (by' 0) (bz 0) px py pz)) (dst (bx 1) (by' 1) (bz 1) px py pz))
    (dst (bx 2) (by' 2) (bz 2) px py pz)) (dst (bx 3) (by' 3) (bz 3) px py pz))
    (dst (bx 4) (by' 4) (bz 4) px py pz)) (dst (bx 5) (by' 5) (bz 5) px py pz))
    (dst (bx 6) (by' 6) (bz 6) px py pz)) (dst (bx 7) (by' 7) (bz 7) px py pz)

/-- The rectangle of chunk `u` of trip `k`. -/
abbrev rct (k : Fin k0_t2_loop.trips) (u : Fin 2) : Rect S4096 :=
  Rect.unit (s := S4096) (k0_off4 k (BitVec.ofNat 32 (16 * u.val))) S16.size (k0_off4_inb k u)

/-- Loading one chunk. -/
abbrev ldc (arg : Memref sig .scVector .vmem S4096 .f32) (k : Fin k0_t2_loop.trips) (u : Fin 2) {core sub} :
    Prog (TpuEff nD τ sig (Elt F) Λ₀ (.scVector core sub)) (Vec F S16 .f32) :=
  Prog.lift (.load arg (rct k u).toLoadRect (View.loadsAt_vmem h_S16))

/-- Storing one chunk. -/
abbrev stc (arg : Memref sig .scVector .vmem S4096 .f32) (k : Fin k0_t2_loop.trips) (u : Fin 2) (v : FVec F S16 .f32) {core sub} :
    Prog (TpuEff nD τ sig (Elt F) Λ₀ (.scVector core sub)) PUnit :=
  Prog.lift (.store arg (rct k u) v Finset.univ (View.stores_vmem_bits_univ h_S16 rfl) (.inl rfl))

theorem slices16 (l : Fin 16) : S16.Slices ![l.val] S1 := by
  revert l; decide

/-- One lane of a vector. -/
def lane (l : Fin 16) (v : FVec F S16 .f32) : F .f32 :=
  extractAt ![0] (extractStridedSlice S1 ![l.val] v (slices16 l)) inpos_S1_p0

/-- One lane of a vector in every lane. -/
def spl (l : Fin 16) (v : FVec F S16 .f32) : FVec F S16 .f32 := broadcast S16 (lane l v)

/-- The lanes of the eight queries of a block: the lower half of the vector or the upper half. -/
def ln (hi : Bool) (l : Fin 8) : Fin 16 := ⟨(if hi then 8 else 0) + l.val, by have := l.isLt; split <;> omega⟩

/-- The eight queries of a block. -/
def bqs (hi : Bool) (v : FVec F S16 .f32) (l : Fin 8) : FVec F S16 .f32 := spl (ln hi l) v

/-- The eight minima after one chunk. -/
def rmC (bx by' bz : Fin 8 → FVec F S16 .f32) (px py pz : FVec F S16 .f32) (rm : Fin 8 → FVec F S16 .f32) (l : Fin 8) :
    FVec F S16 .f32 := nxM (dst (bx l) (by' l) (bz l) px py pz) (rm l)

/-- The eight indices after one chunk. -/
def riC (bx by' bz : Fin 8 → FVec F S16 .f32) (px py pz : FVec F S16 .f32) (jv : IVec S16 32) (rm : Fin 8 → FVec F S16 .f32)
    (ri : Fin 8 → IVec S16 32) (l : Fin 8) : IVec S16 32 :=
  nxI (dst (bx l) (by' l) (bz l) px py pz) (rm l) jv (ri l)

/-- The minima of a carry. -/
abbrev cM (c : Carry F) : Fin 8 → FVec F S16 .f32 :=
  ![c.1, c.2.1, c.2.2.1, c.2.2.2.1, c.2.2.2.2.1, c.2.2.2.2.2.1, c.2.2.2.2.2.2.1, c.2.2.2.2.2.2.2.1]

/-- The indices of a carry. -/
abbrev cI (c : Carry F) : Fin 8 → IVec S16 32 :=
  ![c.2.2.2.2.2.2.2.2.1, c.2.2.2.2.2.2.2.2.2.1, c.2.2.2.2.2.2.2.2.2.2.1, c.2.2.2.2.2.2.2.2.2.2.2.1, c.2.2.2.2.2.2.2.2.2.2.2.2.1,
    c.2.2.2.2.2.2.2.2.2.2.2.2.2.1, c.2.2.2.2.2.2.2.2.2.2.2.2.2.2.1, c.2.2.2.2.2.2.2.2.2.2.2.2.2.2.2]

/-- One trip of a scan: two chunks of sixteen points against the eight queries. -/
def trip (arg7 arg8 arg9 arg13 : Memref sig .scVector .vmem S4096 .f32) (v6 : IVec S16 32)
    (bx by' bz : Fin 8 → FVec F S16 .f32) {core sub} (k : Fin k0_t2_loop.trips) (c : Carry F) :
    Prog (TpuEff nD τ sig (Elt F) Λ₀ (.scVector core sub)) (Carry F) := do
  let x ← ldc arg7 k 0
  let y ← ldc arg8 k 0
  let z ← ldc arg9 k 0
  let m ← ldc arg13 k 0
  let _ ← ldc arg13 k 0
  stc arg13 k 0 (cm8 bx by' bz x y z m)
  let x' ← ldc arg7 k 1
  let y' ← ldc arg8 k 1
  let z' ← ldc arg9 k 1
  let m' ← ldc arg13 k 1
  let _ ← ldc arg13 k 1
  stc arg13 k 1 (cm8 bx by' bz x' y' z' m')
  pure (tup (rmC bx by' bz x' y' z' (rmC bx by' bz x y z (cM c)))
    (riC bx by' bz x' y' z' (jvec v6 k 16#32) (rmC bx by' bz x y z (cM c))
      (riC bx by' bz x y z (jvec v6 k 0#32) (cM c) (cI c))))

/-- The least of sixteen lanes, lane after lane. -/
def laneMin (v : FVec F S16 .f32) : F .f32 :=
  Scalar.minimumf (Scalar.minimumf (Scalar.minimumf (Scalar.minimumf (Scalar.minimumf (Scalar.minimumf (Scalar.minimumf
  (Scalar.minimumf (Scalar.minimumf (Scalar.minimumf (Scalar.minimumf (Scalar.minimumf (Scalar.minimumf (Scalar.minimumf
  (Scalar.minimumf (lane 0 v) (lane 1 v)) (lane 2 v)) (lane 3 v)) (lane 4 v)) (lane 5 v)) (lane 6 v)) (lane 7 v)) (lane 8 v))
  (lane 9 v)) (lane 10 v)) (lane 11 v)) (lane 12 v)) (lane 13 v)) (lane 14 v)) (lane 15 v)

/-- The least index whose lane holds the least value. -/
def laneArg (rm : FVec F S16 .f32) (ri : IVec S16 32) : BitVec 32 :=
  extractAt ![15] (xori (scan .min (xori (select (cmpf .oeq rm (broadcast S16 (laneMin rm))) ri (broadcast S16 4096#32))
    (broadcast S16 2147483648#32))) (broadcast S16 2147483648#32)) inpos_S16_p15

/-- Putting one scalar into one lane. -/
def putM (v6 : IVec S16 32) (l : BitVec 32) (m : F .f32) (acc : FVec F S16 .f32) : FVec F S16 .f32 :=
  select (cmpi .eq v6 (broadcast S16 l)) (broadcast S16 m) acc

/-- Putting one index into one lane. -/
def putI (v6 : IVec S16 32) (l : BitVec 32) (m : BitVec 32) (acc : IVec S16 32) : IVec S16 32 :=
  select (cmpi .eq v6 (broadcast S16 l)) (broadcast S16 m) acc

/-- The minima of eight queries put into their lanes. -/
def accM (v6 : IVec S16 32) (hi : Bool) (rm : Fin 8 → FVec F S16 .f32) (acc : FVec F S16 .f32) : FVec F S16 .f32 :=
  putM v6 (BitVec.ofNat 32 (ln hi 7)) (laneMin (rm 7)) (putM v6 (BitVec.ofNat 32 (ln hi 6)) (laneMin (rm 6))
  (putM v6 (BitVec.ofNat 32 (ln hi 5)) (laneMin (rm 5)) (putM v6 (BitVec.ofNat 32 (ln hi 4)) (laneMin (rm 4))
  (putM v6 (BitVec.ofNat 32 (ln hi 3)) (laneMin (rm 3)) (putM v6 (BitVec.ofNat 32 (ln hi 2)) (laneMin (rm 2))
  (putM v6 (BitVec.ofNat 32 (ln hi 1)) (laneMin (rm 1)) (putM v6 (BitVec.ofNat 32 (ln hi 0)) (laneMin (rm 0)) acc)))))))

/-- The indices of eight queries put into their lanes. -/
def accI (v6 : IVec S16 32) (hi : Bool) (rm : Fin 8 → FVec F S16 .f32) (ri : Fin 8 → IVec S16 32) (acc : IVec S16 32) :
    IVec S16 32 :=
  putI v6 (BitVec.ofNat 32 (ln hi 7)) (laneArg (rm 7) (ri 7)) (putI v6 (BitVec.ofNat 32 (ln hi 6)) (laneArg (rm 6) (ri 6))
  (putI v6 (BitVec.ofNat 32 (ln hi 5)) (laneArg (rm 5) (ri 5)) (putI v6 (BitVec.ofNat 32 (ln hi 4)) (laneArg (rm 4) (ri 4))
  (putI v6 (BitVec.ofNat 32 (ln hi 3)) (laneArg (rm 3) (ri 3)) (putI v6 (BitVec.ofNat 32 (ln hi 2)) (laneArg (rm 2) (ri 2))
  (putI v6 (BitVec.ofNat 32 (ln hi 1)) (laneArg (rm 1) (ri 1)) (putI v6 (BitVec.ofNat 32 (ln hi 0)) (laneArg (rm 0) (ri 0)) acc)))))))

/-- The lane numbers. -/
abbrev io : IVec S16 32 := iota .scVector S16 32 [0] iota_S16_d0_w32_scVector

/-- The carry a scan starts from. -/
abbrev carry0 : Carry F := tup (fun _ => broadcast S16 bigW) (fun _ => broadcast S16 0#32)

/-- Loading sixteen queries. -/
abbrev ldq (arg : Memref sig .scVector .vmem S32 .f32) (o : ℕ) (h : ∀ a, (![o] : Fin 1 → ℕ) a + S16.size a ≤ S32.size a) {core sub} :
    Prog (TpuEff nD τ sig (Elt F) Λ₀ (.scVector core sub)) (Vec F S16 .f32) :=
  Prog.lift (.load arg (Rect.unit (s := S32) ![o] S16.size h).toLoadRect (View.loadsAt_vmem h_S16))

/-- Storing sixteen minima. -/
abbrev stq (arg : Memref sig .scVector .vmem S32 .f32) (o : ℕ) (h : ∀ a, (![o] : Fin 1 → ℕ) a + S16.size a ≤ S32.size a)
    (v : FVec F S16 .f32) {core sub} :
    Prog (TpuEff nD τ sig (Elt F) Λ₀ (.scVector core sub)) PUnit := do
  let _ ← ldq arg o h
  Prog.lift (.store arg (Rect.unit (s := S32) ![o] S16.size h) v Finset.univ (View.stores_vmem_bits_univ h_S16 rfl) (.inl rfl))

/-- Storing sixteen indices. -/
abbrev sti (arg : Memref sig .scVector .vmem S32 .i32) (o : ℕ) (h : ∀ a, (![o] : Fin 1 → ℕ) a + S16.size a ≤ S32.size a)
    (v : IVec S16 32) {core sub} :
    Prog (TpuEff nD τ sig (Elt F) Λ₀ (.scVector core sub)) PUnit := do
  let _ : Vec F S16 .i32 ← Prog.lift (.load arg (Rect.unit (s := S32) ![o] S16.size h).toLoadRect (View.loadsAt_vmem h_S16))
  Prog.lift (.store arg (Rect.unit (s := S32) ![o] S16.size h) v Finset.univ (View.stores_vmem_bits_univ h_S16 rfl) (.inl rfl))

/-- Chunk `u` of trip `k` of a buffer of 4096 numbers. -/
def chk (f : FVec F S4096 .f32) (k : Fin k0_t2_loop.trips) (u : Fin 2) : FVec F S16 .f32 :=
  View.readAt (Elt F) (Memref.whole Cert.KernelIdeal.cc0_scratch0).view (rct k u).toLoadRect f

/-- Writing chunk `u` of trip `k` of a buffer of 4096 numbers. -/
def putc (f : FVec F S4096 .f32) (k : Fin k0_t2_loop.trips) (u : Fin 2) (v : FVec F S16 .f32) : FVec F S4096 .f32 :=
  (Memref.whole Cert.KernelIdeal.cc0_scratch6).view.writes (Elt F) f [⟨rct k u, v⟩]

/-- The column minima after one chunk. -/
def cmU (bx by' bz : Fin 8 → FVec F S16 .f32) (fx fy fz : FVec F S4096 .f32) (k : Fin k0_t2_loop.trips) (u : Fin 2)
    (fm : FVec F S4096 .f32) : FVec F S4096 .f32 :=
  putc fm k u (cm8 bx by' bz (chk fx k u) (chk fy k u) (chk fz k u) (chk fm k u))

/-- The carry after one trip. -/
def stepC (v6 : IVec S16 32) (bx by' bz : Fin 8 → FVec F S16 .f32) (fx fy fz : FVec F S4096 .f32) (k : Fin k0_t2_loop.trips)
    (c : Carry F) : Carry F :=
  tup (rmC bx by' bz (chk fx k 1) (chk fy k 1) (chk fz k 1) (rmC bx by' bz (chk fx k 0) (chk fy k 0) (chk fz k 0) (cM c)))
    (riC bx by' bz (chk fx k 1) (chk fy k 1) (chk fz k 1) (jvec v6 k 16#32)
      (rmC bx by' bz (chk fx k 0) (chk fy k 0) (chk fz k 0) (cM c))
      (riC bx by' bz (chk fx k 0) (chk fy k 0) (chk fz k 0) (jvec v6 k 0#32) (cM c) (cI c)))

/-- The column minima after one trip. -/
def stepM (bx by' bz : Fin 8 → FVec F S16 .f32) (fx fy fz : FVec F S4096 .f32) (k : Fin k0_t2_loop.trips)
    (fm : FVec F S4096 .f32) : FVec F S4096 .f32 :=
  cmU bx by' bz fx fy fz k 1 (cmU bx by' bz fx fy fz k 0 fm)

/-- The carry after `n` trips. -/
def scanC (v6 : IVec S16 32) (bx by' bz : Fin 8 → FVec F S16 .f32) (fx fy fz : FVec F S4096 .f32) : ℕ → Carry F
  | 0 => carry0
  | n + 1 => if h : n < k0_t2_loop.trips then stepC v6 bx by' bz fx fy fz ⟨n, h⟩ (scanC v6 bx by' bz fx fy fz n)
      else scanC v6 bx by' bz fx fy fz n

/-- The column minima after `n` trips. -/
def scanM (bx by' bz : Fin 8 → FVec F S16 .f32) (fx fy fz fm : FVec F S4096 .f32) : ℕ → FVec F S4096 .f32
  | 0 => fm
  | n + 1 => if h : n < k0_t2_loop.trips then stepM bx by' bz fx fy fz ⟨n, h⟩ (scanM bx by' bz fx fy fz fm n)
      else scanM bx by' bz fx fy fz fm n

/-- Chunk `k` of the first loop. -/
abbrev rct1 (k : Fin k0_t1_loop.trips) : Rect S4096 :=
  Rect.unit (s := S4096) (k0_off3 k) S16.size (k0_off3_inb k)

/-- The column minima after `n` trips of the first loop. -/
def fillM (f : FVec F S4096 .f32) : ℕ → FVec F S4096 .f32
  | 0 => f
  | n + 1 => if h : n < k0_t1_loop.trips then
      (Memref.whole Cert.KernelIdeal.cc0_scratch6).view.writes (Elt F) (fillM f n) [⟨rct1 ⟨n, h⟩, k0_pay221⟩]
      else fillM f n

end Cert.KernelIdeal.KI
-- ==== Proof.KI.Bodies.lean ====
module

public import proofs.«01_k».proof.Proof.KI.Spec

@[expose] public section

noncomputable section

namespace Cert.KernelIdeal.KI

open Idealize.ShloMosaic Idealize.SL.Sem Cert.KernelIdeal Cert.KernelIdeal.Gen

variable {F : FTy → Type} [FloatOps F] [Named F]

set_option maxRecDepth 65536 in
/-- The body of scan 1 is one trip. -/
theorem t2_eq (i : grid0.Coords) (arg2 : Memref sig .scVector .hbm S24576 .f32) (harg2 : arg2.IsWhole) (arg3 : Memref sig .scVector .hbm S1024 .f32) (harg3 : arg3.IsWhole) (arg4 : Memref sig .scVector .hbm S1024 .i32) (harg4 : arg4.IsWhole) (arg5 : Memref sig .scVector .hbm S131072 .f32) (harg5 : arg5.IsWhole) (arg6 : Memref sig .scVector .hbm S512 .f32) (harg6 : arg6.IsWhole) (arg7 : Memref sig .scVector .vmem S4096 .f32) (harg7 : arg7.IsWhole) (arg8 : Memref sig .scVector .vmem S4096 .f32) (harg8 : arg8.IsWhole) (arg9 : Memref sig .scVector .vmem S4096 .f32) (harg9 : arg9.IsWhole) (arg10 : Memref sig .scVector .vmem S32 .f32) (harg10 : arg10.IsWhole) (arg11 : Memref sig .scVector .vmem S32 .f32) (harg11 : arg11.IsWhole) (arg12 : Memref sig .scVector .vmem S32 .f32) (harg12 : arg12.IsWhole) (arg13 : Memref sig .scVector .vmem S4096 .f32) (harg13 : arg13.IsWhole) (arg14 : Memref sig .scVector .vmem S32 .f32) (harg14 : arg14.IsWhole) (arg15 : Memref sig .scVector .vmem S32 .i32) (harg15 : arg15.IsWhole) (arg16 : Memref sig .scVector .vmem S16 .f32) (harg16 : arg16.IsWhole) (v2413_r0 : DmaSems sig S_) (v2413_r1 : DmaSems sig S_) (v2413_r2 : DmaSems sig S_) (v2413_r3 : DmaSems sig S_) (v2413_r4 : DmaSems sig S_) (v2413_r5 : DmaSems sig S_) (v2413_r6 : DmaSems sig S_) (v2413_r7 : DmaSems sig S_) (v2413_r8 : DmaSems sig S_) (v2413_r9 : DmaSems sig S_)  (v6 : IVec S16 32) (v11 v12 v13 : FVec F S16 .f32) (v86 : FVec F S16 .f32) (v87 : FVec F S16 .f32) (v88 : FVec F S16 .f32) (v89 : FVec F S16 .f32) (v90 : FVec F S16 .f32) (v91 : FVec F S16 .f32) (v92 : FVec F S16 .f32) (v93 : FVec F S16 .f32) (v94 : IVec S16 32) (v95 : IVec S16 32) (v96 : IVec S16 32) (v97 : IVec S16 32) (v98 : IVec S16 32) (v99 : IVec S16 32) (c0_i32_19 : BitVec 32) :
    k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 v2413_r0 v2413_r1 v2413_r2 v2413_r3 v2413_r4 v2413_r5 v2413_r6 v2413_r7 v2413_r8 v2413_r9 v6 (spl 0 v11) (spl 0 v12) (spl 0 v13) (spl 1 v11) (spl 1 v12) (spl 1 v13) (spl 2 v11) (spl 2 v12) (spl 2 v13) (spl 3 v11) (spl 3 v12) (spl 3 v13) (spl 4 v11) (spl 4 v12) (spl 4 v13) (spl 5 v11) (spl 5 v12) (spl 5 v13) (spl 6 v11) (spl 6 v12) (spl 6 v13) (spl 7 v11) (spl 7 v12) (spl 7 v13) v86 v87 v88 v89 v90 v91 v92 v93 v94 v95 v96 v97 v98 v99 c0_i32_19 = trip arg7 arg8 arg9 arg13 v6 (bqs false v11) (bqs false v12) (bqs false v13) := by
  funext k c
  obtain ⟨c0, c1, c2, c3, c4, c5, c6, c7, c8, c9, c10, c11, c12, c13, c14, c15⟩ := c
  rfl

set_option maxRecDepth 65536 in
/-- The body of scan 2 is one trip. -/
theorem t3_eq (i : grid0.Coords) (arg2 : Memref sig .scVector .hbm S24576 .f32) (harg2 : arg2.IsWhole) (arg3 : Memref sig .scVector .hbm S1024 .f32) (harg3 : arg3.IsWhole) (arg4 : Memref sig .scVector .hbm S1024 .i32) (harg4 : arg4.IsWhole) (arg5 : Memref sig .scVector .hbm S131072 .f32) (harg5 : arg5.IsWhole) (arg6 : Memref sig .scVector .hbm S512 .f32) (harg6 : arg6.IsWhole) (arg7 : Memref sig .scVector .vmem S4096 .f32) (harg7 : arg7.IsWhole) (arg8 : Memref sig .scVector .vmem S4096 .f32) (harg8 : arg8.IsWhole) (arg9 : Memref sig .scVector .vmem S4096 .f32) (harg9 : arg9.IsWhole) (arg10 : Memref sig .scVector .vmem S32 .f32) (harg10 : arg10.IsWhole) (arg11 : Memref sig .scVector .vmem S32 .f32) (harg11 : arg11.IsWhole) (arg12 : Memref sig .scVector .vmem S32 .f32) (harg12 : arg12.IsWhole) (arg13 : Memref sig .scVector .vmem S4096 .f32) (harg13 : arg13.IsWhole) (arg14 : Memref sig .scVector .vmem S32 .f32) (harg14 : arg14.IsWhole) (arg15 : Memref sig .scVector .vmem S32 .i32) (harg15 : arg15.IsWhole) (arg16 : Memref sig .scVector .vmem S16 .f32) (harg16 : arg16.IsWhole) (v2413_r0 : DmaSems sig S_) (v2413_r1 : DmaSems sig S_) (v2413_r2 : DmaSems sig S_) (v2413_r3 : DmaSems sig S_) (v2413_r4 : DmaSems sig S_) (v2413_r5 : DmaSems sig S_) (v2413_r6 : DmaSems sig S_) (v2413_r7 : DmaSems sig S_) (v2413_r8 : DmaSems sig S_) (v2413_r9 : DmaSems sig S_)  (v6 : IVec S16 32) (v608 v609 v610 : FVec F S16 .f32)  :
    k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 v2413_r0 v2413_r1 v2413_r2 v2413_r3 v2413_r4 v2413_r5 v2413_r6 v2413_r7 v2413_r8 v2413_r9 v6 v608 v609 v610 (spl 8 v608) (spl 8 v609) (spl 8 v610) (spl 9 v608) (spl 9 v609) (spl 9 v610) (spl 10 v608) (spl 10 v609) (spl 10 v610) (spl 11 v608) (spl 11 v609) (spl 11 v610) (spl 12 v608) (spl 12 v609) (spl 12 v610) (spl 13 v608) (extractStridedSlice S1 ![13] v609 slices_S16_o13_S1) = trip arg7 arg8 arg9 arg13 v6 (bqs true v608) (bqs true v609) (bqs true v610) := by
  funext k c
  obtain ⟨c0, c1, c2, c3, c4, c5, c6, c7, c8, c9, c10, c11, c12, c13, c14, c15⟩ := c
  rfl

set_option maxRecDepth 65536 in
/-- The body of scan 3 is one trip. -/
theorem t4_eq (i : grid0.Coords) (arg2 : Memref sig .scVector .hbm S24576 .f32) (harg2 : arg2.IsWhole) (arg3 : Memref sig .scVector .hbm S1024 .f32) (harg3 : arg3.IsWhole) (arg4 : Memref sig .scVector .hbm S1024 .i32) (harg4 : arg4.IsWhole) (arg5 : Memref sig .scVector .hbm S131072 .f32) (harg5 : arg5.IsWhole) (arg6 : Memref sig .scVector .hbm S512 .f32) (harg6 : arg6.IsWhole) (arg7 : Memref sig .scVector .vmem S4096 .f32) (harg7 : arg7.IsWhole) (arg8 : Memref sig .scVector .vmem S4096 .f32) (harg8 : arg8.IsWhole) (arg9 : Memref sig .scVector .vmem S4096 .f32) (harg9 : arg9.IsWhole) (arg10 : Memref sig .scVector .vmem S32 .f32) (harg10 : arg10.IsWhole) (arg11 : Memref sig .scVector .vmem S32 .f32) (harg11 : arg11.IsWhole) (arg12 : Memref sig .scVector .vmem S32 .f32) (harg12 : arg12.IsWhole) (arg13 : Memref sig .scVector .vmem S4096 .f32) (harg13 : arg13.IsWhole) (arg14 : Memref sig .scVector .vmem S32 .f32) (harg14 : arg14.IsWhole) (arg15 : Memref sig .scVector .vmem S32 .i32) (harg15 : arg15.IsWhole) (arg16 : Memref sig .scVector .vmem S16 .f32) (harg16 : arg16.IsWhole) (v2413_r0 : DmaSems sig S_) (v2413_r1 : DmaSems sig S_) (v2413_r2 : DmaSems sig S_) (v2413_r3 : DmaSems sig S_) (v2413_r4 : DmaSems sig S_) (v2413_r5 : DmaSems sig S_) (v2413_r6 : DmaSems sig S_) (v2413_r7 : DmaSems sig S_) (v2413_r8 : DmaSems sig S_) (v2413_r9 : DmaSems sig S_)  (v6 : IVec S16 32) (v1207 v1208 v1209 : FVec F S16 .f32)  :
    k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 v2413_r0 v2413_r1 v2413_r2 v2413_r3 v2413_r4 v2413_r5 v2413_r6 v2413_r7 v2413_r8 v2413_r9 v6 v1207 v1208 v1209 (spl 0 v1207) (spl 0 v1208) (spl 0 v1209) (spl 1 v1207) (spl 1 v1208) (spl 1 v1209) (spl 2 v1207) (spl 2 v1208) (spl 2 v1209) (spl 3 v1207) (spl 3 v1208) (spl 3 v1209) (spl 4 v1207) (spl 4 v1208) (spl 4 v1209) (spl 5 v1207) (spl 5 v1208) = trip arg7 arg8 arg9 arg13 v6 (bqs false v1207) (bqs false v1208) (bqs false v1209) := by
  funext k c
  obtain ⟨c0, c1, c2, c3, c4, c5, c6, c7, c8, c9, c10, c11, c12, c13, c14, c15⟩ := c
  rfl

set_option maxRecDepth 65536 in
/-- The body of scan 4 is one trip. -/
theorem t5_eq (i : grid0.Coords) (arg2 : Memref sig .scVector .hbm S24576 .f32) (harg2 : arg2.IsWhole) (arg3 : Memref sig .scVector .hbm S1024 .f32) (harg3 : arg3.IsWhole) (arg4 : Memref sig .scVector .hbm S1024 .i32) (harg4 : arg4.IsWhole) (arg5 : Memref sig .scVector .hbm S131072 .f32) (harg5 : arg5.IsWhole) (arg6 : Memref sig .scVector .hbm S512 .f32) (harg6 : arg6.IsWhole) (arg7 : Memref sig .scVector .vmem S4096 .f32) (harg7 : arg7.IsWhole) (arg8 : Memref sig .scVector .vmem S4096 .f32) (harg8 : arg8.IsWhole) (arg9 : Memref sig .scVector .vmem S4096 .f32) (harg9 : arg9.IsWhole) (arg10 : Memref sig .scVector .vmem S32 .f32) (harg10 : arg10.IsWhole) (arg11 : Memref sig .scVector .vmem S32 .f32) (harg11 : arg11.IsWhole) (arg12 : Memref sig .scVector .vmem S32 .f32) (harg12 : arg12.IsWhole) (arg13 : Memref sig .scVector .vmem S4096 .f32) (harg13 : arg13.IsWhole) (arg14 : Memref sig .scVector .vmem S32 .f32) (harg14 : arg14.IsWhole) (arg15 : Memref sig .scVector .vmem S32 .i32) (harg15 : arg15.IsWhole) (arg16 : Memref sig .scVector .vmem S16 .f32) (harg16 : arg16.IsWhole) (v2413_r0 : DmaSems sig S_) (v2413_r1 : DmaSems sig S_) (v2413_r2 : DmaSems sig S_) (v2413_r3 : DmaSems sig S_) (v2413_r4 : DmaSems sig S_) (v2413_r5 : DmaSems sig S_) (v2413_r6 : DmaSems sig S_) (v2413_r7 : DmaSems sig S_) (v2413_r8 : DmaSems sig S_) (v2413_r9 : DmaSems sig S_)  (v6 : IVec S16 32) (v1804 v1805 v1806 : FVec F S16 .f32)  :
    k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 v2413_r0 v2413_r1 v2413_r2 v2413_r3 v2413_r4 v2413_r5 v2413_r6 v2413_r7 v2413_r8 v2413_r9 v6 v1804 v1805 v1806 (spl 8 v1804) (spl 8 v1805) (spl 8 v1806) (spl 9 v1804) (spl 9 v1805) (spl 9 v1806) (spl 10 v1804) (spl 10 v1805) (spl 10 v1806) (spl 11 v1804) (spl 11 v1805) (spl 11 v1806) (spl 12 v1804) (spl 12 v1805) (spl 12 v1806) (spl 13 v1804) (spl 13 v1805) (spl 13 v1806) (spl 14 v1804) (extractAt ![0] (extractStridedSlice S1 ![14] v1805 slices_S16_o14_S1) inpos_S1_p0) = trip arg7 arg8 arg9 arg13 v6 (bqs true v1804) (bqs true v1805) (bqs true v1806) := by
  funext k c
  obtain ⟨c0, c1, c2, c3, c4, c5, c6, c7, c8, c9, c10, c11, c12, c13, c14, c15⟩ := c
  rfl

/-- The whole task of one tile. -/
def tile (i : grid0.Coords) (arg2 : Memref sig .scVector .hbm S24576 .f32) (harg2 : arg2.IsWhole) (arg3 : Memref sig .scVector .hbm S1024 .f32) (harg3 : arg3.IsWhole) (arg4 : Memref sig .scVector .hbm S1024 .i32) (harg4 : arg4.IsWhole) (arg5 : Memref sig .scVector .hbm S131072 .f32) (harg5 : arg5.IsWhole) (arg6 : Memref sig .scVector .hbm S512 .f32) (harg6 : arg6.IsWhole) (arg7 : Memref sig .scVector .vmem S4096 .f32) (harg7 : arg7.IsWhole) (arg8 : Memref sig .scVector .vmem S4096 .f32) (harg8 : arg8.IsWhole) (arg9 : Memref sig .scVector .vmem S4096 .f32) (harg9 : arg9.IsWhole) (arg10 : Memref sig .scVector .vmem S32 .f32) (harg10 : arg10.IsWhole) (arg11 : Memref sig .scVector .vmem S32 .f32) (harg11 : arg11.IsWhole) (arg12 : Memref sig .scVector .vmem S32 .f32) (harg12 : arg12.IsWhole) (arg13 : Memref sig .scVector .vmem S4096 .f32) (harg13 : arg13.IsWhole) (arg14 : Memref sig .scVector .vmem S32 .f32) (harg14 : arg14.IsWhole) (arg15 : Memref sig .scVector .vmem S32 .i32) (harg15 : arg15.IsWhole) (arg16 : Memref sig .scVector .vmem S16 .f32) (harg16 : arg16.IsWhole) (v2413_r0 : DmaSems sig S_) (v2413_r1 : DmaSems sig S_) (v2413_r2 : DmaSems sig S_) (v2413_r3 : DmaSems sig S_) (v2413_r4 : DmaSems sig S_) (v2413_r5 : DmaSems sig S_) (v2413_r6 : DmaSems sig S_) (v2413_r7 : DmaSems sig S_) (v2413_r8 : DmaSems sig S_) (v2413_r9 : DmaSems sig S_)  :
    Prog (TpuEff nD τ sig (Elt F) Λ₀ (.scVector ((i 0).castLE hcore0) ((i 1).castLE hsub0))) PUnit := do
  Prog.lift (.enqueueDma (arg2.slice (Rect.unit (s := S24576) ![12288] S4096.size inb_S24576_S4096_12288) (fun _ => rfl) : Memref sig .scVector .hbm S4096 .f32) (.here arg7) (.dma v2413_r0.sem) (View.wordExact_bits rfl) harg7.wordExact ⟨Or.inl rfl, trivial⟩)
  Prog.lift (.waitDma2 v2413_r0.sem (arg2.slice (Rect.unit (s := S24576) ![12288] S4096.size inb_S24576_S4096_12288) (fun _ => rfl) : Memref sig .scVector .hbm S4096 .f32) arg7 (View.wordExact_bits rfl) harg7.wordExact)
  Prog.lift (.enqueueDma (arg2.slice (Rect.unit (s := S24576) ![16384] S4096.size inb_S24576_S4096_16384) (fun _ => rfl) : Memref sig .scVector .hbm S4096 .f32) (.here arg8) (.dma v2413_r1.sem) (View.wordExact_bits rfl) harg8.wordExact ⟨Or.inl rfl, trivial⟩)
  Prog.lift (.waitDma2 v2413_r1.sem (arg2.slice (Rect.unit (s := S24576) ![16384] S4096.size inb_S24576_S4096_16384) (fun _ => rfl) : Memref sig .scVector .hbm S4096 .f32) arg8 (View.wordExact_bits rfl) harg8.wordExact)
  Prog.lift (.enqueueDma (arg2.slice (Rect.unit (s := S24576) ![20480] S4096.size inb_S24576_S4096_20480) (fun _ => rfl) : Memref sig .scVector .hbm S4096 .f32) (.here arg9) (.dma v2413_r2.sem) (View.wordExact_bits rfl) harg9.wordExact ⟨Or.inl rfl, trivial⟩)
  Prog.lift (.waitDma2 v2413_r2.sem (arg2.slice (Rect.unit (s := S24576) ![20480] S4096.size inb_S24576_S4096_20480) (fun _ => rfl) : Memref sig .scVector .hbm S4096 .f32) arg9 (View.wordExact_bits rfl) harg9.wordExact)
  Prog.lift (.enqueueDma (arg2.slice (Rect.unit (s := S24576) (k0_off1 i) S32.size (k0_off1_inb i)) (fun _ => rfl) : Memref sig .scVector .hbm S32 .f32) (.here arg10) (.dma v2413_r3.sem) (View.wordExact_bits rfl) harg10.wordExact ⟨Or.inl rfl, trivial⟩)
  Prog.lift (.waitDma2 v2413_r3.sem (arg2.slice (Rect.unit (s := S24576) (k0_off1 i) S32.size (k0_off1_inb i)) (fun _ => rfl) : Memref sig .scVector .hbm S32 .f32) arg10 (View.wordExact_bits rfl) harg10.wordExact)
  Prog.lift (.enqueueDma (arg2.slice (Rect.unit (s := S24576) (k0_off2 i 4096#32) S32.size (k0_off2_inb i 0)) (fun _ => rfl) : Memref sig .scVector .hbm S32 .f32) (.here arg11) (.dma v2413_r4.sem) (View.wordExact_bits rfl) harg11.wordExact ⟨Or.inl rfl, trivial⟩)
  Prog.lift (.waitDma2 v2413_r4.sem (arg2.slice (Rect.unit (s := S24576) (k0_off2 i 4096#32) S32.size (k0_off2_inb i 0)) (fun _ => rfl) : Memref sig .scVector .hbm S32 .f32) arg11 (View.wordExact_bits rfl) harg11.wordExact)
  Prog.lift (.enqueueDma (arg2.slice (Rect.unit (s := S24576) (k0_off2 i 8192#32) S32.size (k0_off2_inb i 1)) (fun _ => rfl) : Memref sig .scVector .hbm S32 .f32) (.here arg12) (.dma v2413_r5.sem) (View.wordExact_bits rfl) harg12.wordExact ⟨Or.inl rfl, trivial⟩)
  Prog.lift (.waitDma2 v2413_r5.sem (arg2.slice (Rect.unit (s := S24576) (k0_off2 i 8192#32) S32.size (k0_off2_inb i 1)) (fun _ => rfl) : Memref sig .scVector .hbm S32 .f32) arg12 (View.wordExact_bits rfl) harg12.wordExact)
  let _ ← Scf.Loop.for k0_t1_loop k0_t1_ok 0#32 (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v2413_r0 v2413_r1 v2413_r2 v2413_r3 v2413_r4 v2413_r5 v2413_r6 v2413_r7 v2413_r8 v2413_r9)
  let x0 ← ldq arg10 0 inb_S32_S16_0
  let y0 ← ldq arg11 0 inb_S32_S16_0
  let z0 ← ldq arg12 0 inb_S32_S16_0
  let c0 ← Scf.Loop.for k0_t2_loop k0_t2_ok (carry0 (F := F)) (trip arg7 arg8 arg9 arg13 io (bqs false x0) (bqs false y0) (bqs false z0))
  let x1 ← ldq arg10 0 inb_S32_S16_0
  let y1 ← ldq arg11 0 inb_S32_S16_0
  let z1 ← ldq arg12 0 inb_S32_S16_0
  let c1 ← Scf.Loop.for k0_t2_loop k0_t2_ok (carry0 (F := F)) (trip arg7 arg8 arg9 arg13 io (bqs true x1) (bqs true y1) (bqs true z1))
  stq arg14 0 inb_S32_S16_0 (accM io true (cM c1) (accM io false (cM c0) (broadcast S16 (Scalar.ofBits .f32 0x00000000#32))))
  sti arg15 0 inb_S32_S16_0 (accI io true (cM c1) (cI c1) (accI io false (cM c0) (cI c0) (broadcast S16 0#32)))
  let x2 ← ldq arg10 16 inb_S32_S16_16
  let y2 ← ldq arg11 16 inb_S32_S16_16
  let z2 ← ldq arg12 16 inb_S32_S16_16
  let c2 ← Scf.Loop.for k0_t2_loop k0_t2_ok (carry0 (F := F)) (trip arg7 arg8 arg9 arg13 io (bqs false x2) (bqs false y2) (bqs false z2))
  let x3 ← ldq arg10 16 inb_S32_S16_16
  let y3 ← ldq arg11 16 inb_S32_S16_16
  let z3 ← ldq arg12 16 inb_S32_S16_16
  let c3 ← Scf.Loop.for k0_t2_loop k0_t2_ok (carry0 (F := F)) (trip arg7 arg8 arg9 arg13 io (bqs true x3) (bqs true y3) (bqs true z3))
  stq arg14 16 inb_S32_S16_16 (accM io true (cM c3) (accM io false (cM c2) (accM io true (cM c1) (accM io false (cM c0) (broadcast S16 (Scalar.ofBits .f32 0x00000000#32))))))
  sti arg15 16 inb_S32_S16_16 (accI io true (cM c3) (cI c3) (accI io false (cM c2) (cI c2) (accI io true (cM c1) (cI c1) (accI io false (cM c0) (cI c0) (broadcast S16 0#32)))))
  let a0 ← ldq arg14 0 inb_S32_S16_0
  let a1 ← ldq arg14 16 inb_S32_S16_16
  let _ : Vec F S16 .f32 ← Prog.lift (.load arg16 (Rect.unit (s := S16) ![0] S16.size inb_S16_S16_0).toLoadRect (View.loadsAt_vmem h_S16))
  Prog.lift (.store arg16 (Rect.unit (s := S16) ![0] S16.size inb_S16_S16_0) (addf (addf (broadcast S16 (Scalar.ofBits .f32 0x00000000#32)) a0) a1 : FVec F S16 .f32) Finset.univ (View.stores_vmem_bits_univ h_S16 rfl) (.inl rfl))
  Prog.lift (.enqueueDma arg14 (.here (arg3.slice (Rect.unit (s := S1024) (k0_off8 i) S32.size (k0_off8_inb i)) (fun _ => rfl) : Memref sig .scVector .hbm S32 .f32)) (.dma v2413_r6.sem) harg14.wordExact (View.wordExact_bits rfl) ⟨Or.inl rfl, trivial⟩)
  Prog.lift (.waitDma2 v2413_r6.sem arg14 (arg3.slice (Rect.unit (s := S1024) (k0_off8 i) S32.size (k0_off8_inb i)) (fun _ => rfl) : Memref sig .scVector .hbm S32 .f32) harg14.wordExact (View.wordExact_bits rfl))
  Prog.lift (.enqueueDma arg15 (.here (arg4.slice (Rect.unit (s := S1024) (k0_off8 i) S32.size (k0_off8_inb i)) (fun _ => rfl) : Memref sig .scVector .hbm S32 .i32)) (.dma v2413_r7.sem) harg15.wordExact (View.wordExact_bits rfl) ⟨Or.inl rfl, trivial⟩)
  Prog.lift (.waitDma2 v2413_r7.sem arg15 (arg4.slice (Rect.unit (s := S1024) (k0_off8 i) S32.size (k0_off8_inb i)) (fun _ => rfl) : Memref sig .scVector .hbm S32 .i32) harg15.wordExact (View.wordExact_bits rfl))
  Prog.lift (.enqueueDma arg13 (.here (arg5.slice (Rect.unit (s := S131072) (k0_off9 i) S4096.size (k0_off9_inb i)) (fun _ => rfl) : Memref sig .scVector .hbm S4096 .f32)) (.dma v2413_r8.sem) harg13.wordExact (View.wordExact_bits rfl) ⟨Or.inl rfl, trivial⟩)
  Prog.lift (.waitDma2 v2413_r8.sem arg13 (arg5.slice (Rect.unit (s := S131072) (k0_off9 i) S4096.size (k0_off9_inb i)) (fun _ => rfl) : Memref sig .scVector .hbm S4096 .f32) harg13.wordExact (View.wordExact_bits rfl))
  Prog.lift (.enqueueDma arg16 (.here (arg6.slice (Rect.unit (s := S512) (k0_off10 i) S16.size (k0_off10_inb i)) (fun _ => rfl) : Memref sig .scVector .hbm S16 .f32)) (.dma v2413_r9.sem) harg16.wordExact (View.wordExact_bits rfl) ⟨Or.inl rfl, trivial⟩)
  Prog.lift (.waitDma2 v2413_r9.sem arg16 (arg6.slice (Rect.unit (s := S512) (k0_off10 i) S16.size (k0_off10_inb i)) (fun _ => rfl) : Memref sig .scVector .hbm S16 .f32) harg16.wordExact (View.wordExact_bits rfl))
  pure ⟨⟩

set_option maxRecDepth 65536 in
set_option maxHeartbeats 4000000 in
/-- The printed body is the task above. -/
theorem body_eq (i : grid0.Coords) (arg2 : Memref sig .scVector .hbm S24576 .f32) (harg2 : arg2.IsWhole) (arg3 : Memref sig .scVector .hbm S1024 .f32) (harg3 : arg3.IsWhole) (arg4 : Memref sig .scVector .hbm S1024 .i32) (harg4 : arg4.IsWhole) (arg5 : Memref sig .scVector .hbm S131072 .f32) (harg5 : arg5.IsWhole) (arg6 : Memref sig .scVector .hbm S512 .f32) (harg6 : arg6.IsWhole) (arg7 : Memref sig .scVector .vmem S4096 .f32) (harg7 : arg7.IsWhole) (arg8 : Memref sig .scVector .vmem S4096 .f32) (harg8 : arg8.IsWhole) (arg9 : Memref sig .scVector .vmem S4096 .f32) (harg9 : arg9.IsWhole) (arg10 : Memref sig .scVector .vmem S32 .f32) (harg10 : arg10.IsWhole) (arg11 : Memref sig .scVector .vmem S32 .f32) (harg11 : arg11.IsWhole) (arg12 : Memref sig .scVector .vmem S32 .f32) (harg12 : arg12.IsWhole) (arg13 : Memref sig .scVector .vmem S4096 .f32) (harg13 : arg13.IsWhole) (arg14 : Memref sig .scVector .vmem S32 .f32) (harg14 : arg14.IsWhole) (arg15 : Memref sig .scVector .vmem S32 .i32) (harg15 : arg15.IsWhole) (arg16 : Memref sig .scVector .vmem S16 .f32) (harg16 : arg16.IsWhole) (v2413_r0 : DmaSems sig S_) (v2413_r1 : DmaSems sig S_) (v2413_r2 : DmaSems sig S_) (v2413_r3 : DmaSems sig S_) (v2413_r4 : DmaSems sig S_) (v2413_r5 : DmaSems sig S_) (v2413_r6 : DmaSems sig S_) (v2413_r7 : DmaSems sig S_) (v2413_r8 : DmaSems sig S_) (v2413_r9 : DmaSems sig S_)  : cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v2413_r0 v2413_r1 v2413_r2 v2413_r3 v2413_r4 v2413_r5 v2413_r6 v2413_r7 v2413_r8 v2413_r9 = tile (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v2413_r0 v2413_r1 v2413_r2 v2413_r3 v2413_r4 v2413_r5 v2413_r6 v2413_r7 v2413_r8 v2413_r9 := by
  simp only [cc0__sc_body_eq_skeleton, cc0__sc_body_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, pure_bind, bind_assoc]
  rfl

end Cert.KernelIdeal.KI
-- ==== Proof.KI.Common.lean ====
module

public import proofs.«01_k».proof.Defs
public import proofs.«01_k».proof.Proof.KI.Bodies
public import proofs.«01_k».proof.Proof.Gen.KernelIdeal.Launch
public import proofs.«01_k».proof.Proof.Gen.KernelIdeal.Points
public import proofs.«01_k».proof.Proof.Gen.KernelIdeal.Regions
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! # The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the copies' counters -/

abbrev UH : Type := URounds (GSem nD τ sig) ℕ
abbrev UP : Type := URounds (GSem nD τ sig) Unit
abbrev UU : Type := UH × (UP × Counters)

/-- The machine's algebra of this proof. -/
abbrev MM (F : FTy → Type) : Type := MT nD τ sig (HIx 1) (Elt F) ℕ UU ℕ

abbrev EH : Emb UH (MM F) := embL
abbrev EP : Emb UP (MM F) := (Emb.inl : Emb UP (UP × Counters)).trans embR

/-! ## The arrays the tiles work on -/

abbrev wpLoc (d : Dev nD) : Loc nD τ sig := (SparseCore.T d).loc main_v12
abbrev chLoc (d : Dev nD) : Loc nD τ sig := (SparseCore.T d).loc main_v13_0
abbrev ixLoc (d : Dev nD) : Loc nD τ sig := (SparseCore.T d).loc main_v13_1
abbrev coLoc (d : Dev nD) : Loc nD τ sig := (SparseCore.T d).loc main_v13_2
abbrev suLoc (d : Dev nD) : Loc nD τ sig := (SparseCore.T d).loc main_v13_3

end Cert.KernelIdeal.KI
-- ==== Proof.KI.Reg.lean ====
module

public import proofs.«01_k».proof.Proof.KI.Common
public import Idealize.ShloMosaic.Lib.Pipeline.RegionArraysS

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! # A TensorCore region inside a SparseCore program's host function

The region is entered from a set of buffers held at a valuation and what the core owes, none of it left after the call,
with what its waits recorded bounded by the level of the call, and it leaves the same with its results written. -/

abbrev adm : (p : Fin 2) → (pcfgs (F := F) p).Adm := fun p => (cfgs p).toPCfg_adm

/-- The waits a TensorCore may have recorded after the call. -/
def recBound (F : FTy → Type) [FloatOps F] [Named F] (d : Dev nD) : Set (SemLoc sig × HIx 1) := {p | (K (F := F)).lev ((T d : Thread nD τ), p.1) p.2 ≤ 8}

/-- What a TensorCore owes after the call: nothing, its waits recorded within the bound. -/
def owesDone (d : Dev nD) : sProp 𝕄 :=
  iprop(∃ W, ⌜(K (F := F)).WBelow (T d) W 8⌝ ∗ owes (T d) (0 : CellTallies nD τ sig (HIx 1)) W)

variable (pdats : (p : Fin 2) → (c : Dev nD) → Pipeline.Dat τ (Elt F) (HIx 1) ℕ UU ℕ (Pipeline.pin (pcfgs (F := F)) adm p) c)
variable (L : GSem nD τ sig → Finset (HIx 1)) (lv : GSem nD τ sig → HIx 1 → ℕ) (p : Fin 2)

omit [Named F] [FloatOps F] in
theorem bound_le [FloatOps F] [Named F] (c : Dev nD) (t) (hrec : (pdats p c).recorded t = recBound F c) (x : SemLoc sig × HIx 1) :
    x ∈ (pdats p c).bound (none : HIx 1) t → (K (F := F)).lev ((T c : Thread nD τ), x.1) x.2 ≤ 8 := by
  unfold Pipeline.Dat.bound
  rw [hrec]
  rintro (h | ⟨w, s, h⟩)
  · exact h
  · subst h; exact Nat.zero_le _

/-- The region's record. -/
def mkReg (S : Finset (DevRef τ sig)) (hS : Pipeline.arrRefs (pcfgs (F := F) p).spec ⊆ S)
    (kit : Pipeline.PLaunchFacts (nD := nD) (τ := τ) (pcfgs (F := F)) p) (hK : (pcfgs (F := F) p).pre.K = 0)
    (hbody : ∀ c, Pipeline.BodyObligationLoose (pdats p c) (defs₀ (F := F)) 𝒱₀ (none : HIx 1) Set.univ)
    (howed : ∀ c t, (pdats p c).owed t = 0) (hrec : ∀ c t, (pdats p c).recorded t = recBound F c)
    (hshare : ∀ c w, (pdats p c).share w = fullShare)
    (hΦ : ∀ c t, (pdats p c).Φ t = Pipeline.scopedRest (Pipeline.pin (pcfgs (F := F)) adm p).spec c)
    (W : Dev nD → Valuation τ sig (Elt F))
    (hW : ∀ c w, (pdats p c).arrAt w 0 = W c (Proc.devRef .tc (Pipeline.arrRef (Pipeline.pin (pcfgs (F := F)) adm p).spec w))) :
    Pipeline.RegionSeg (pcfgs (F := F)) adm pdats (none : HIx 1) (defs₀ (F := F)) 𝒱₀ L lv p where
  win := kit.to₀.win
  block_pos := kit.block_pos
  stage_whole := kit.stage_whole
  K := PEmpty
  osem k := k.elim
  ho := Pipeline.OwnSemFacts.none _
  hbody := hbody
  hwaits := Pipeline.hwaits_of_owed_zero _ _ _ _ L lv p howed
  pre c := iprop(StableHlo.held (c.tc : Thread nD τ) S (W c) ∗ owesDone c)
  post c := iprop(StableHlo.held (c.tc : Thread nD τ) S (Pipeline.afterRegion (pdats p c) (W c)) ∗ owesDone c)
  X _ := BI.emp
  Y _ := BI.emp
  Z c := StableHlo.held (c.tc : Thread nD τ) (S \ Pipeline.arrRefs (pcfgs (F := F) p).spec) (W c)
  hentry c := by
    rw [Pipeline.ownSems0_none, Pipeline.prefHeld_of_none _ hK, StableHlo.held_sub_split (c.tc : Thread nD τ) hS (W c),
      ← Pipeline.arrays_held (pcfgs (F := F)) adm pdats p kit c (hshare c) ((pdats p c).arrAt · 0) (W c) (hW c)]
    iintro ⟨⟨⟨Ha, Hu⟩, HO⟩, -, -⟩
    imodintro
    isplitl [Ha]; · iexact Ha
    isplitr; · iempintro
    isplitl [HO]
    · unfold owesDone Pipeline.Dat.owesAt Pipeline.owesWithin Pipeline.Dat.bound
      rw [howed c 0, hrec c]
      icases HO with ⟨%Wd, %hWd, HO⟩; iexists Wd; isplitr
      · ipureintro; exact fun x hx => Or.inl (hWd x hx)
      iexact HO
    isplitr; · iempintro
    iexact Hu
  hin c := by
    rw [hΦ c]
    iintro ⟨-, -, Hr⟩; iexact Hr
  hout c := by
    rw [Pipeline.ownSems0_none, hΦ c]
    iintro Hr
    isplitr; · iempintro
    isplitr; · iempintro
    iexact Hr
  hexit c := by
    rw [Pipeline.arrays_held (pcfgs (F := F)) adm pdats p kit c (hshare c) ((pdats p c).arrAt · _) (Pipeline.afterRegion (pdats p c) (W c))
        (fun w => (Pipeline.afterRegion_arr (pdats p c) (W c) kit.win.arr_inj w).symm),
      StableHlo.held_sub_split (c.tc : Thread nD τ) hS (Pipeline.afterRegion (pdats p c) (W c)),
      StableHlo.held_congr (c.tc : Thread nD τ) (S := S \ Pipeline.arrRefs (pcfgs (F := F) p).spec) (V := Pipeline.afterRegion (pdats p c) (W c)) (V' := W c)
        (Pipeline.afterRegion_off (pdats p c) (W c) S)]
    iintro ⟨Ha, HO, -, Hu⟩
    imodintro
    isplitl [Ha Hu]
    · isplitl [Ha]; · iexact Ha
      iexact Hu
    unfold owesDone Pipeline.Dat.owesAt Pipeline.owesWithin
    rw [howed c (Fin.last _)]
    icases HO with ⟨%Wd, %hWd, HO⟩; iexists Wd; isplitr
    · ipureintro; exact fun x hx => bound_le pdats p c _ (hrec c _) x (hWd hx)
    iexact HO

end Cert.KernelIdeal.KI
-- ==== Proof.KI.TC.lean ====
module

public import proofs.«01_k».proof.Proof.KI.Common
public import Idealize.ShloMosaic.Lib.WritesUnit

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! # The two TensorCore bodies, run -/

/-- A buffer of a TensorCore's memref, and it held whole at given contents. -/
abbrev BfT (d : Dev nD) {sp : Space} {s : Shape} {e : EltTy} (M : Memref sig .tc sp s e) : Type := Buf (Elt F) (M.view.loc (d.tc : Thread nD τ))
abbrev ptT (d : Dev nD) {sp : Space} {s : Shape} {e : EltTy} (M : Memref sig .tc sp s e) (f : BfT (F := F) d M) : sProp 𝕄 :=
  M.view.loc (d.tc : Thread nD τ) ↦{fullShare} f

omit [FloatOps F] [Named F] in
/-- A load of everything reads the contents. -/
theorem readAt_all {κ : Kind} {sp : Space} {s : Shape} {e : EltTy} (v : View sig κ sp s e) {off : Fin s.rank → ℕ} (h : off = fun _ => 0)
    (inb : ∀ a, off a + s.size a ≤ s.size a) (f : v.ty.Contents (Elt F)) :
    v.readAt (Elt F) (Rect.unit (s := s) off s.size inb).toLoadRect f = v.read (Elt F) f := by
  subst h
  funext x
  rw [View.readAt_apply]
  congr 1
  funext a
  exact Fin.ext (by simp [Rect.unit, LoadRect.idx, Rect.toLoadRect, Rect.emb])

omit [FloatOps F] [Named F] in
/-- After a store of everything the contents are what was stored. -/
theorem read_store_all {κ : Kind} {sp : Space} {s : Shape} {e : EltTy} (v : View sig κ sp s e) {off : Fin s.rank → ℕ} (h : off = fun _ => 0)
    (inb : ∀ a, off a + s.size a ≤ s.size a) (f : v.ty.Contents (Elt F)) (w : s.Idx → Elt F e) (Ls : List (View.Piece (Elt F) s e)) :
    v.read (Elt F) (v.writes (Elt F) f ((⟨Rect.unit (s := s) off s.size inb, w⟩ : View.Piece (Elt F) s e) :: Ls)) = w := by
  funext y
  exact View.read_writes_cons_unit_of_mem (Val := Elt F) v f inb w Ls y y h (fun a => by simp)

theorem z2 : (![0, 0] : Fin 2 → ℕ) = fun _ => 0 := by
  funext a; match a with | 0 => rfl | 1 => rfl

/-- The body of the loss: what it leaves is `k2_pay1` of the four operands. -/
theorem loss_run (d : Dev nD) (M0 : Memref sig .tc .vmem S8x64 .f32) (h0 : M0.IsWhole) (M1 : Memref sig .tc .vmem S32x4096 .f32) (h1 : M1.IsWhole)
    (M2 : Memref sig .tc .vmem S1x4096 .f32) (h2 : M2.IsWhole) (M3 : Memref sig .tc .vmem S1x1 .f32) (h3 : M3.IsWhole) (M4 : Memref sig .tc .vmem S1x1 .f32) (h4 : M4.IsWhole)
    (f0 : BfT (F := F) d M0) (f1 : BfT (F := F) d M1) (f2 : BfT (F := F) d M2) (f3 : BfT (F := F) d M3) (f4 : BfT (F := F) d M4) (E : Set ℕ) (Q : PUnit → sProp 𝕄) :
    iprop(ptT d M0 f0 ∗ ptT d M1 f1 ∗ ptT d M2 f2 ∗ ptT d M3 f3 ∗ ptT d M4 f4 ∗
      ((ptT d M0 f0 ∗ ptT d M1 f1 ∗ ptT d M2 f2 ∗ ptT d M3 f3 ∗
        (∃ W : BfT (F := F) d M4, ⌜M4.view.read (Elt F) W = k2_pay1 (M3.view.read (Elt F) f3) (M0.view.read (Elt F) f0) (M1.view.read (Elt F) f1) (M2.view.read (Elt F) f2)⌝ ∗ ptT d M4 W)) -∗ Q ⟨⟩))
      ⊢ wp frame (wpE (defs₀ (F := F)) 𝒱₀ (d.tc) none) E (cc2__loss_body (F := F) M0 h0 M1 h1 M2 h2 M3 h3 M4 h4) Q := by
  rw [cc2__loss_body_eq_skeleton]
  unfold cc2__loss_body_skel
  iintro ⟨H0, H1, H2, H3, H4, Hk⟩
  sl_exec!
  sl_step
  iapply Hk
  isplitl [H0]; · iexact H0
  isplitl [H1]; · iexact H1
  isplitl [H2]; · iexact H2
  isplitl [H3]; · iexact H3
  iexists _
  isplitr; swap; (· iexact H4)
  ipureintro
  delta loss_run.sl.H4_1
  rw [read_store_all _ z2, readAt_all _ z2, readAt_all _ z2, readAt_all _ z2, readAt_all _ z2]

/-- Row `r` of the padded transposed second cloud, as a load of it reads it. -/
abbrev rowOf (r : ℕ) (inb : ∀ a, (![r, 0] : Fin 2 → ℕ) a + S1x4096.size a ≤ S8x4096.size a) (X : S8x4096.Idx → F .f32) : S1x4096.Idx → F .f32 :=
  fun x => X ((Rect.unit (s := S8x4096) ![r, 0] S1x4096.size inb).toLoadRect.idx x)

/-- The four outputs of a point of the distance body, over its three blocks. -/
abbrev dM (X0 X1 : S256x3.Idx → F .f32) (X2 : S8x4096.Idx → F .f32) : FVec F S256x4096 .f32 :=
  k1_pay5 X0 X1 (rowOf 0 inb_S8x4096_S1x4096_0_0 X2) (rowOf 1 inb_S8x4096_S1x4096_1_0 X2) (rowOf 2 inb_S8x4096_S1x4096_2_0 X2)
abbrev dMin (X0 X1 : S256x3.Idx → F .f32) (X2 : S8x4096.Idx → F .f32) : FVec F S256x1 .f32 :=
  k1_pay6 X0 X1 (rowOf 0 inb_S8x4096_S1x4096_0_0 X2) (rowOf 1 inb_S8x4096_S1x4096_1_0 X2) (rowOf 2 inb_S8x4096_S1x4096_2_0 X2)
abbrev dArg (X0 X1 : S256x3.Idx → F .f32) (X2 : S8x4096.Idx → F .f32) : IVec S256x1 32 :=
  k1_pay7 X0 X1 (rowOf 0 inb_S8x4096_S1x4096_0_0 X2) (rowOf 1 inb_S8x4096_S1x4096_1_0 X2) (rowOf 2 inb_S8x4096_S1x4096_2_0 X2)

/-- At the first point the two accumulators are written over. -/
theorem dist_run_first (d : Dev nD) (i : grid1.Coords) (hc1 : k1_cond1 i = 1#1) (hc2 : ¬ k1_cond2 i = 1#1)
    (M0 : Memref sig .tc .vmem S256x3 .f32) (h0 : M0.IsWhole) (M1 : Memref sig .tc .vmem S256x3 .f32) (h1 : M1.IsWhole)
    (M2 : Memref sig .tc .vmem S8x4096 .f32) (h2 : M2.IsWhole) (M3 : Memref sig .tc .vmem S256x1 .f32) (h3 : M3.IsWhole) (M4 : Memref sig .tc .vmem S256x1 .i32) (h4 : M4.IsWhole)
    (M5 : Memref sig .tc .vmem S1x4096 .f32) (h5 : M5.IsWhole) (M6 : Memref sig .tc .vmem S1x1 .f32) (h6 : M6.IsWhole)
    (f0 : BfT (F := F) d M0) (f1 : BfT (F := F) d M1) (f2 : BfT (F := F) d M2) (f3 : BfT (F := F) d M3) (f4 : BfT (F := F) d M4) (f5 : BfT (F := F) d M5) (f6 : BfT (F := F) d M6)
    (E : Set ℕ) (Q : PUnit → sProp 𝕄) :
    iprop(ptT d M0 f0 ∗ ptT d M1 f1 ∗ ptT d M2 f2 ∗ ptT d M3 f3 ∗ ptT d M4 f4 ∗ ptT d M5 f5 ∗ ptT d M6 f6 ∗
      ((ptT d M0 f0 ∗ ptT d M1 f1 ∗ ptT d M2 f2 ∗
        (∃ W : BfT (F := F) d M3, ⌜M3.view.read (Elt F) W = dMin (M0.view.read (Elt F) f0) (M1.view.read (Elt F) f1) (M2.view.read (Elt F) f2)⌝ ∗ ptT d M3 W) ∗
        (∃ W : BfT (F := F) d M4, ⌜M4.view.read (Elt F) W = dArg (M0.view.read (Elt F) f0) (M1.view.read (Elt F) f1) (M2.view.read (Elt F) f2)⌝ ∗ ptT d M4 W) ∗
        (∃ W : BfT (F := F) d M5, ⌜M5.view.read (Elt F) W = k1_pay1 (dM (M0.view.read (Elt F) f0) (M1.view.read (Elt F) f1) (M2.view.read (Elt F) f2))⌝ ∗ ptT d M5 W) ∗
        (∃ W : BfT (F := F) d M6, ⌜M6.view.read (Elt F) W = k1_pay2 (dMin (M0.view.read (Elt F) f0) (M1.view.read (Elt F) f1) (M2.view.read (Elt F) f2))⌝ ∗ ptT d M6 W)) -∗ Q ⟨⟩))
      ⊢ wp frame (wpE (defs₀ (F := F)) 𝒱₀ (d.tc) none) E (cc1__tc_body (F := F) i M0 h0 M1 h1 M2 h2 M3 h3 M4 h4 M5 h5 M6 h6) Q := by
  rw [cc1__tc_body_eq_skeleton]
  unfold cc1__tc_body_skel
  simp only [dif_pos hc1, dif_neg hc2]
  rw [k1_part1_eq_skeleton]
  unfold k1_part1_skel
  iintro ⟨H0, H1, H2, H3, H4, H5, H6, Hk⟩
  sl_exec!
  sl_step
  iapply Hk
  isplitl [H0]; · iexact H0
  isplitl [H1]; · iexact H1
  isplitl [H2]; · iexact H2
  isplitl [H3]
  · iexists _
    isplitr; swap; (· iexact H3)
    ipureintro
    delta dist_run_first.sl.H3_1
    rw [read_store_all _ z2, readAt_all _ z2, readAt_all _ z2]
    rfl
  isplitl [H4]
  · iexists _
    isplitr; swap; (· iexact H4)
    ipureintro
    delta dist_run_first.sl.H4_1
    rw [read_store_all _ z2, readAt_all _ z2, readAt_all _ z2]
    rfl
  isplitl [H5]
  · iexists _
    isplitr; swap; (· iexact H5)
    ipureintro
    delta dist_run_first.sl.H5_1
    rw [read_store_all _ z2, readAt_all _ z2, readAt_all _ z2]
    rfl
  iexists _
  isplitr; swap; (· iexact H6)
  ipureintro
  delta dist_run_first.sl.H6_1
  rw [read_store_all _ z2, readAt_all _ z2, readAt_all _ z2]
  dsimp only
  rfl

/-- At a later point they are joined with what they hold. -/
theorem dist_run_later (d : Dev nD) (i : grid1.Coords) (hc1 : ¬ k1_cond1 i = 1#1) (hc2 : k1_cond2 i = 1#1)
    (M0 : Memref sig .tc .vmem S256x3 .f32) (h0 : M0.IsWhole) (M1 : Memref sig .tc .vmem S256x3 .f32) (h1 : M1.IsWhole)
    (M2 : Memref sig .tc .vmem S8x4096 .f32) (h2 : M2.IsWhole) (M3 : Memref sig .tc .vmem S256x1 .f32) (h3 : M3.IsWhole) (M4 : Memref sig .tc .vmem S256x1 .i32) (h4 : M4.IsWhole)
    (M5 : Memref sig .tc .vmem S1x4096 .f32) (h5 : M5.IsWhole) (M6 : Memref sig .tc .vmem S1x1 .f32) (h6 : M6.IsWhole)
    (f0 : BfT (F := F) d M0) (f1 : BfT (F := F) d M1) (f2 : BfT (F := F) d M2) (f3 : BfT (F := F) d M3) (f4 : BfT (F := F) d M4) (f5 : BfT (F := F) d M5) (f6 : BfT (F := F) d M6)
    (E : Set ℕ) (Q : PUnit → sProp 𝕄) :
    iprop(ptT d M0 f0 ∗ ptT d M1 f1 ∗ ptT d M2 f2 ∗ ptT d M3 f3 ∗ ptT d M4 f4 ∗ ptT d M5 f5 ∗ ptT d M6 f6 ∗
      ((ptT d M0 f0 ∗ ptT d M1 f1 ∗ ptT d M2 f2 ∗
        (∃ W : BfT (F := F) d M3, ⌜M3.view.read (Elt F) W = dMin (M0.view.read (Elt F) f0) (M1.view.read (Elt F) f1) (M2.view.read (Elt F) f2)⌝ ∗ ptT d M3 W) ∗
        (∃ W : BfT (F := F) d M4, ⌜M4.view.read (Elt F) W = dArg (M0.view.read (Elt F) f0) (M1.view.read (Elt F) f1) (M2.view.read (Elt F) f2)⌝ ∗ ptT d M4 W) ∗
        (∃ W : BfT (F := F) d M5, ⌜M5.view.read (Elt F) W = k1_pay3 (dM (M0.view.read (Elt F) f0) (M1.view.read (Elt F) f1) (M2.view.read (Elt F) f2)) (M5.view.read (Elt F) f5)⌝ ∗ ptT d M5 W) ∗
        (∃ W : BfT (F := F) d M6, ⌜M6.view.read (Elt F) W = k1_pay4 (dMin (M0.view.read (Elt F) f0) (M1.view.read (Elt F) f1) (M2.view.read (Elt F) f2)) (M6.view.read (Elt F) f6)⌝ ∗ ptT d M6 W)) -∗ Q ⟨⟩))
      ⊢ wp frame (wpE (defs₀ (F := F)) 𝒱₀ (d.tc) none) E (cc1__tc_body (F := F) i M0 h0 M1 h1 M2 h2 M3 h3 M4 h4 M5 h5 M6 h6) Q := by
  rw [cc1__tc_body_eq_skeleton]
  unfold cc1__tc_body_skel
  simp only [dif_neg hc1, dif_pos hc2]
  rw [k1_part1_eq_skeleton]
  unfold k1_part1_skel
  iintro ⟨H0, H1, H2, H3, H4, H5, H6, Hk⟩
  sl_exec!
  sl_step
  iapply Hk
  isplitl [H0]; · iexact H0
  isplitl [H1]; · iexact H1
  isplitl [H2]; · iexact H2
  isplitl [H3]
  · iexists _
    isplitr; swap; (· iexact H3)
    ipureintro
    delta dist_run_later.sl.H3_1
    rw [read_store_all _ z2, readAt_all _ z2, readAt_all _ z2]
    rfl
  isplitl [H4]
  · iexists _
    isplitr; swap; (· iexact H4)
    ipureintro
    delta dist_run_later.sl.H4_1
    rw [read_store_all _ z2, readAt_all _ z2, readAt_all _ z2]
    rfl
  isplitl [H5]
  · iexists _
    isplitr; swap; (· iexact H5)
    ipureintro
    delta dist_run_later.sl.H5_1
    rw [read_store_all _ z2, readAt_all _ z2, readAt_all _ z2, readAt_all _ z2]
    rfl
  iexists _
  isplitr; swap; (· iexact H6)
  ipureintro
  delta dist_run_later.sl.H6_1
  rw [read_store_all _ z2, readAt_all _ z2, readAt_all _ z2, readAt_all _ z2]
  dsimp only
  rfl

end Cert.KernelIdeal.KI
-- ==== Proof.KI.Dats.lean ====
module

public import proofs.«01_k».proof.Proof.KI.Reg
public import proofs.«01_k».proof.Proof.KI.TC

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! # What the two TensorCore pipelines leave, point by point -/

variable (W : Dev nD → Valuation τ sig (Elt F))

/-- The contents of an array at entry. -/
abbrev arr1 (c : Dev nD) (w : Fin 7) := W c (Proc.devRef .tc (Pipeline.arrRef spec1 w))
abbrev arr2 (c : Dev nD) (w : Fin 5) := W c (Proc.devRef .tc (Pipeline.arrRef spec2 w))

/-- The blocks of the distance body at a point: 256 rows of the first cloud, of the flow, and the padded second cloud. -/
def xb0 (c : Dev nD) (t : Fin cfg1.N) : S256x3.Idx → F .f32 := ((cfg1.win 0).blk t).view.read (Elt F) (arr1 W c 0)
def xb1 (c : Dev nD) (t : Fin cfg1.N) : S256x3.Idx → F .f32 := ((cfg1.win 1).blk t).view.read (Elt F) (arr1 W c 1)
def xb2 (c : Dev nD) : S8x4096.Idx → F .f32 := ((cfg1.win 2).blk t1_0).view.read (Elt F) (arr1 W c 2)

/-- The running least column and the running sum. -/
def accC (c : Dev nD) : (n : ℕ) → n < cfg1.N → S1x4096.Idx → F .f32
  | 0, h => k1_pay1 (dM (xb0 W c ⟨0, h⟩) (xb1 W c ⟨0, h⟩) (xb2 W c))
  | n + 1, h => k1_pay3 (dM (xb0 W c ⟨n + 1, h⟩) (xb1 W c ⟨n + 1, h⟩) (xb2 W c)) (accC c n (Nat.lt_of_succ_lt h))
def accS (c : Dev nD) : (n : ℕ) → n < cfg1.N → S1x1.Idx → F .f32
  | 0, h => k1_pay2 (dMin (xb0 W c ⟨0, h⟩) (xb1 W c ⟨0, h⟩) (xb2 W c))
  | n + 1, h => k1_pay4 (dMin (xb0 W c ⟨n + 1, h⟩) (xb1 W c ⟨n + 1, h⟩) (xb2 W c)) (accS c n (Nat.lt_of_succ_lt h))

def dat1 (c : Dev nD) : Pipeline.Dat τ (Elt F) (HIx 1) ℕ UU ℕ cfg1 c where
  A w := arr1 W c w
  after w t := match w with
    | ⟨0, _⟩ => xb0 W c t
    | ⟨1, _⟩ => xb1 W c t
    | ⟨2, _⟩ => xb2 W c
    | ⟨3, _⟩ => dMin (xb0 W c t) (xb1 W c t) (xb2 W c)
    | ⟨4, _⟩ => dArg (xb0 W c t) (xb1 W c t) (xb2 W c)
    | ⟨5, _⟩ => accC W c t.val t.isLt
    | ⟨6, _⟩ => accS W c t.val t.isLt
  Φ _ := Pipeline.scopedRest spec1 c
  q _ := fullShare
  owed _ := 0
  recorded _ := recBound F c

/-- The blocks of the loss body. -/
def yb0 (c : Dev nD) : S8x64.Idx → F .f32 := ((cfg2.win 0).blk t2_0).view.read (Elt F) (arr2 W c 0)
def yb1 (c : Dev nD) : S32x4096.Idx → F .f32 := ((cfg2.win 1).blk t2_0).view.read (Elt F) (arr2 W c 1)
def yb2 (c : Dev nD) : S1x4096.Idx → F .f32 := ((cfg2.win 2).blk t2_0).view.read (Elt F) (arr2 W c 2)
def yb3 (c : Dev nD) : S1x1.Idx → F .f32 := ((cfg2.win 3).blk t2_0).view.read (Elt F) (arr2 W c 3)

def dat2 (c : Dev nD) : Pipeline.Dat τ (Elt F) (HIx 1) ℕ UU ℕ cfg2 c where
  A w := arr2 W c w
  after w _ := match w with
    | ⟨0, _⟩ => yb0 W c
    | ⟨1, _⟩ => yb1 W c
    | ⟨2, _⟩ => yb2 W c
    | ⟨3, _⟩ => yb3 W c
    | ⟨4, _⟩ => k2_pay1 (yb3 W c) (yb0 W c) (yb1 W c) (yb2 W c)
  Φ _ := Pipeline.scopedRest spec2 c
  q _ := fullShare
  owed _ := 0
  recorded _ := recBound F c

/-- Data of a pipeline that is not run. -/
def idleDat {cfg : Pipeline.Cfg sig Λ₀} (c : Dev nD) : Pipeline.Dat τ (Elt F) (HIx 1) ℕ UU ℕ cfg c where
  A _ := fun _ => Classical.arbitrary _
  after _ _ := fun _ => Classical.arbitrary _
  Φ _ := BI.emp
  q _ := fullShare
  owed _ := 0

def pdats1 : (p : Fin 2) → (c : Dev nD) → Pipeline.Dat τ (Elt F) (HIx 1) ℕ UU ℕ (Pipeline.pin (pcfgs (F := F)) adm p) c
  | ⟨0, _⟩ => fun c => dat1 W c
  | ⟨1, _⟩ => fun c => idleDat c
def pdats2 : (p : Fin 2) → (c : Dev nD) → Pipeline.Dat τ (Elt F) (HIx 1) ℕ UU ℕ (Pipeline.pin (pcfgs (F := F)) adm p) c
  | ⟨0, _⟩ => fun c => idleDat c
  | ⟨1, _⟩ => fun c => dat2 W c

/-! ## What a body finds -/

omit [FloatOps F] [Named F] in
theorem cond1_iff : ∀ t : Fin grid1.N, k1_cond1 (grid1.coords t) = 1#1 ↔ t.val = 0 := by decide +kernel
omit [FloatOps F] [Named F] in
theorem cond2_iff : ∀ t : Fin grid1.N, k1_cond2 (grid1.coords t) = 1#1 ↔ t.val ≠ 0 := by decide +kernel
omit [FloatOps F] [Named F] in
theorem idle_5 : ∀ t : Fin grid1.N, idle1 5 (grid1.coords t) = false := by decide +kernel
omit [FloatOps F] [Named F] in
theorem idle_6 : ∀ t : Fin grid1.N, idle1 6 (grid1.coords t) = false := by decide +kernel
omit [FloatOps F] [Named F] in
theorem fetch_5 : ∀ t : Fin cfg1.N, (cfg1.win 5).fetch t = false := fun _ => rfl
omit [FloatOps F] [Named F] in
theorem fetch_6 : ∀ t : Fin cfg1.N, (cfg1.win 6).fetch t = false := fun _ => rfl
omit [FloatOps F] [Named F] in
theorem flush_2 : ∀ t : Fin cfg1.N, (cfg1.win 2).flush t = false := fun _ => rfl

theorem before1_0 (c : Dev nD) (t : Fin cfg1.N) (x) : (dat1 W c).before 0 t x = xb0 W c t := by
  unfold Pipeline.Dat.before; rw [if_pos (fetch1_0 t)]; rfl
theorem before1_1 (c : Dev nD) (t : Fin cfg1.N) (x) : (dat1 W c).before 1 t x = xb1 W c t := by
  unfold Pipeline.Dat.before; rw [if_pos (fetch1_1 t)]; rfl
theorem before1_2 (c : Dev nD) (t : Fin cfg1.N) (x) : (dat1 W c).before 2 t x = xb2 W c := by
  have hN := N_1
  have hlt := t.isLt
  by_cases h : t.val = 0
  · obtain rfl : t = t1_0 := Fin.ext h
    unfold Pipeline.Dat.before; rw [if_pos ((fetch1_2 t1_0).mpr rfl)]; rfl
  · rw [(dat1 W c).before_of_pos 2 t h (by
      rw [← Bool.not_eq_true]; intro h2; have h3 := (fetch1_2 t).mp h2
      have : t.val < 12 := lt_of_lt_of_eq hlt hN
      omega)]
    rw [flush_2]
    rfl
theorem before1_5 (c : Dev nD) (n : ℕ) (hn : n + 1 < cfg1.N) (x) : (dat1 W c).before 5 ⟨n + 1, hn⟩ x = accC W c n (Nat.lt_of_succ_lt hn) := by
  have hN := N_1
  rw [(dat1 W c).before_of_pos 5 ⟨n + 1, hn⟩ (Nat.succ_ne_zero n) (fetch_5 _), if_neg (by
    intro h2; have h3 := (flush1_5 _).mp h2
    have : n + 1 < 12 := lt_of_lt_of_eq hn hN
    simp only [Nat.add_sub_cancel] at h3
    omega)]
  unfold Pipeline.Dat.left
  have hi : cfg1.idle 5 (cfg1.grid.coords ⟨n, Nat.lt_of_succ_lt hn⟩) = false := idle_5 _
  show (match cfg1.idle 5 (cfg1.grid.coords ⟨n, Nat.lt_of_succ_lt hn⟩) with
    | true => _ | false => _) = _
  rw [hi]
  rfl
theorem before1_6 (c : Dev nD) (n : ℕ) (hn : n + 1 < cfg1.N) (x) : (dat1 W c).before 6 ⟨n + 1, hn⟩ x = accS W c n (Nat.lt_of_succ_lt hn) := by
  have hN := N_1
  rw [(dat1 W c).before_of_pos 6 ⟨n + 1, hn⟩ (Nat.succ_ne_zero n) (fetch_6 _), if_neg (by
    intro h2; have h3 := (flush1_6 _).mp h2
    have : n + 1 < 12 := lt_of_lt_of_eq hn hN
    simp only [Nat.add_sub_cancel] at h3
    omega)]
  unfold Pipeline.Dat.left
  have hi : cfg1.idle 6 (cfg1.grid.coords ⟨n, Nat.lt_of_succ_lt hn⟩) = false := idle_6 _
  show (match cfg1.idle 6 (cfg1.grid.coords ⟨n, Nat.lt_of_succ_lt hn⟩) with
    | true => _ | false => _) = _
  rw [hi]
  rfl

theorem before2 (c : Dev nD) : (∀ x, (dat2 W c).before 0 t2_0 x = yb0 W c) ∧ (∀ x, (dat2 W c).before 1 t2_0 x = yb1 W c)
    ∧ (∀ x, (dat2 W c).before 2 t2_0 x = yb2 W c) ∧ (∀ x, (dat2 W c).before 3 t2_0 x = yb3 W c) := by
  refine ⟨fun x => ?_, fun x => ?_, fun x => ?_, fun x => ?_⟩
  · unfold Pipeline.Dat.before; rw [if_pos (fetch2_0 t2_0)]; rfl
  · unfold Pipeline.Dat.before; rw [if_pos (fetch2_1 t2_0)]; rfl
  · unfold Pipeline.Dat.before; rw [if_pos (fetch2_2 t2_0)]; rfl
  · unfold Pipeline.Dat.before; rw [if_pos (fetch2_3 t2_0)]; rfl

/-! ## The bodies meet their obligations -/

omit [FloatOps F] [Named F] in
/-- A whole memref owned at contents is its buffer held, reading so. -/
theorem owns_open (d : Dev nD) {sp : Space} {s : Shape} {e : EltTy} (M : Memref sig .tc sp s e) (h : M.IsWhole) (X : s.Idx → Elt F e) :
    (owns (d.tc : Thread nD τ) M fullShare X : sProp 𝕄) ⊢ iprop(∃ f : BfT (F := F) d M, ⌜M.view.read (Elt F) f = X⌝ ∗ ptT d M f) := by
  unfold owns ptT
  rw [show M.view.set = Finset.univ from h.set_eq_univ]

omit [FloatOps F] [Named F] in
theorem owns_shut (d : Dev nD) {sp : Space} {s : Shape} {e : EltTy} (M : Memref sig .tc sp s e) (h : M.IsWhole) (X : s.Idx → Elt F e) :
    iprop(∃ f : BfT (F := F) d M, ⌜M.view.read (Elt F) f = X⌝ ∗ ptT d M f) ⊢ (owns (d.tc : Thread nD τ) M fullShare X : sProp 𝕄) := by
  unfold owns ptT
  rw [show M.view.set = Finset.univ from h.set_eq_univ]

theorem body2 (c : Dev nD) : Pipeline.BodyObligation (dat2 W c) (defs₀ (F := F)) 𝒱₀ (none : HIx 1) Set.univ := fun t => by
  obtain rfl := fin_N2 t
  rw [bigSep_W2, bigSep_W2]
  simp only [owns_whole_eq]
  rw [show (dat2 W c).Φ t2_0.castSucc = Pipeline.scopedRest spec2 c from rfl, show (dat2 W c).Φ t2_0.succ = Pipeline.scopedRest spec2 c from rfl,
    show (dat2 W c).owesAt (none : HIx 1) t2_0.succ = (dat2 W c).owesAt (none : HIx 1) t2_0.castSucc from rfl]
  obtain ⟨hb0, hb1, hb2, hb3⟩ := before2 W c
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [hb0] at hf0; rw [hb1] at hf1; rw [hb2] at hf2; rw [hb3] at hf3
  iapply (loss_run (F := F) c (st2_0 t2_0) (hstage2_0 0) (st2_1 t2_0) (hstage2_1 0) (st2_2 t2_0) (hstage2_2 0) (st2_3 t2_0) (hstage2_3 0) (st2_4 t2_0) (hstage2_4 0) f0 f1 f2 f3 f4 Set.univ _)
  isplitl [H0]; · iexact H0
  isplitl [H1]; · iexact H1
  isplitl [H2]; · iexact H2
  isplitl [H3]; · iexact H3
  isplitl [H4]; · iexact H4
  iintro ⟨H0, H1, H2, H3, ⟨%V, %hV, H4⟩⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  iexists _; isplitr; swap; (· iexact H4); ipureintro
  subst hf0; subst hf1; subst hf2; subst hf3
  exact hV

/-- What the distance body gives back at a point, as memrefs owned. -/
theorem body1_at (c : Dev nD) (t : Fin cfg1.N) (x3 x4) (x5 : S1x4096.Idx → F .f32) (x6 : S1x1.Idx → F .f32)
    (h5 : ∀ n (hn : n + 1 < cfg1.N), t = ⟨n + 1, hn⟩ → x5 = accC W c n (Nat.lt_of_succ_lt hn))
    (h6 : ∀ n (hn : n + 1 < cfg1.N), t = ⟨n + 1, hn⟩ → x6 = accS W c n (Nat.lt_of_succ_lt hn)) (Q : PUnit → sProp 𝕄) :
    iprop(owns (c.tc : Thread nD τ) (st1_0 t) fullShare (xb0 W c t) ∗ owns (c.tc : Thread nD τ) (st1_1 t) fullShare (xb1 W c t)
        ∗ owns (c.tc : Thread nD τ) (st1_2 t) fullShare (xb2 W c) ∗ owns (c.tc : Thread nD τ) (st1_3 t) fullShare x3
        ∗ owns (c.tc : Thread nD τ) (st1_4 t) fullShare x4 ∗ owns (c.tc : Thread nD τ) (st1_5 t) fullShare x5
        ∗ owns (c.tc : Thread nD τ) (st1_6 t) fullShare x6
        ∗ ((owns (c.tc : Thread nD τ) (st1_0 t) fullShare (xb0 W c t) ∗ owns (c.tc : Thread nD τ) (st1_1 t) fullShare (xb1 W c t)
            ∗ owns (c.tc : Thread nD τ) (st1_2 t) fullShare (xb2 W c)
            ∗ owns (c.tc : Thread nD τ) (st1_3 t) fullShare (dMin (xb0 W c t) (xb1 W c t) (xb2 W c))
            ∗ owns (c.tc : Thread nD τ) (st1_4 t) fullShare (dArg (xb0 W c t) (xb1 W c t) (xb2 W c))
            ∗ owns (c.tc : Thread nD τ) (st1_5 t) fullShare (accC W c t.val t.isLt)
            ∗ owns (c.tc : Thread nD τ) (st1_6 t) fullShare (accS W c t.val t.isLt)) -∗ Q ⟨⟩))
      ⊢ wp frame (wpE (defs₀ (F := F)) 𝒱₀ (c.tc) none) Set.univ (bodyAt1 (F := F) t) Q := by
  have w0 := hstage1_0 ((cfg1.slots t 0).cast nbuf1_0)
  have w1 := hstage1_1 ((cfg1.slots t 1).cast nbuf1_1)
  have w2 := hstage1_2 ((cfg1.slots t 2).cast nbuf1_2)
  have w3 := hstage1_3 ((cfg1.slots t 3).cast nbuf1_3)
  have w4 := hstage1_4 ((cfg1.slots t 4).cast nbuf1_4)
  have w5 := hstage1_5 ((cfg1.slots t 5).cast nbuf1_5)
  have w6 := hstage1_6 ((cfg1.slots t 6).cast nbuf1_6)
  have o0 := owns_open (F := F) c (st1_0 t) w0 (xb0 W c t)
  have o1 := owns_open (F := F) c (st1_1 t) w1 (xb1 W c t)
  have o2 := owns_open (F := F) c (st1_2 t) w2 (xb2 W c)
  have o3 := owns_open (F := F) c (st1_3 t) w3 x3
  have o4 := owns_open (F := F) c (st1_4 t) w4 x4
  have o5 := owns_open (F := F) c (st1_5 t) w5 x5
  have o6 := owns_open (F := F) c (st1_6 t) w6 x6
  iintro ⟨H0, H1, H2, H3, H4, H5, H6, Hk⟩
  ihave H0 := o0 $$ H0; icases H0 with ⟨%f0, %hf0, H0⟩
  ihave H1 := o1 $$ H1; icases H1 with ⟨%f1, %hf1, H1⟩
  ihave H2 := o2 $$ H2; icases H2 with ⟨%f2, %hf2, H2⟩
  ihave H3 := o3 $$ H3; icases H3 with ⟨%f3, %hf3, H3⟩
  ihave H4 := o4 $$ H4; icases H4 with ⟨%f4, %hf4, H4⟩
  ihave H5 := o5 $$ H5; icases H5 with ⟨%f5, %hf5, H5⟩
  ihave H6 := o6 $$ H6; icases H6 with ⟨%f6, %hf6, H6⟩
  by_cases hz : t.val = 0
  · iapply (dist_run_first (F := F) c (grid1.coords t) ((cond1_iff t).mpr hz) (fun h => (cond2_iff t).mp h hz)
      (st1_0 t) w0 (st1_1 t) w1 (st1_2 t) w2 (st1_3 t) w3 (st1_4 t) w4 (st1_5 t) w5 (st1_6 t) w6 f0 f1 f2 f3 f4 f5 f6 Set.univ Q)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, ⟨%V3, %hV3, H3⟩, ⟨%V4, %hV4, H4⟩, ⟨%V5, %hV5, H5⟩, ⟨%V6, %hV6, H6⟩⟩
    rw [hf0, hf1, hf2] at hV3 hV4 hV5 hV6
    iapply Hk
    isplitl [H0]; · iapply (owns_shut (F := F) c (st1_0 t) w0 _); iexists f0; isplitr; swap; (· iexact H0); ipureintro; exact hf0
    isplitl [H1]; · iapply (owns_shut (F := F) c (st1_1 t) w1 _); iexists f1; isplitr; swap; (· iexact H1); ipureintro; exact hf1
    isplitl [H2]; · iapply (owns_shut (F := F) c (st1_2 t) w2 _); iexists f2; isplitr; swap; (· iexact H2); ipureintro; exact hf2
    isplitl [H3]; · iapply (owns_shut (F := F) c (st1_3 t) w3 _); iexists V3; isplitr; swap; (· iexact H3); ipureintro; exact hV3
    isplitl [H4]; · iapply (owns_shut (F := F) c (st1_4 t) w4 _); iexists V4; isplitr; swap; (· iexact H4); ipureintro; exact hV4
    isplitl [H5]
    · iapply (owns_shut (F := F) c (st1_5 t) w5 _); iexists V5; isplitr; swap; (· iexact H5); ipureintro
      obtain ⟨n, hn⟩ := t; obtain rfl : n = 0 := hz; exact hV5
    iapply (owns_shut (F := F) c (st1_6 t) w6 _); iexists V6; isplitr; swap; (· iexact H6); ipureintro
    obtain ⟨n, hn⟩ := t; obtain rfl : n = 0 := hz; exact hV6
  · iapply (dist_run_later (F := F) c (grid1.coords t) (fun h => hz ((cond1_iff t).mp h)) ((cond2_iff t).mpr hz)
      (st1_0 t) w0 (st1_1 t) w1 (st1_2 t) w2 (st1_3 t) w3 (st1_4 t) w4 (st1_5 t) w5 (st1_6 t) w6 f0 f1 f2 f3 f4 f5 f6 Set.univ Q)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, ⟨%V3, %hV3, H3⟩, ⟨%V4, %hV4, H4⟩, ⟨%V5, %hV5, H5⟩, ⟨%V6, %hV6, H6⟩⟩
    rw [hf0, hf1, hf2] at hV3 hV4 hV5 hV6
    rw [hf5] at hV5; rw [hf6] at hV6
    iapply Hk
    isplitl [H0]; · iapply (owns_shut (F := F) c (st1_0 t) w0 _); iexists f0; isplitr; swap; (· iexact H0); ipureintro; exact hf0
    isplitl [H1]; · iapply (owns_shut (F := F) c (st1_1 t) w1 _); iexists f1; isplitr; swap; (· iexact H1); ipureintro; exact hf1
    isplitl [H2]; · iapply (owns_shut (F := F) c (st1_2 t) w2 _); iexists f2; isplitr; swap; (· iexact H2); ipureintro; exact hf2
    isplitl [H3]; · iapply (owns_shut (F := F) c (st1_3 t) w3 _); iexists V3; isplitr; swap; (· iexact H3); ipureintro; exact hV3
    isplitl [H4]; · iapply (owns_shut (F := F) c (st1_4 t) w4 _); iexists V4; isplitr; swap; (· iexact H4); ipureintro; exact hV4
    isplitl [H5]
    · iapply (owns_shut (F := F) c (st1_5 t) w5 _); iexists V5; isplitr; swap; (· iexact H5); ipureintro
      obtain ⟨n, hn⟩ := t; obtain ⟨m, rfl⟩ := Nat.exists_eq_succ_of_ne_zero hz; rw [h5 m hn rfl] at hV5; exact hV5
    iapply (owns_shut (F := F) c (st1_6 t) w6 _); iexists V6; isplitr; swap; (· iexact H6); ipureintro
    obtain ⟨n, hn⟩ := t; obtain ⟨m, rfl⟩ := Nat.exists_eq_succ_of_ne_zero hz; rw [h6 m hn rfl] at hV6; exact hV6

theorem after1_3 (c : Dev nD) (t : Fin cfg1.N) : (dat1 W c).after 3 t = dMin (xb0 W c t) (xb1 W c t) (xb2 W c) := by dsimp only [dat1]
theorem after1_4 (c : Dev nD) (t : Fin cfg1.N) : (dat1 W c).after 4 t = dArg (xb0 W c t) (xb1 W c t) (xb2 W c) := by dsimp only [dat1]
omit [FloatOps F] [Named F] in
theorem live_of (A B : sProp 𝕄) : ∀ b : Bool, b = false → (B ⊢ (match b with | true => A | false => B)) := by rintro _ rfl; iintro H; iexact H

theorem body1 (c : Dev nD) : Pipeline.BodyObligation (dat1 W c) (defs₀ (F := F)) 𝒱₀ (none : HIx 1) Set.univ := fun t => by
  rw [bigSep_W1, bigSep_W1]
  rw [show (dat1 W c).Φ t.castSucc = Pipeline.scopedRest spec1 c from rfl, show (dat1 W c).Φ t.succ = Pipeline.scopedRest spec1 c from rfl,
    show (dat1 W c).owesAt (none : HIx 1) t.succ = (dat1 W c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  simp only [before1_0 W, before1_1 W, before1_2 W]
  have hb := body1_at W c t ((dat1 W c).before 3 t d3) ((dat1 W c).before 4 t d4) ((dat1 W c).before 5 t d5) ((dat1 W c).before 6 t d6)
    (by rintro n hn rfl; exact before1_5 W c n hn d5) (by rintro n hn rfl; exact before1_6 W c n hn d6)
  iapply (hb _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · rw [← after1_3]; iexact H3
  isplitl [H4]; · rw [← after1_4]; iexact H4
  isplitl [H5]; · iapply (live_of _ _ _ (idle_5 t)); iexact H5
  iapply (live_of _ _ _ (idle_6 t)); iexact H6

end Cert.KernelIdeal.KI
-- ==== Proof.KI.Scan.lean ====
module

public import proofs.«01_k».proof.Proof.KI.Common

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pxW" => (Memref.whole Cert.KernelIdeal.cc0_scratch0 : Memref Cert.KernelIdeal.sig Kind.scVector Space.vmem Cert.KernelIdeal.S4096 EltTy.f32)
local notation "pyW" => (Memref.whole Cert.KernelIdeal.cc0_scratch1 : Memref Cert.KernelIdeal.sig Kind.scVector Space.vmem Cert.KernelIdeal.S4096 EltTy.f32)
local notation "pzW" => (Memref.whole Cert.KernelIdeal.cc0_scratch2 : Memref Cert.KernelIdeal.sig Kind.scVector Space.vmem Cert.KernelIdeal.S4096 EltTy.f32)
local notation "cmW" => (Memref.whole Cert.KernelIdeal.cc0_scratch6 : Memref Cert.KernelIdeal.sig Kind.scVector Space.vmem Cert.KernelIdeal.S4096 EltTy.f32)

theorem off4_eq (k : Fin k0_t2_loop.trips) (u : Fin 2) :
    k0_off4 k (BitVec.ofNat 32 (16 * u.val)) = ![32 * k.val + 16 * u.val] := by
  have hk : k.val < 128 := k.isLt
  have hu : u.val < 2 := u.isLt
  have : (Scalar.addi (Scalar.muli (Scf.iv 0#32 1#32 k.val) 32#32) (BitVec.ofNat 32 (16 * u.val))).toNat = 32 * k.val + 16 * u.val := by
    simp only [Scalar.addi, Scalar.muli, IntOp.addi, IntOp.muli, Scf.iv, BitVec.toNat_add, BitVec.toNat_mul, BitVec.toNat_ofNat]
    have hk' : k.val < 128 := hk
    omega
  funext a
  rw [show a = 0 from Subsingleton.elim a 0]
  exact this

instance closedOff4 (k : Fin k0_t2_loop.trips) (u : Fin 2) : ClosedOff (k0_off4 k (BitVec.ofNat 32 (16 * u.val))) :=
  ⟨![32 * k.val + 16 * u.val], off4_eq k u⟩

variable [FloatOps F] [Named F]

/-- One trip of a scan. -/
theorem trip_wp (d : Dev nD) (c : Fin τ.nSC) (s : Fin τ.nSub) (v6 : IVec S16 32) (bx by' bz : Fin 8 → FVec F S16 .f32)
    (k : Fin k0_t2_loop.trips) (cr : Carry F) (fx fy fz fm : FVec F S4096 .f32) :
    iprop(((pxW).view.loc (V d c s) ↦{fullShare} fx) ∗ ((pyW).view.loc (V d c s) ↦{fullShare} fy) ∗ ((pzW).view.loc (V d c s) ↦{fullShare} fz)
        ∗ ((cmW).view.loc (V d c s) ↦{fullShare} fm))
      ⊢ wp frame (wpE (defs₀ (F := F)) 𝒱₀ (V d c s) none) Set.univ
          (trip pxW pyW pzW cmW v6 bx by' bz k cr) fun r => (iprop(⌜r = stepC v6 bx by' bz fx fy fz k cr⌝
            ∗ ((pxW).view.loc (V d c s) ↦{fullShare} fx) ∗ ((pyW).view.loc (V d c s) ↦{fullShare} fy) ∗ ((pzW).view.loc (V d c s) ↦{fullShare} fz)
            ∗ ((cmW).view.loc (V d c s) ↦{fullShare} (stepM bx by' bz fx fy fz k fm : FVec F S4096 .f32))) : sProp 𝕄) := by
  unfold trip
  iintro ⟨Hx, Hy, Hz, Hm⟩
  sl_exec
  sl_step
  isplitr
  · ipureintro; rfl
  isplitl [Hx]; · iexact Hx
  isplitl [Hy]; · iexact Hy
  isplitl [Hz]; · iexact Hz
  iexact Hm

/-- What a scan holds before trip `n`. -/
def scanInv (d : Dev nD) (c : Fin τ.nSC) (s : Fin τ.nSub) (v6 : IVec S16 32) (bx by' bz : Fin 8 → FVec F S16 .f32)
    (fx fy fz fm : FVec F S4096 .f32) (n : ℕ) (r : Carry F) : sProp 𝕄 :=
  iprop(⌜r = scanC v6 bx by' bz fx fy fz n⌝
    ∗ ((pxW).view.loc (V d c s) ↦{fullShare} fx) ∗ ((pyW).view.loc (V d c s) ↦{fullShare} fy) ∗ ((pzW).view.loc (V d c s) ↦{fullShare} fz)
    ∗ ((cmW).view.loc (V d c s) ↦{fullShare} (scanM bx by' bz fx fy fz fm n : FVec F S4096 .f32)))

/-- A whole scan. -/
theorem scan_wp (d : Dev nD) (c : Fin τ.nSC) (s : Fin τ.nSub) (v6 : IVec S16 32) (bx by' bz : Fin 8 → FVec F S16 .f32)
    (fx fy fz fm : FVec F S4096 .f32) :
    iprop(((pxW).view.loc (V d c s) ↦{fullShare} fx) ∗ ((pyW).view.loc (V d c s) ↦{fullShare} fy) ∗ ((pzW).view.loc (V d c s) ↦{fullShare} fz)
        ∗ ((cmW).view.loc (V d c s) ↦{fullShare} fm))
      ⊢ wp frame (wpE (defs₀ (F := F)) 𝒱₀ (V d c s) none) Set.univ
          (Scf.Loop.for k0_t2_loop k0_t2_ok (carry0 (F := F)) (trip pxW pyW pzW cmW v6 bx by' bz))
          (scanInv d c s v6 bx by' bz fx fy fz fm k0_t2_loop.trips) := by
  iintro ⟨Hx, Hy, Hz, Hm⟩
  sl_for (scanInv d c s v6 bx by' bz fx fy fz fm) $$ [Hx Hy Hz Hm]
  case region =>
    intro k cr
    unfold scanInv
    iintro ⟨%hr, Hx, Hy, Hz, Hm⟩
    subst hr
    have hk : k.val < k0_t2_loop.trips := k.isLt
    simp only [scanC, scanM, hk, ↓reduceDIte]
    iapply (trip_wp d c s v6 bx by' bz k _ fx fy fz _) $$ [Hx Hy Hz Hm]
    isplitl [Hx]; · iexact Hx
    isplitl [Hy]; · iexact Hy
    isplitl [Hz]; · iexact Hz
    iexact Hm
  · isplitl [Hx Hy Hz Hm]
    · unfold scanInv
      isplitr; · ipureintro; rfl
      isplitl [Hx]; · iexact Hx
      isplitl [Hy]; · iexact Hy
      isplitl [Hz]; · iexact Hz
      iexact Hm
    · iintro %acc HI
      iexact HI

theorem off3_eq (k : Fin k0_t1_loop.trips) : k0_off3 k = ![16 * k.val] := by
  have hk : k.val < 256 := k.isLt
  have : (Scalar.muli (Scf.iv 0#32 1#32 k.val) 16#32).toNat = 16 * k.val := by
    simp only [Scalar.muli, IntOp.muli, Scf.iv, BitVec.toNat_add, BitVec.toNat_mul, BitVec.toNat_ofNat]
    have hk' : k.val < 256 := hk
    omega
  funext a
  rw [show a = 0 from Subsingleton.elim a 0]
  exact this

instance closedOff3 (k : Fin k0_t1_loop.trips) : ClosedOff (k0_off3 k) := ⟨![16 * k.val], off3_eq k⟩

/-- What the first loop holds before trip `n`. -/
def fillInv (d : Dev nD) (c : Fin τ.nSC) (s : Fin τ.nSub) (fm : FVec F S4096 .f32) (n : ℕ) (_ : BitVec 32) : sProp 𝕄 :=
  iprop((cmW).view.loc (V d c s) ↦{fullShare} (fillM fm n : FVec F S4096 .f32))

/-- The first loop. -/
theorem fill_wp (d : Dev nD) (i : grid0.Coords) (fm : FVec F S4096 .f32)
    (arg2 : Memref sig .scVector .hbm S24576 .f32) (harg2 : arg2.IsWhole) (arg3 : Memref sig .scVector .hbm S1024 .f32) (harg3 : arg3.IsWhole) (arg4 : Memref sig .scVector .hbm S1024 .i32) (harg4 : arg4.IsWhole) (arg5 : Memref sig .scVector .hbm S131072 .f32) (harg5 : arg5.IsWhole) (arg6 : Memref sig .scVector .hbm S512 .f32) (harg6 : arg6.IsWhole) (arg7 : Memref sig .scVector .vmem S4096 .f32) (harg7 : arg7.IsWhole) (arg8 : Memref sig .scVector .vmem S4096 .f32) (harg8 : arg8.IsWhole) (arg9 : Memref sig .scVector .vmem S4096 .f32) (harg9 : arg9.IsWhole) (arg10 : Memref sig .scVector .vmem S32 .f32) (harg10 : arg10.IsWhole) (arg11 : Memref sig .scVector .vmem S32 .f32) (harg11 : arg11.IsWhole) (arg12 : Memref sig .scVector .vmem S32 .f32) (harg12 : arg12.IsWhole) (arg14 : Memref sig .scVector .vmem S32 .f32) (harg14 : arg14.IsWhole) (arg15 : Memref sig .scVector .vmem S32 .i32) (harg15 : arg15.IsWhole) (arg16 : Memref sig .scVector .vmem S16 .f32) (harg16 : arg16.IsWhole) (v2413_r0 : DmaSems sig S_) (v2413_r1 : DmaSems sig S_) (v2413_r2 : DmaSems sig S_) (v2413_r3 : DmaSems sig S_) (v2413_r4 : DmaSems sig S_) (v2413_r5 : DmaSems sig S_) (v2413_r6 : DmaSems sig S_) (v2413_r7 : DmaSems sig S_) (v2413_r8 : DmaSems sig S_) (v2413_r9 : DmaSems sig S_) :
    iprop((cmW).view.loc (V d ((i 0).castLE hcore0) ((i 1).castLE hsub0)) ↦{fullShare} fm)
      ⊢ wp frame (wpE (defs₀ (F := F)) 𝒱₀ (V d ((i 0).castLE hcore0) ((i 1).castLE hsub0)) none) Set.univ
          (Scf.Loop.for k0_t1_loop k0_t1_ok 0#32 (k0_t1_body (F := F) i arg2 harg2 arg3 harg3 arg4 harg4 arg5 harg5 arg6 harg6 arg7 harg7 arg8 harg8 arg9 harg9 arg10 harg10 arg11 harg11 arg12 harg12 cmW (Memref.isWhole_whole _) arg14 harg14 arg15 harg15 arg16 harg16 v2413_r0 v2413_r1 v2413_r2 v2413_r3 v2413_r4 v2413_r5 v2413_r6 v2413_r7 v2413_r8 v2413_r9))
          (fillInv d ((i 0).castLE hcore0) ((i 1).castLE hsub0) fm k0_t1_loop.trips) := by
  iintro Hm
  sl_for (fillInv d ((i 0).castLE hcore0) ((i 1).castLE hsub0) fm) $$ [Hm]
  case region =>
    intro k cr
    unfold fillInv
    iintro Hm
    have hk : k.val < k0_t1_loop.trips := k.isLt
    have e : fillM fm (k.val + 1) = (cmW).view.writes (Elt F) (fillM fm k.val) [⟨rct1 k, k0_pay221⟩] := by
      simp only [fillM, hk, ↓reduceDIte]
    generalize fillM fm k.val = fk at e ⊢
    rw [e]
    sl_exec
    sl_step
    iexact Hm
  · isplitl [Hm]
    · unfold fillInv
      iexact Hm
    · iintro %acc HI
      iexact HI

/-- The first loop, then what follows it. -/
theorem fill_then {α : Type} (d : Dev nD) (i : grid0.Coords) (fm : FVec F S4096 .f32)
    (arg2 : Memref sig .scVector .hbm S24576 .f32) (harg2 : arg2.IsWhole) (arg3 : Memref sig .scVector .hbm S1024 .f32) (harg3 : arg3.IsWhole) (arg4 : Memref sig .scVector .hbm S1024 .i32) (harg4 : arg4.IsWhole) (arg5 : Memref sig .scVector .hbm S131072 .f32) (harg5 : arg5.IsWhole) (arg6 : Memref sig .scVector .hbm S512 .f32) (harg6 : arg6.IsWhole) (arg7 : Memref sig .scVector .vmem S4096 .f32) (harg7 : arg7.IsWhole) (arg8 : Memref sig .scVector .vmem S4096 .f32) (harg8 : arg8.IsWhole) (arg9 : Memref sig .scVector .vmem S4096 .f32) (harg9 : arg9.IsWhole) (arg10 : Memref sig .scVector .vmem S32 .f32) (harg10 : arg10.IsWhole) (arg11 : Memref sig .scVector .vmem S32 .f32) (harg11 : arg11.IsWhole) (arg12 : Memref sig .scVector .vmem S32 .f32) (harg12 : arg12.IsWhole) (arg14 : Memref sig .scVector .vmem S32 .f32) (harg14 : arg14.IsWhole) (arg15 : Memref sig .scVector .vmem S32 .i32) (harg15 : arg15.IsWhole) (arg16 : Memref sig .scVector .vmem S16 .f32) (harg16 : arg16.IsWhole) (v2413_r0 : DmaSems sig S_) (v2413_r1 : DmaSems sig S_) (v2413_r2 : DmaSems sig S_) (v2413_r3 : DmaSems sig S_) (v2413_r4 : DmaSems sig S_) (v2413_r5 : DmaSems sig S_) (v2413_r6 : DmaSems sig S_) (v2413_r7 : DmaSems sig S_) (v2413_r8 : DmaSems sig S_) (v2413_r9 : DmaSems sig S_) (Ψ : α → sProp 𝕄)
    (kk : BitVec 32 → Prog (TpuEff nD τ sig (Elt F) Λ₀ (.scVector ((i 0).castLE hcore0) ((i 1).castLE hsub0))) α) :
    iprop(((cmW).view.loc (V d ((i 0).castLE hcore0) ((i 1).castLE hsub0)) ↦{fullShare} fm)
        ∗ (∀ r, fillInv d ((i 0).castLE hcore0) ((i 1).castLE hsub0) fm k0_t1_loop.trips r -∗
            wp frame (wpE (defs₀ (F := F)) 𝒱₀ (V d ((i 0).castLE hcore0) ((i 1).castLE hsub0)) none) Set.univ (kk r) Ψ))
      ⊢ wp frame (wpE (defs₀ (F := F)) 𝒱₀ (V d ((i 0).castLE hcore0) ((i 1).castLE hsub0)) none) Set.univ
          (Scf.Loop.for k0_t1_loop k0_t1_ok 0#32 (k0_t1_body (F := F) i arg2 harg2 arg3 harg3 arg4 harg4 arg5 harg5 arg6 harg6 arg7 harg7 arg8 harg8 arg9 harg9 arg10 harg10 arg11 harg11 arg12 harg12 cmW (Memref.isWhole_whole _) arg14 harg14 arg15 harg15 arg16 harg16 v2413_r0 v2413_r1 v2413_r2 v2413_r3 v2413_r4 v2413_r5 v2413_r6 v2413_r7 v2413_r8 v2413_r9) >>= kk) Ψ := by
  rw [wp_bind]
  iintro ⟨Hm, Hk⟩
  iapply (wp_wand_r _ _ _ (Q := fillInv d ((i 0).castLE hcore0) ((i 1).castLE hsub0) fm k0_t1_loop.trips)) $$ [Hm Hk]
  isplitl [Hm]
  · iapply (fill_wp d i fm arg2 harg2 arg3 harg3 arg4 harg4 arg5 harg5 arg6 harg6 arg7 harg7 arg8 harg8 arg9 harg9 arg10 harg10 arg11 harg11 arg12 harg12 arg14 harg14 arg15 harg15 arg16 harg16 v2413_r0 v2413_r1 v2413_r2 v2413_r3 v2413_r4 v2413_r5 v2413_r6 v2413_r7 v2413_r8 v2413_r9) $$ Hm
  · iexact Hk

/-- A whole scan, then what follows it. -/
theorem scan_then {α : Type} (d : Dev nD) (c : Fin τ.nSC) (s : Fin τ.nSub) (v6 : IVec S16 32) (bx by' bz : Fin 8 → FVec F S16 .f32)
    (fx fy fz fm : FVec F S4096 .f32) (Ψ : α → sProp 𝕄)
    (kk : Carry F → Prog (TpuEff nD τ sig (Elt F) Λ₀ (.scVector c s)) α) :
    iprop((((pxW).view.loc (V d c s) ↦{fullShare} fx) ∗ ((pyW).view.loc (V d c s) ↦{fullShare} fy) ∗ ((pzW).view.loc (V d c s) ↦{fullShare} fz)
        ∗ ((cmW).view.loc (V d c s) ↦{fullShare} fm))
        ∗ (∀ r, scanInv d c s v6 bx by' bz fx fy fz fm k0_t2_loop.trips r -∗
            wp frame (wpE (defs₀ (F := F)) 𝒱₀ (V d c s) none) Set.univ (kk r) Ψ))
      ⊢ wp frame (wpE (defs₀ (F := F)) 𝒱₀ (V d c s) none) Set.univ
          (Scf.Loop.for k0_t2_loop k0_t2_ok (carry0 (F := F)) (trip pxW pyW pzW cmW v6 bx by' bz) >>= kk) Ψ := by
  rw [wp_bind]
  iintro ⟨Hm, Hk⟩
  iapply (wp_wand_r _ _ _ (Q := scanInv d c s v6 bx by' bz fx fy fz fm k0_t2_loop.trips)) $$ [Hm Hk]
  isplitl [Hm]
  · iapply (scan_wp d c s v6 bx by' bz fx fy fz fm) $$ Hm
  · iexact Hk

end Cert.KernelIdeal.KI
-- ==== Proof.KI.Vals.lean ====
module

public import proofs.«01_k».proof.Proof.KI.Scan

@[expose] public section

noncomputable section

namespace Cert.KernelIdeal.KI

open Idealize.ShloMosaic Idealize.SL.Sem Cert.KernelIdeal Cert.KernelIdeal.Gen

variable {F : FTy → Type}

/-! # What one tile writes, in closed form -/

/-- The index `k` of a vector of `n` numbers. -/
abbrev at1 {n : ℕ} (k : ℕ) (h : k < n) : (⟨1, ![n]⟩ : Shape).Idx :=
  fun a => ⟨k, by have e : a = 0 := Subsingleton.elim a 0; subst e; exact h⟩

theorem idx1_ext {n : ℕ} {x y : (⟨1, ![n]⟩ : Shape).Idx} (h : (x 0).val = (y 0).val) : x = y := by
  funext a
  rw [show a = 0 from Subsingleton.elim a 0]
  exact Fin.ext h

theorem idx1_lt {n : ℕ} (x : (⟨1, ![n]⟩ : Shape).Idx) : (x 0).val < n := (x 0).isLt

theorem idx1_eta {n : ℕ} (x : (⟨1, ![n]⟩ : Shape).Idx) : at1 (x 0).val (idx1_lt x) = x := idx1_ext rfl

/-- Chunk `u` of trip `k` at lane `x`. -/
theorem chk_apply (f : FVec F S4096 .f32) (k : Fin k0_t2_loop.trips) (u : Fin 2) (x : S16.Idx) :
    chk f k u x = f (at1 (32 * k.val + 16 * u.val + (x 0).val) (by
      have hk : k.val < 128 := k.isLt
      have := u.isLt; have := idx1_lt x; omega)) := by
  show f _ = f _
  congr 1
  apply idx1_ext
  show (k0_off4 k (BitVec.ofNat 32 (16 * u.val))) 0 + 1 * (x 0).val = _
  rw [off4_eq]
  simp

/-- What writing chunk `u` of trip `k` leaves at `j`. -/
theorem putc_apply (f : FVec F S4096 .f32) (k : Fin k0_t2_loop.trips) (u : Fin 2) (v : FVec F S16 .f32) (j : S4096.Idx) :
    putc f k u v j = if h : 32 * k.val + 16 * u.val ≤ (j 0).val ∧ (j 0).val < 32 * k.val + 16 * u.val + 16
      then v (at1 ((j 0).val - (32 * k.val + 16 * u.val)) (by omega)) else f j := by
  split
  · rename_i h
    refine View.read_writes_cons_hit_of_coords (Val := Elt F) (Memref.whole cc0_scratch6).view f (rct k u) v [] _ j fun a => ?_
    rw [show a = 0 from Subsingleton.elim (α := Fin 1) a 0]
    show (j 0).val = (k0_off4 k (BitVec.ofNat 32 (16 * u.val))) 0 + 1 * ((j 0).val - (32 * k.val + 16 * u.val))
    rw [off4_eq]
    show (j 0).val = 32 * k.val + 16 * u.val + 1 * ((j 0).val - (32 * k.val + 16 * u.val))
    omega
  · rename_i h
    refine View.read_writes_cons_miss_of_axis (Val := Elt F) (Memref.whole cc0_scratch6).view f ⟨rct k u, v⟩ [] j 0
      (32 * k.val + 16 * u.val) 16 ?_ rfl rfl (by omega)
    show (k0_off4 k (BitVec.ofNat 32 (16 * u.val))) 0 = _
    rw [off4_eq]
    rfl

variable [FloatOps F] [Named F]

theorem fillM_apply (f : FVec F S4096 .f32) (n : ℕ) (hn : n ≤ 256) (j : S4096.Idx) :
    fillM f n j = if (j 0).val < 16 * n then bigW else f j := by
  induction n with
  | zero => simp [fillM]
  | succ n ih =>
    have hk : n < k0_t1_loop.trips := hn
    rw [fillM, dif_pos hk]
    by_cases h : 16 * n ≤ (j 0).val ∧ (j 0).val < 16 * n + 16
    · rw [if_pos (by omega)]
      refine (View.read_writes_cons_hit_of_coords (Val := Elt F) (Memref.whole cc0_scratch6).view (fillM f n) (rct1 ⟨n, hk⟩) k0_pay221 []
        (at1 ((j 0).val - 16 * n) (by omega)) j fun a => ?_).trans rfl
      rw [show a = 0 from Subsingleton.elim (α := Fin 1) a 0]
      show (j 0).val = (k0_off3 ⟨n, hk⟩) 0 + 1 * ((j 0).val - 16 * n)
      rw [off3_eq]
      show (j 0).val = 16 * n + 1 * ((j 0).val - 16 * n)
      omega
    · refine (View.read_writes_cons_miss_of_axis (Val := Elt F) (Memref.whole cc0_scratch6).view (fillM f n) ⟨rct1 ⟨n, hk⟩, k0_pay221⟩ [] j 0
        (16 * n) 16 ?_ rfl rfl (by omega)).trans ?_
      · show (k0_off3 ⟨n, hk⟩) 0 = _
        rw [off3_eq]
        rfl
      · refine (ih (by omega)).trans ?_
        by_cases h2 : (j 0).val < 16 * n
        · rw [if_pos h2, if_pos (by omega)]
        · rw [if_neg h2, if_neg (by omega)]

/-- The first loop leaves the large number everywhere. -/
theorem fillM_all (f : FVec F S4096 .f32) : fillM f k0_t1_loop.trips = fun _ => bigW := by
  funext j
  rw [show k0_t1_loop.trips = 256 from rfl, fillM_apply f 256 le_rfl, if_pos (by have := idx1_lt j; omega)]

/-! ## The tile's own vectors, of the array `fw` that all tiles read -/

/-- One coordinate of all points. -/
def sect (fw : FVec F S24576 .f32) (o : Fin 3) : FVec F S4096 .f32 :=
  fun j => fw (at1 (12288 + 4096 * o.val + (j 0).val) (by have := idx1_lt j; have := o.isLt; omega))

/-- One coordinate of sixteen of the tile's queries. -/
def qv (fw : FVec F S24576 .f32) (w : Fin 32) (o : Fin 3) (hf : Fin 2) : FVec F S16 .f32 :=
  fun j => fw (at1 (4096 * o.val + (3072 + 32 * w.val) + 16 * hf.val + (j 0).val)
    (by have := idx1_lt j; have := o.isLt; have := w.isLt; have := hf.isLt; omega))

/-- The carry after the scan of a block of eight queries. -/
def blk (fw : FVec F S24576 .f32) (w : Fin 32) (hf : Fin 2) (hi : Bool) : Carry F :=
  scanC io (bqs hi (qv fw w 0 hf)) (bqs hi (qv fw w 1 hf)) (bqs hi (qv fw w 2 hf)) (sect fw 0) (sect fw 1) (sect fw 2) k0_t2_loop.trips

/-- The column minima after the scan of a block of eight queries. -/
def blkM (fw : FVec F S24576 .f32) (w : Fin 32) (hf : Fin 2) (hi : Bool) (fm : FVec F S4096 .f32) : FVec F S4096 .f32 :=
  scanM (bqs hi (qv fw w 0 hf)) (bqs hi (qv fw w 1 hf)) (bqs hi (qv fw w 2 hf)) (sect fw 0) (sect fw 1) (sect fw 2) fm k0_t2_loop.trips

/-- The minima of sixteen queries over what the lanes held before. -/
def halfM (fw : FVec F S24576 .f32) (w : Fin 32) (hf : Fin 2) (acc : FVec F S16 .f32) : FVec F S16 .f32 :=
  accM io true (cM (blk fw w hf true)) (accM io false (cM (blk fw w hf false)) acc)

/-- The indices of sixteen queries over what the lanes held before. -/
def halfI (fw : FVec F S24576 .f32) (w : Fin 32) (hf : Fin 2) (acc : IVec S16 32) : IVec S16 32 :=
  accI io true (cM (blk fw w hf true)) (cI (blk fw w hf true)) (accI io false (cM (blk fw w hf false)) (cI (blk fw w hf false)) acc)

abbrev zeroM : FVec F S16 .f32 := broadcast S16 (Scalar.ofBits .f32 0x00000000#32)

/-- The minima of the first and of the last sixteen queries. -/
def mins0 (fw : FVec F S24576 .f32) (w : Fin 32) : FVec F S16 .f32 := halfM fw w 0 zeroM
def mins1 (fw : FVec F S24576 .f32) (w : Fin 32) : FVec F S16 .f32 := halfM fw w 1 (mins0 fw w)

/-- The indices of the first and of the last sixteen queries. -/
def idxs0 (fw : FVec F S24576 .f32) (w : Fin 32) : IVec S16 32 := halfI fw w 0 (broadcast S16 0#32)
def idxs1 (fw : FVec F S24576 .f32) (w : Fin 32) : IVec S16 32 := halfI fw w 1 (idxs0 fw w)

/-- Two halves of sixteen side by side. -/
def join2 {α : Type} (a b : S16.Idx → α) : S32.Idx → α := fun j =>
  if h : (j 0).val < 16 then a (at1 (j 0).val h) else b (at1 ((j 0).val - 16) (by have := idx1_lt j; omega))

/-- The column minima of the tile. -/
def colT (fw : FVec F S24576 .f32) (w : Fin 32) : FVec F S4096 .f32 :=
  blkM fw w 1 true (blkM fw w 1 false (blkM fw w 0 true (blkM fw w 0 false (fun _ => bigW))))

/-- The sums of the tile's lanes. -/
def sumT (fw : FVec F S24576 .f32) (w : Fin 32) : FVec F S16 .f32 := addf (addf zeroM (mins0 fw w)) (mins1 fw w)

/-! ## The arrays that all tiles write together -/

def outCh (fw : FVec F S24576 .f32) : FVec F S1024 .f32 := fun j =>
  join2 (mins0 fw ⟨(j 0).val / 32, by have := idx1_lt j; omega⟩) (mins1 fw ⟨(j 0).val / 32, by have := idx1_lt j; omega⟩) (at1 ((j 0).val % 32) (by omega))

def outIx (fw : FVec F S24576 .f32) : IVec S1024 32 := fun j =>
  join2 (idxs0 fw ⟨(j 0).val / 32, by have := idx1_lt j; omega⟩) (idxs1 fw ⟨(j 0).val / 32, by have := idx1_lt j; omega⟩) (at1 ((j 0).val % 32) (by omega))

def outCo (fw : FVec F S24576 .f32) : FVec F S131072 .f32 := fun j =>
  colT fw ⟨(j 0).val / 4096, by have := idx1_lt j; omega⟩ (at1 ((j 0).val % 4096) (by omega))

def outSu (fw : FVec F S24576 .f32) : FVec F S512 .f32 := fun j =>
  sumT fw ⟨(j 0).val / 16, by have := idx1_lt j; omega⟩ (at1 ((j 0).val % 16) (by omega))

/-- The number of a tile. -/
abbrev wid (L : grid0.Coords) : Fin 32 :=
  ⟨16 * (L 0).val + (L 1).val, by have h0 : (L 0).val < 2 := (L 0).isLt; have h1 : (L 1).val < 16 := (L 1).isLt; omega⟩

theorem L0_lt (L : grid0.Coords) : (L 0).val < 2 := (L 0).isLt
theorem L1_lt (L : grid0.Coords) : (L 1).val < 16 := (L 1).isLt

theorem off1_eq (L : grid0.Coords) : k0_off1 L = ![3072 + 32 * (wid L).val] := by
  have h0 := L0_lt L; have h1 := L1_lt L
  show (![_] : Fin 1 → ℕ) = _
  congr 1
  simp only [Scalar.addi, Scalar.muli, IntOp.addi, IntOp.muli, BitVec.toNat_add, BitVec.toNat_mul, BitVec.toNat_ofNat]
  omega

theorem off2_eq (L : grid0.Coords) (r : Fin 2) : k0_off2 L (BitVec.ofNat 32 (4096 + 4096 * r.val)) = ![4096 * (r.val + 1) + (3072 + 32 * (wid L).val)] := by
  have h0 := L0_lt L; have h1 := L1_lt L; have := r.isLt
  show (![_] : Fin 1 → ℕ) = _
  congr 1
  simp only [Scalar.addi, Scalar.muli, IntOp.addi, IntOp.muli, BitVec.toNat_add, BitVec.toNat_mul, BitVec.toNat_ofNat]
  omega

theorem off8_eq (L : grid0.Coords) : k0_off8 L = ![32 * (wid L).val] := by
  have h0 := L0_lt L; have h1 := L1_lt L
  show (![_] : Fin 1 → ℕ) = _
  congr 1
  simp only [Scalar.addi, Scalar.muli, IntOp.addi, IntOp.muli, BitVec.toNat_add, BitVec.toNat_mul, BitVec.toNat_ofNat]
  omega

theorem off9_eq (L : grid0.Coords) : k0_off9 L = ![4096 * (wid L).val] := by
  have h0 := L0_lt L; have h1 := L1_lt L
  show (![_] : Fin 1 → ℕ) = _
  congr 1
  simp only [Scalar.addi, Scalar.muli, IntOp.addi, IntOp.muli, BitVec.toNat_add, BitVec.toNat_mul, BitVec.toNat_ofNat]
  omega

theorem off10_eq (L : grid0.Coords) : k0_off10 L = ![16 * (wid L).val] := by
  have h0 := L0_lt L; have h1 := L1_lt L
  show (![_] : Fin 1 → ℕ) = _
  congr 1
  simp only [Scalar.addi, Scalar.muli, IntOp.addi, IntOp.muli, BitVec.toNat_add, BitVec.toNat_mul, BitVec.toNat_ofNat]
  omega

end Cert.KernelIdeal.KI
-- ==== Proof.KI.TileVals.lean ====
module

public import proofs.«01_k».proof.Proof.KI.Vals

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pxW" => (Memref.whole Cert.KernelIdeal.cc0_scratch0 : Memref Cert.KernelIdeal.sig Kind.scVector Space.vmem Cert.KernelIdeal.S4096 EltTy.f32)
local notation "pyW" => (Memref.whole Cert.KernelIdeal.cc0_scratch1 : Memref Cert.KernelIdeal.sig Kind.scVector Space.vmem Cert.KernelIdeal.S4096 EltTy.f32)
local notation "pzW" => (Memref.whole Cert.KernelIdeal.cc0_scratch2 : Memref Cert.KernelIdeal.sig Kind.scVector Space.vmem Cert.KernelIdeal.S4096 EltTy.f32)
local notation "cmW" => (Memref.whole Cert.KernelIdeal.cc0_scratch6 : Memref Cert.KernelIdeal.sig Kind.scVector Space.vmem Cert.KernelIdeal.S4096 EltTy.f32)

local notation "wpW" => (Memref.whole Cert.KernelIdeal.main_v12_scv : Memref Cert.KernelIdeal.sig Kind.scVector Space.hbm Cert.KernelIdeal.S24576 EltTy.f32)
local notation "chW" => (Memref.whole Cert.KernelIdeal.main_v13_0_scv : Memref Cert.KernelIdeal.sig Kind.scVector Space.hbm Cert.KernelIdeal.S1024 EltTy.f32)
local notation "ixW" => (Memref.whole Cert.KernelIdeal.main_v13_1_scv : Memref Cert.KernelIdeal.sig Kind.scVector Space.hbm Cert.KernelIdeal.S1024 EltTy.i32)
local notation "coW" => (Memref.whole Cert.KernelIdeal.main_v13_2_scv : Memref Cert.KernelIdeal.sig Kind.scVector Space.hbm Cert.KernelIdeal.S131072 EltTy.f32)
local notation "suW" => (Memref.whole Cert.KernelIdeal.main_v13_3_scv : Memref Cert.KernelIdeal.sig Kind.scVector Space.hbm Cert.KernelIdeal.S512 EltTy.f32)
local notation "qxW" => (Memref.whole Cert.KernelIdeal.cc0_scratch3 : Memref Cert.KernelIdeal.sig Kind.scVector Space.vmem Cert.KernelIdeal.S32 EltTy.f32)
local notation "qyW" => (Memref.whole Cert.KernelIdeal.cc0_scratch4 : Memref Cert.KernelIdeal.sig Kind.scVector Space.vmem Cert.KernelIdeal.S32 EltTy.f32)
local notation "qzW" => (Memref.whole Cert.KernelIdeal.cc0_scratch5 : Memref Cert.KernelIdeal.sig Kind.scVector Space.vmem Cert.KernelIdeal.S32 EltTy.f32)
local notation "caW" => (Memref.whole Cert.KernelIdeal.cc0_scratch7 : Memref Cert.KernelIdeal.sig Kind.scVector Space.vmem Cert.KernelIdeal.S32 EltTy.f32)
local notation "iaW" => (Memref.whole Cert.KernelIdeal.cc0_scratch8 : Memref Cert.KernelIdeal.sig Kind.scVector Space.vmem Cert.KernelIdeal.S32 EltTy.i32)
local notation "saW" => (Memref.whole Cert.KernelIdeal.cc0_scratch9 : Memref Cert.KernelIdeal.sig Kind.scVector Space.vmem Cert.KernelIdeal.S16 EltTy.f32)

variable [FloatOps F] [Named F]

abbrev cV (L : grid0.Coords) : Fin τ.nSC := (L 0).castLE hcore0
abbrev jV (L : grid0.Coords) : Fin τ.nSub := (L 1).castLE hsub0

abbrev scell (d : Dev nD) (L : grid0.Coords) (r : DmaSems sig S_) : GSem nD τ sig := (V d (cV L) (jV L), SemLoc.dma r.sem)

abbrev chS (L : grid0.Coords) : Memref sig .scVector .hbm S32 .f32 := (chW).slice (Rect.unit (s := S1024) (k0_off8 L) S32.size (k0_off8_inb L)) (fun _ => rfl)
abbrev ixS (L : grid0.Coords) : Memref sig .scVector .hbm S32 .i32 := (ixW).slice (Rect.unit (s := S1024) (k0_off8 L) S32.size (k0_off8_inb L)) (fun _ => rfl)
abbrev coS (L : grid0.Coords) : Memref sig .scVector .hbm S4096 .f32 := (coW).slice (Rect.unit (s := S131072) (k0_off9 L) S4096.size (k0_off9_inb L)) (fun _ => rfl)
abbrev suS (L : grid0.Coords) : Memref sig .scVector .hbm S16 .f32 := (suW).slice (Rect.unit (s := S512) (k0_off10 L) S16.size (k0_off10_inb L)) (fun _ => rfl)

/-! ## The values of one run -/

theorem sect0_eq (fw : FVec F S24576 .f32) (o : Fin 3) (b : ℕ) (h : ∀ a, (![b] : Fin 1 → ℕ) a + S4096.size a ≤ S24576.size a)
    (hb : b = 12288 + 4096 * o.val) :
    (View.read (Elt F) ((wpW).slice (Rect.unit (s := S24576) ![b] S4096.size h) (fun _ => rfl)).view fw : FVec F S4096 .f32) = sect fw o := by
  funext j
  show fw _ = fw _
  congr 1
  apply idx1_ext
  show b + 1 * (j 0).val = 12288 + 4096 * o.val + (j 0).val
  omega

theorem quer_eq (fw : FVec F S24576 .f32) (w : Fin 32) (o : Fin 3) (off : Fin 1 → ℕ) (h : ∀ a, off a + S32.size a ≤ S24576.size a)
    (ho : off = ![4096 * o.val + (3072 + 32 * w.val)]) (hf : Fin 2) (b : ℕ) (hb : b = 16 * hf.val) (h' : ∀ a, (![b] : Fin 1 → ℕ) a + S16.size a ≤ S32.size a) :
    (View.readAt (Elt F) (qxW).view (Rect.unit (s := S32) ![b] S16.size h').toLoadRect
      (View.read (Elt F) ((wpW).slice (Rect.unit (s := S24576) off S32.size h) (fun _ => rfl)).view fw) : FVec F S16 .f32) = qv fw w o hf := by
  subst ho hb
  funext j
  show fw _ = fw _
  congr 1
  apply idx1_ext
  show 4096 * o.val + (3072 + 32 * w.val) + 1 * (16 * hf.val + 1 * (j 0).val) = 4096 * o.val + (3072 + 32 * w.val) + 16 * hf.val + (j 0).val
  omega

theorem off1_at (L : grid0.Coords) : k0_off1 L = ![4096 * (0 : Fin 3).val + (3072 + 32 * (wid L).val)] := by
  rw [off1_eq]; simp

theorem off2_at1 (L : grid0.Coords) : k0_off2 L 4096#32 = ![4096 * (1 : Fin 3).val + (3072 + 32 * (wid L).val)] := off2_eq L 0

theorem off2_at2 (L : grid0.Coords) : k0_off2 L 8192#32 = ![4096 * (2 : Fin 3).val + (3072 + 32 * (wid L).val)] := off2_eq L 1

/-- Two stores of sixteen numbers cover thirty-two. -/
theorem join2_eq {e : EltTy} (b : Memref sig .scVector .vmem S32 e) (f : b.view.ty.Contents (Elt F)) (x y : S16.Idx → Elt F e) :
    b.view.read (Elt F) (b.view.writes (Elt F) f [⟨Rect.unit (s := S32) ![16] S16.size inb_S32_S16_16, y⟩,
      ⟨Rect.unit (s := S32) ![0] S16.size inb_S32_S16_0, x⟩]) = join2 x y := by
  funext j
  unfold join2
  split
  · rename_i h
    rw [View.read_writes_cons_miss_of_axis (Val := Elt F) b.view f ⟨Rect.unit (s := S32) ![16] S16.size inb_S32_S16_16, y⟩ _ j 0 16 16 rfl rfl rfl (by omega)]
    refine View.read_writes_cons_hit_of_coords (Val := Elt F) b.view f (Rect.unit (s := S32) ![0] S16.size inb_S32_S16_0) x [] _ j fun a => ?_
    rw [show a = 0 from Subsingleton.elim (α := Fin 1) a 0]
    show (j 0).val = 0 + 1 * (j 0).val
    omega
  · rename_i h
    refine View.read_writes_cons_hit_of_coords (Val := Elt F) b.view f (Rect.unit (s := S32) ![16] S16.size inb_S32_S16_16) y _ _ j fun a => ?_
    rw [show a = 0 from Subsingleton.elim (α := Fin 1) a 0]
    show (j 0).val = 16 + 1 * ((j 0).val - 16)
    omega

theorem join2_lo {α : Type} (x y : S16.Idx → α) :
    (fun j : S16.Idx => join2 x y (at1 (0 + 1 * (j 0).val) (by have := idx1_lt j; omega))) = x := by
  funext j
  have := idx1_lt j
  unfold join2
  rw [dif_pos (show 0 + 1 * (j 0).val < 16 by omega)]
  congr 1
  apply idx1_ext
  show 0 + 1 * (j 0).val = (j 0).val
  omega

theorem join2_hi {α : Type} (x y : S16.Idx → α) :
    (fun j : S16.Idx => join2 x y (at1 (16 + 1 * (j 0).val) (by have := idx1_lt j; omega))) = y := by
  funext j
  have := idx1_lt j
  unfold join2
  rw [dif_neg (show ¬ 16 + 1 * (j 0).val < 16 by omega)]
  congr 1
  apply idx1_ext
  show 16 + 1 * (j 0).val - 16 = (j 0).val
  omega

/-- Reading back the first and the last sixteen. -/
theorem readCov_lo (x y : FVec F S16 .f32) :
    ((caW).view.readCov (Val := Elt F) [⟨Rect.unit (s := S32) ![16] S16.size inb_S32_S16_16, y⟩, ⟨Rect.unit (s := S32) ![0] S16.size inb_S32_S16_0, x⟩]
      (Rect.unit (s := S32) ![0] S16.size inb_S32_S16_0).toLoadRect : FVec F S16 .f32) = x := by
  refine Eq.trans ?_ (join2_lo x y)
  funext j
  exact congrFun (join2_eq (caW) _ x y) _

theorem readCov_hi (x y : FVec F S16 .f32) :
    ((caW).view.readCov (Val := Elt F) [⟨Rect.unit (s := S32) ![16] S16.size inb_S32_S16_16, y⟩, ⟨Rect.unit (s := S32) ![0] S16.size inb_S32_S16_0, x⟩]
      (Rect.unit (s := S32) ![16] S16.size inb_S32_S16_16).toLoadRect : FVec F S16 .f32) = y := by
  refine Eq.trans ?_ (join2_hi x y)
  funext j
  exact congrFun (join2_eq (caW) _ x y) _

/-- One store of sixteen numbers covers sixteen. -/
theorem whole16_eq (f : FVec F S16 .f32) (x : FVec F S16 .f32) :
    ((saW).view.read (Elt F) ((saW).view.writes (Elt F) f [⟨Rect.unit (s := S16) ![0] S16.size inb_S16_S16_0, x⟩]) : FVec F S16 .f32) = x := by
  funext j
  refine View.read_writes_cons_hit_of_coords (Val := Elt F) (saW).view f (Rect.unit (s := S16) ![0] S16.size inb_S16_S16_0) x [] j j fun a => ?_
  rw [show a = 0 from Subsingleton.elim (α := Fin 1) a 0]
  show (j 0).val = 0 + 1 * (j 0).val
  omega

/-! ## The rows of the arrays -/

/-- What a function of the tile and of the place in its row holds at one element. -/
theorem row_at {n N T : ℕ} {α : Type} (hn : 0 < n) (g : Fin T → (⟨1, ![n]⟩ : Shape).Idx → α) (hT : ∀ j : (⟨1, ![N]⟩ : Shape).Idx, (j 0).val / n < T)
    (w : Fin T) (x : (⟨1, ![n]⟩ : Shape).Idx) (j : (⟨1, ![N]⟩ : Shape).Idx) (hj : (j 0).val = n * w.val + (x 0).val) :
    g ⟨(j 0).val / n, hT j⟩ (at1 ((j 0).val % n) (Nat.mod_lt _ hn)) = g w x := by
  have hx := idx1_lt x
  have e1 : (⟨(j 0).val / n, hT j⟩ : Fin T) = w := Fin.ext (by
    show (j 0).val / n = w.val
    rw [hj, Nat.mul_add_div hn, Nat.div_eq_of_lt hx, Nat.add_zero])
  have e2 : (at1 ((j 0).val % n) (Nat.mod_lt _ hn) : (⟨1, ![n]⟩ : Shape).Idx) = x := idx1_ext (by
    show (j 0).val % n = (x 0).val
    rw [hj, Nat.mul_add_mod, Nat.mod_eq_of_lt hx])
  rw [e1, e2]

/-- What a copy of a whole row leaves at one element of the row. -/
theorem landed_at {κ : Kind} {sp : Space} {s : Shape} {e : EltTy} (v : View sig κ sp s e) (f : v.ty.Contents (Elt F)) (w : s.Idx → Elt F e) (x : s.Idx)
    (i : v.ty.Idx) (hi : i = v.emb x) :
    v.writes (Elt F) f [⟨Rect.whole s, w⟩] i = cast (congrArg (Elt F) v.elt_eq.symm) (w x) := by
  have e : i = (v.slice (Rect.whole s)).emb x := by
    rw [hi]
    show v.emb x = v.emb ((Rect.whole s).emb x)
    congr 1
    funext a
    apply Fin.ext
    show (x a).val = 0 + 1 * (x a).val
    omega
  rw [View.writes_singleton, e, View.write_emb_of_mem _ _ (Finset.mem_univ x)]

theorem outCh_at (fw : FVec F S24576 .f32) (w : Fin 32) (x : S32.Idx) (j : S1024.Idx) (hj : (j 0).val = 32 * w.val + (x 0).val) :
    outCh fw j = (join2 (mins0 fw w) (mins1 fw w)) x :=
  row_at (n := 32) (N := 1024) (T := 32) (by decide) (fun w => join2 (mins0 fw w) (mins1 fw w)) (fun j => by have := idx1_lt j; omega) w x j hj

theorem rowCh (fw : FVec F S24576 .f32) (L : grid0.Coords) (f : FVec F S1024 .f32) :
    ∀ i ∈ (chS L).view.set, ((chS L).view.writes (Elt F) f [⟨Rect.whole S32, join2 (mins0 fw (wid L)) (mins1 fw (wid L))⟩] : FVec F S1024 .f32) i = outCh fw i := by
  intro i hi
  obtain ⟨x, -, rfl⟩ := Finset.mem_map.mp hi
  rw [outCh_at fw (wid L) x]
  · exact landed_at (chS L).view f _ x _ rfl
  · show (k0_off8 L) 0 + 1 * (x 0).val = _
    rw [off8_eq]
    show 32 * (wid L).val + 1 * (x 0).val = _
    omega

theorem outIx_at (fw : FVec F S24576 .f32) (w : Fin 32) (x : S32.Idx) (j : S1024.Idx) (hj : (j 0).val = 32 * w.val + (x 0).val) :
    outIx fw j = (join2 (idxs0 fw w) (idxs1 fw w)) x :=
  row_at (n := 32) (N := 1024) (T := 32) (by decide) (fun w => join2 (idxs0 fw w) (idxs1 fw w)) (fun j => by have := idx1_lt j; omega) w x j hj

theorem rowIx (fw : FVec F S24576 .f32) (L : grid0.Coords) (f : IVec S1024 32) :
    ∀ i ∈ (ixS L).view.set, ((ixS L).view.writes (Elt F) f [⟨Rect.whole S32, join2 (idxs0 fw (wid L)) (idxs1 fw (wid L))⟩] : IVec S1024 32) i = outIx fw i := by
  intro i hi
  obtain ⟨x, -, rfl⟩ := Finset.mem_map.mp hi
  rw [outIx_at fw (wid L) x]
  · exact landed_at (ixS L).view f _ x _ rfl
  · show (k0_off8 L) 0 + 1 * (x 0).val = _
    rw [off8_eq]
    show 32 * (wid L).val + 1 * (x 0).val = _
    omega

theorem outCo_at (fw : FVec F S24576 .f32) (w : Fin 32) (x : S4096.Idx) (j : S131072.Idx) (hj : (j 0).val = 4096 * w.val + (x 0).val) :
    outCo fw j = colT fw w x :=
  row_at (n := 4096) (N := 131072) (T := 32) (by decide) (fun w => colT fw w) (fun j => by have := idx1_lt j; omega) w x j hj

theorem rowCo (fw : FVec F S24576 .f32) (L : grid0.Coords) (f : FVec F S131072 .f32) :
    ∀ i ∈ (coS L).view.set, ((coS L).view.writes (Elt F) f [⟨Rect.whole S4096, colT fw (wid L)⟩] : FVec F S131072 .f32) i = outCo fw i := by
  intro i hi
  obtain ⟨x, -, rfl⟩ := Finset.mem_map.mp hi
  rw [outCo_at fw (wid L) x]
  · exact landed_at (coS L).view f _ x _ rfl
  · show (k0_off9 L) 0 + 1 * (x 0).val = _
    rw [off9_eq]
    show 4096 * (wid L).val + 1 * (x 0).val = _
    omega

theorem outSu_at (fw : FVec F S24576 .f32) (w : Fin 32) (x : S16.Idx) (j : S512.Idx) (hj : (j 0).val = 16 * w.val + (x 0).val) :
    outSu fw j = sumT fw w x :=
  row_at (n := 16) (N := 512) (T := 32) (by decide) (fun w => sumT fw w) (fun j => by have := idx1_lt j; omega) w x j hj

theorem rowSu (fw : FVec F S24576 .f32) (L : grid0.Coords) (f : FVec F S512 .f32) :
    ∀ i ∈ (suS L).view.set, ((suS L).view.writes (Elt F) f [⟨Rect.whole S16, sumT fw (wid L)⟩] : FVec F S512 .f32) i = outSu fw i := by
  intro i hi
  obtain ⟨x, -, rfl⟩ := Finset.mem_map.mp hi
  rw [outSu_at fw (wid L) x]
  · exact landed_at (suS L).view f _ x _ rfl
  · show (k0_off10 L) 0 + 1 * (x 0).val = _
    rw [off10_eq]
    show 16 * (wid L).val + 1 * (x 0).val = _
    omega

end Cert.KernelIdeal.KI
-- ==== Proof.KI.Tile.lean ====
module

public import proofs.«01_k».proof.Proof.KI.TileVals

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pxW" => (Memref.whole Cert.KernelIdeal.cc0_scratch0 : Memref Cert.KernelIdeal.sig Kind.scVector Space.vmem Cert.KernelIdeal.S4096 EltTy.f32)
local notation "pyW" => (Memref.whole Cert.KernelIdeal.cc0_scratch1 : Memref Cert.KernelIdeal.sig Kind.scVector Space.vmem Cert.KernelIdeal.S4096 EltTy.f32)
local notation "pzW" => (Memref.whole Cert.KernelIdeal.cc0_scratch2 : Memref Cert.KernelIdeal.sig Kind.scVector Space.vmem Cert.KernelIdeal.S4096 EltTy.f32)
local notation "cmW" => (Memref.whole Cert.KernelIdeal.cc0_scratch6 : Memref Cert.KernelIdeal.sig Kind.scVector Space.vmem Cert.KernelIdeal.S4096 EltTy.f32)

local notation "wpW" => (Memref.whole Cert.KernelIdeal.main_v12_scv : Memref Cert.KernelIdeal.sig Kind.scVector Space.hbm Cert.KernelIdeal.S24576 EltTy.f32)
local notation "chW" => (Memref.whole Cert.KernelIdeal.main_v13_0_scv : Memref Cert.KernelIdeal.sig Kind.scVector Space.hbm Cert.KernelIdeal.S1024 EltTy.f32)
local notation "ixW" => (Memref.whole Cert.KernelIdeal.main_v13_1_scv : Memref Cert.KernelIdeal.sig Kind.scVector Space.hbm Cert.KernelIdeal.S1024 EltTy.i32)
local notation "coW" => (Memref.whole Cert.KernelIdeal.main_v13_2_scv : Memref Cert.KernelIdeal.sig Kind.scVector Space.hbm Cert.KernelIdeal.S131072 EltTy.f32)
local notation "suW" => (Memref.whole Cert.KernelIdeal.main_v13_3_scv : Memref Cert.KernelIdeal.sig Kind.scVector Space.hbm Cert.KernelIdeal.S512 EltTy.f32)
local notation "qxW" => (Memref.whole Cert.KernelIdeal.cc0_scratch3 : Memref Cert.KernelIdeal.sig Kind.scVector Space.vmem Cert.KernelIdeal.S32 EltTy.f32)
local notation "qyW" => (Memref.whole Cert.KernelIdeal.cc0_scratch4 : Memref Cert.KernelIdeal.sig Kind.scVector Space.vmem Cert.KernelIdeal.S32 EltTy.f32)
local notation "qzW" => (Memref.whole Cert.KernelIdeal.cc0_scratch5 : Memref Cert.KernelIdeal.sig Kind.scVector Space.vmem Cert.KernelIdeal.S32 EltTy.f32)
local notation "caW" => (Memref.whole Cert.KernelIdeal.cc0_scratch7 : Memref Cert.KernelIdeal.sig Kind.scVector Space.vmem Cert.KernelIdeal.S32 EltTy.f32)
local notation "iaW" => (Memref.whole Cert.KernelIdeal.cc0_scratch8 : Memref Cert.KernelIdeal.sig Kind.scVector Space.vmem Cert.KernelIdeal.S32 EltTy.i32)
local notation "saW" => (Memref.whole Cert.KernelIdeal.cc0_scratch9 : Memref Cert.KernelIdeal.sig Kind.scVector Space.vmem Cert.KernelIdeal.S16 EltTy.f32)

variable [FloatOps F] [Named F]

/-- A buffer written whole holds what was written. -/
theorem land (c : Thread nD τ) (b : Ref sig c.2.kind) (f w : b.ty.Contents (Elt F)) :
    ((Memref.whole b).view.loc c ↦{fullShare} (Memref.whole b).view.write (Elt F) f w Finset.univ : sProp 𝕄)
      ⊢ (Memref.whole b).view.loc c ↦{fullShare} w := by
  have e : (Memref.whole b).view.write (Elt F) f w Finset.univ = w := View.write_whole_univ b f w
  rw [e]

/-- One more wait on a copy adds only a wait of no turn. -/
theorem ins_ok {W W₀ : Waits sig (HIx 1)} (h : ∀ p ∈ W, p ∈ W₀ ∨ p.2 = none) (s : SemLoc sig) :
    ∀ p ∈ insert (s, (default : HIx 1)) W, p ∈ W₀ ∨ p.2 = none := by
  intro p hp
  rcases Finset.mem_insert.mp hp with e | hp
  · exact .inr (by rw [e]; rfl)
  · exact h p hp

theorem landCh (d : Dev nD) (L : grid0.Coords) (fw : FVec F S24576 .f32) (f : FVec F S1024 .f32) (x : S32.Idx → Elt F .f32) (h : x = join2 (mins0 fw (wid L)) (mins1 fw (wid L))) :
    ((chS L).view.loc (V d (cV L) (jV L)) ↦[(chS L).view.set]{fullShare} ((chS L).view.writes (Elt F) f [⟨Rect.whole S32, x⟩] : FVec F S1024 .f32) : sProp 𝕄)
      ⊢ (chS L).view.loc (V d (cV L) (jV L)) ↦[(chS L).view.set]{fullShare} (outCh fw : FVec F S1024 .f32) := by
  subst h
  rw [pointsTo_congr (rowCh fw L f)]

theorem landIx (d : Dev nD) (L : grid0.Coords) (fw : FVec F S24576 .f32) (f : IVec S1024 32) (x : S32.Idx → Elt F .i32) (h : x = join2 (idxs0 fw (wid L)) (idxs1 fw (wid L))) :
    ((ixS L).view.loc (V d (cV L) (jV L)) ↦[(ixS L).view.set]{fullShare} ((ixS L).view.writes (Elt F) f [⟨Rect.whole S32, x⟩] : IVec S1024 32) : sProp 𝕄)
      ⊢ (ixS L).view.loc (V d (cV L) (jV L)) ↦[(ixS L).view.set]{fullShare} (outIx fw : IVec S1024 32) := by
  subst h
  rw [pointsTo_congr (rowIx fw L f)]

theorem landCo (d : Dev nD) (L : grid0.Coords) (fw : FVec F S24576 .f32) (f : FVec F S131072 .f32) (x : S4096.Idx → Elt F .f32) (h : x = colT fw (wid L)) :
    ((coS L).view.loc (V d (cV L) (jV L)) ↦[(coS L).view.set]{fullShare} ((coS L).view.writes (Elt F) f [⟨Rect.whole S4096, x⟩] : FVec F S131072 .f32) : sProp 𝕄)
      ⊢ (coS L).view.loc (V d (cV L) (jV L)) ↦[(coS L).view.set]{fullShare} (outCo fw : FVec F S131072 .f32) := by
  subst h
  rw [pointsTo_congr (rowCo fw L f)]

theorem landSu (d : Dev nD) (L : grid0.Coords) (fw : FVec F S24576 .f32) (f : FVec F S512 .f32) (x : S16.Idx → Elt F .f32) (h : x = sumT fw (wid L)) :
    ((suS L).view.loc (V d (cV L) (jV L)) ↦[(suS L).view.set]{fullShare} ((suS L).view.writes (Elt F) f [⟨Rect.whole S16, x⟩] : FVec F S512 .f32) : sProp 𝕄)
      ⊢ (suS L).view.loc (V d (cV L) (jV L)) ↦[(suS L).view.set]{fullShare} (outSu fw : FVec F S512 .f32) := by
  subst h
  rw [pointsTo_congr (rowSu fw L f)]

set_option maxHeartbeats 4000000 in
theorem tile_run (d : Dev nD) (L : grid0.Coords) (q : PosShare TreeShare) (O : CellTallies nD τ sig (HIx 1)) (W : Waits sig (HIx 1))
    (fw : FVec F S24576 .f32) (f3 : FVec F S1024 .f32) (f4 : IVec S1024 32) (f5 : FVec F S131072 .f32) (f6 : FVec F S512 .f32)
    (f7 f8 f9 f13 : FVec F S4096 .f32) (f10 f11 f12 f14 : FVec F S32 .f32) (f15 : IVec S32 32) (f16 : FVec F S16 .f32) :
    iprop(Transfers.MayWaits (V d (cV L) (jV L)) (none : HIx 1) O
        ∗ ((wpW).view.loc (V d (cV L) (jV L)) ↦{q} fw)
        ∗ ((chS L).view.loc (V d (cV L) (jV L)) ↦[(chS L).view.set]{fullShare} f3)
        ∗ ((ixS L).view.loc (V d (cV L) (jV L)) ↦[(ixS L).view.set]{fullShare} f4)
        ∗ ((coS L).view.loc (V d (cV L) (jV L)) ↦[(coS L).view.set]{fullShare} f5)
        ∗ ((suS L).view.loc (V d (cV L) (jV L)) ↦[(suS L).view.set]{fullShare} f6)
        ∗ ((pxW).view.loc (V d (cV L) (jV L)) ↦{fullShare} f7)
        ∗ ((pyW).view.loc (V d (cV L) (jV L)) ↦{fullShare} f8)
        ∗ ((pzW).view.loc (V d (cV L) (jV L)) ↦{fullShare} f9)
        ∗ ((qxW).view.loc (V d (cV L) (jV L)) ↦{fullShare} f10)
        ∗ ((qyW).view.loc (V d (cV L) (jV L)) ↦{fullShare} f11)
        ∗ ((qzW).view.loc (V d (cV L) (jV L)) ↦{fullShare} f12)
        ∗ ((cmW).view.loc (V d (cV L) (jV L)) ↦{fullShare} f13)
        ∗ ((caW).view.loc (V d (cV L) (jV L)) ↦{fullShare} f14)
        ∗ ((iaW).view.loc (V d (cV L) (jV L)) ↦{fullShare} f15)
        ∗ ((saW).view.loc (V d (cV L) (jV L)) ↦{fullShare} f16)
        ∗ semVal (scell d L cc0_scoped0) 0
        ∗ semVal (scell d L cc0_scoped1) 0
        ∗ semVal (scell d L cc0_scoped2) 0
        ∗ semVal (scell d L cc0_scoped3) 0
        ∗ semVal (scell d L cc0_scoped4) 0
        ∗ semVal (scell d L cc0_scoped5) 0
        ∗ semVal (scell d L cc0_scoped6) 0
        ∗ semVal (scell d L cc0_scoped7) 0
        ∗ semVal (scell d L cc0_scoped8) 0
        ∗ semVal (scell d L cc0_scoped9) 0
        ∗ owes (V d (cV L) (jV L)) O W)
      ⊢ wp frame (wpE (defs₀ (F := F)) 𝒱₀ (V d (cV L) (jV L)) none) Set.univ
          (tile (F := F) L wpW (Memref.isWhole_whole _) chW (Memref.isWhole_whole _) ixW (Memref.isWhole_whole _) coW (Memref.isWhole_whole _) suW (Memref.isWhole_whole _) pxW (Memref.isWhole_whole _) pyW (Memref.isWhole_whole _) pzW (Memref.isWhole_whole _) qxW (Memref.isWhole_whole _) qyW (Memref.isWhole_whole _) qzW (Memref.isWhole_whole _) cmW (Memref.isWhole_whole _) caW (Memref.isWhole_whole _) iaW (Memref.isWhole_whole _) saW (Memref.isWhole_whole _) cc0_scoped0 cc0_scoped1 cc0_scoped2 cc0_scoped3 cc0_scoped4 cc0_scoped5 cc0_scoped6 cc0_scoped7 cc0_scoped8 cc0_scoped9)
          fun _ => (iprop(((wpW).view.loc (V d (cV L) (jV L)) ↦{q} fw)
            ∗ ((chS L).view.loc (V d (cV L) (jV L)) ↦[(chS L).view.set]{fullShare} (outCh fw : FVec F S1024 .f32))
            ∗ ((ixS L).view.loc (V d (cV L) (jV L)) ↦[(ixS L).view.set]{fullShare} (outIx fw : IVec S1024 32))
            ∗ ((coS L).view.loc (V d (cV L) (jV L)) ↦[(coS L).view.set]{fullShare} (outCo fw : FVec F S131072 .f32))
            ∗ ((suS L).view.loc (V d (cV L) (jV L)) ↦[(suS L).view.set]{fullShare} (outSu fw : FVec F S512 .f32))
            ∗ (∃ f, (pxW).view.loc (V d (cV L) (jV L)) ↦{fullShare} f)
            ∗ (∃ f, (pyW).view.loc (V d (cV L) (jV L)) ↦{fullShare} f)
            ∗ (∃ f, (pzW).view.loc (V d (cV L) (jV L)) ↦{fullShare} f)
            ∗ (∃ f, (qxW).view.loc (V d (cV L) (jV L)) ↦{fullShare} f)
            ∗ (∃ f, (qyW).view.loc (V d (cV L) (jV L)) ↦{fullShare} f)
            ∗ (∃ f, (qzW).view.loc (V d (cV L) (jV L)) ↦{fullShare} f)
            ∗ (∃ f, (cmW).view.loc (V d (cV L) (jV L)) ↦{fullShare} f)
            ∗ (∃ f, (caW).view.loc (V d (cV L) (jV L)) ↦{fullShare} f)
            ∗ (∃ f, (iaW).view.loc (V d (cV L) (jV L)) ↦{fullShare} f)
            ∗ (∃ f, (saW).view.loc (V d (cV L) (jV L)) ↦{fullShare} f)
            ∗ semVal (scell d L cc0_scoped0) 0
            ∗ semVal (scell d L cc0_scoped1) 0
            ∗ semVal (scell d L cc0_scoped2) 0
            ∗ semVal (scell d L cc0_scoped3) 0
            ∗ semVal (scell d L cc0_scoped4) 0
            ∗ semVal (scell d L cc0_scoped5) 0
            ∗ semVal (scell d L cc0_scoped6) 0
            ∗ semVal (scell d L cc0_scoped7) 0
            ∗ semVal (scell d L cc0_scoped8) 0
            ∗ semVal (scell d L cc0_scoped9) 0
            ∗ ∃ W', ⌜∀ p ∈ W', p ∈ W ∨ p.2 = none⌝ ∗ owes (V d (cV L) (jV L)) O W') : sProp 𝕄) := by
  unfold tile
  iintro ⟨Hmw, Hwp, Hch, Hix, Hco, Hsu, Hx, Hy, Hz, Hqx, Hqy, Hqz, Hm, Hca, Hia, Hsa, S0, S1, S2, S3, S4, S5, S6, S7, S8, S9, HO⟩
  sl_exec
  ihave Hx := (land (V d (cV L) (jV L)) cc0_scratch0 _ _) $$ Hx
  ihave Hy := (land (V d (cV L) (jV L)) cc0_scratch1 _ _) $$ Hy
  ihave Hz := (land (V d (cV L) (jV L)) cc0_scratch2 _ _) $$ Hz
  ihave Hqx := (land (V d (cV L) (jV L)) cc0_scratch3 _ _) $$ Hqx
  ihave Hqy := (land (V d (cV L) (jV L)) cc0_scratch4 _ _) $$ Hqy
  ihave Hqz := (land (V d (cV L) (jV L)) cc0_scratch5 _ _) $$ Hqz
  iapply (fill_then (F := F) d L _) $$ [-]
  isplitl [Hm]
  · iexact Hm
  iintro %_ Hm
  unfold fillInv
  sl_exec
  iapply (scan_then (F := F) d (cV L) (jV L) io _ _ _ _ _ _ _ _ _) $$ [-]
  isplitl [Hx Hy Hz Hm]
  · isplitl [Hx]; · iexact Hx
    isplitl [Hy]; · iexact Hy
    isplitl [Hz]; · iexact Hz
    iexact Hm
  unfold scanInv
  iintro %c0 ⟨%hc0, Hx, Hy, Hz, Hm⟩
  subst hc0
  sl_exec
  iapply (scan_then (F := F) d (cV L) (jV L) io _ _ _ _ _ _ _ _ _) $$ [-]
  isplitl [Hx Hy Hz Hm]
  · isplitl [Hx]; · iexact Hx
    isplitl [Hy]; · iexact Hy
    isplitl [Hz]; · iexact Hz
    iexact Hm
  unfold scanInv
  iintro %c1 ⟨%hc1, Hx, Hy, Hz, Hm⟩
  subst hc1
  sl_exec
  iapply (scan_then (F := F) d (cV L) (jV L) io _ _ _ _ _ _ _ _ _) $$ [-]
  isplitl [Hx Hy Hz Hm]
  · isplitl [Hx]; · iexact Hx
    isplitl [Hy]; · iexact Hy
    isplitl [Hz]; · iexact Hz
    iexact Hm
  unfold scanInv
  iintro %c2 ⟨%hc2, Hx, Hy, Hz, Hm⟩
  subst hc2
  sl_exec
  iapply (scan_then (F := F) d (cV L) (jV L) io _ _ _ _ _ _ _ _ _) $$ [-]
  isplitl [Hx Hy Hz Hm]
  · isplitl [Hx]; · iexact Hx
    isplitl [Hy]; · iexact Hy
    isplitl [Hz]; · iexact Hz
    iexact Hm
  unfold scanInv
  iintro %c3 ⟨%hc3, Hx, Hy, Hz, Hm⟩
  subst hc3
  sl_exec
  sl_step
  have d0 : tile_run.sl.dma0 fw = sect fw 0 := sect0_eq fw 0 _ _ rfl
  have d1 : tile_run.sl.dma0_1 fw = sect fw 1 := sect0_eq fw 1 _ _ rfl
  have d2 : tile_run.sl.dma0_2 fw = sect fw 2 := sect0_eq fw 2 _ _ rfl
  have v0 : tile_run.sl.v d L fw = qv fw (wid L) 0 0 := quer_eq fw (wid L) 0 _ _ (off1_at L) 0 _ rfl _
  have v1 : tile_run.sl.v_1 d L fw = qv fw (wid L) 1 0 := quer_eq fw (wid L) 1 _ _ (off2_at1 L) 0 _ rfl _
  have v2 : tile_run.sl.v_2 d L fw = qv fw (wid L) 2 0 := quer_eq fw (wid L) 2 _ _ (off2_at2 L) 0 _ rfl _
  have v3 : tile_run.sl.v_3 d L fw = qv fw (wid L) 0 0 := quer_eq fw (wid L) 0 _ _ (off1_at L) 0 _ rfl _
  have v4 : tile_run.sl.v_4 d L fw = qv fw (wid L) 1 0 := quer_eq fw (wid L) 1 _ _ (off2_at1 L) 0 _ rfl _
  have v5 : tile_run.sl.v_5 d L fw = qv fw (wid L) 2 0 := quer_eq fw (wid L) 2 _ _ (off2_at2 L) 0 _ rfl _
  have v6 : tile_run.sl.v_6 d L fw = qv fw (wid L) 0 1 := quer_eq fw (wid L) 0 _ _ (off1_at L) 1 _ rfl _
  have v7 : tile_run.sl.v_7 d L fw = qv fw (wid L) 1 1 := quer_eq fw (wid L) 1 _ _ (off2_at1 L) 1 _ rfl _
  have v8 : tile_run.sl.v_8 d L fw = qv fw (wid L) 2 1 := quer_eq fw (wid L) 2 _ _ (off2_at2 L) 1 _ rfl _
  have v9 : tile_run.sl.v_9 d L fw = qv fw (wid L) 0 1 := quer_eq fw (wid L) 0 _ _ (off1_at L) 1 _ rfl _
  have v10 : tile_run.sl.v_10 d L fw = qv fw (wid L) 1 1 := quer_eq fw (wid L) 1 _ _ (off2_at1 L) 1 _ rfl _
  have v11 : tile_run.sl.v_11 d L fw = qv fw (wid L) 2 1 := quer_eq fw (wid L) 2 _ _ (off2_at2 L) 1 _ rfl _
  have hca : tile_run.sl.Hca_2 d L fw = [⟨Rect.unit (s := S32) ![16] S16.size inb_S32_S16_16, mins1 fw (wid L)⟩, ⟨Rect.unit (s := S32) ![0] S16.size inb_S32_S16_0, mins0 fw (wid L)⟩] := by
    delta tile_run.sl.Hca_2
    rw [d0, d1, d2, v0, v1, v2, v3, v4, v5, v6, v7, v8, v9, v10, v11]
    rfl
  have hia : tile_run.sl.Hia_2 d L fw = [⟨Rect.unit (s := S32) ![16] S16.size inb_S32_S16_16, idxs1 fw (wid L)⟩, ⟨Rect.unit (s := S32) ![0] S16.size inb_S32_S16_0, idxs0 fw (wid L)⟩] := by
    delta tile_run.sl.Hia_2
    rw [d0, d1, d2, v0, v1, v2, v3, v4, v5, v6, v7, v8, v9, v10, v11]
    rfl
  have v13 : tile_run.sl.v_13 d L fw = mins0 fw (wid L) := by
    delta tile_run.sl.v_13; rw [hca]; exact readCov_lo _ _
  have v14 : tile_run.sl.v_14 d L fw = mins1 fw (wid L) := by
    delta tile_run.sl.v_14; rw [hca]; exact readCov_hi _ _
  have x0 : tile_run.sl.dma8 d L fw f14 = join2 (mins0 fw (wid L)) (mins1 fw (wid L)) := by
    delta tile_run.sl.dma8; rw [hca]; exact join2_eq (caW) f14 _ _
  have x1 : tile_run.sl.dma8_1 d L fw f15 = join2 (idxs0 fw (wid L)) (idxs1 fw (wid L)) := by
    delta tile_run.sl.dma8_1; rw [hia]; exact join2_eq (iaW) f15 _ _
  have x2 : tile_run.sl.dma8_2 d L fw f13 = colT fw (wid L) := by
    delta tile_run.sl.dma8_2
    rw [d0, d1, d2, v0, v1, v2, v3, v4, v5, v6, v7, v8, v9, v10, v11, fillM_all]
    rfl
  have x3 : tile_run.sl.dma8_3 d L fw f16 = sumT fw (wid L) := by
    delta tile_run.sl.dma8_3 tile_run.sl.Hsa_1; rw [v13, v14]; exact whole16_eq f16 _
  ihave Hch := (landCh d L fw f3 _ x0) $$ Hch
  ihave Hix := (landIx d L fw f4 _ x1) $$ Hix
  ihave Hco := (landCo d L fw f5 _ x2) $$ Hco
  ihave Hsu := (landSu d L fw f6 _ x3) $$ Hsu
  isplitl [Hwp]; · iexact Hwp
  isplitl [Hch]; · iexact Hch
  isplitl [Hix]; · iexact Hix
  isplitl [Hco]; · iexact Hco
  isplitl [Hsu]; · iexact Hsu
  isplitl [Hx]; · iexists _; iexact Hx
  isplitl [Hy]; · iexists _; iexact Hy
  isplitl [Hz]; · iexists _; iexact Hz
  isplitl [Hqx]; · iexists _; iexact Hqx
  isplitl [Hqy]; · iexists _; iexact Hqy
  isplitl [Hqz]; · iexists _; iexact Hqz
  isplitl [Hm]; · iexists _; iexact Hm
  isplitl [Hca]; · iexists _; iexact Hca
  isplitl [Hia]; · iexists _; iexact Hia
  isplitl [Hsa]; · iexists _; iexact Hsa
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexists _
  isplitr
  rotate_left
  · iexact HO
  · ipureintro
    exact ins_ok (ins_ok (ins_ok (ins_ok (ins_ok (ins_ok (ins_ok (ins_ok (ins_ok (ins_ok (fun p hp => .inl hp) _) _) _) _) _) _) _) _) _) _

end Cert.KernelIdeal.KI
-- ==== Proof.KI.TileObl.lean ====
module

public import proofs.«01_k».proof.Proof.KI.Tile

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pxW" => (Memref.whole Cert.KernelIdeal.cc0_scratch0 : Memref Cert.KernelIdeal.sig Kind.scVector Space.vmem Cert.KernelIdeal.S4096 EltTy.f32)
local notation "pyW" => (Memref.whole Cert.KernelIdeal.cc0_scratch1 : Memref Cert.KernelIdeal.sig Kind.scVector Space.vmem Cert.KernelIdeal.S4096 EltTy.f32)
local notation "pzW" => (Memref.whole Cert.KernelIdeal.cc0_scratch2 : Memref Cert.KernelIdeal.sig Kind.scVector Space.vmem Cert.KernelIdeal.S4096 EltTy.f32)
local notation "cmW" => (Memref.whole Cert.KernelIdeal.cc0_scratch6 : Memref Cert.KernelIdeal.sig Kind.scVector Space.vmem Cert.KernelIdeal.S4096 EltTy.f32)

local notation "wpW" => (Memref.whole Cert.KernelIdeal.main_v12_scv : Memref Cert.KernelIdeal.sig Kind.scVector Space.hbm Cert.KernelIdeal.S24576 EltTy.f32)
local notation "chW" => (Memref.whole Cert.KernelIdeal.main_v13_0_scv : Memref Cert.KernelIdeal.sig Kind.scVector Space.hbm Cert.KernelIdeal.S1024 EltTy.f32)
local notation "ixW" => (Memref.whole Cert.KernelIdeal.main_v13_1_scv : Memref Cert.KernelIdeal.sig Kind.scVector Space.hbm Cert.KernelIdeal.S1024 EltTy.i32)
local notation "coW" => (Memref.whole Cert.KernelIdeal.main_v13_2_scv : Memref Cert.KernelIdeal.sig Kind.scVector Space.hbm Cert.KernelIdeal.S131072 EltTy.f32)
local notation "suW" => (Memref.whole Cert.KernelIdeal.main_v13_3_scv : Memref Cert.KernelIdeal.sig Kind.scVector Space.hbm Cert.KernelIdeal.S512 EltTy.f32)
local notation "qxW" => (Memref.whole Cert.KernelIdeal.cc0_scratch3 : Memref Cert.KernelIdeal.sig Kind.scVector Space.vmem Cert.KernelIdeal.S32 EltTy.f32)
local notation "qyW" => (Memref.whole Cert.KernelIdeal.cc0_scratch4 : Memref Cert.KernelIdeal.sig Kind.scVector Space.vmem Cert.KernelIdeal.S32 EltTy.f32)
local notation "qzW" => (Memref.whole Cert.KernelIdeal.cc0_scratch5 : Memref Cert.KernelIdeal.sig Kind.scVector Space.vmem Cert.KernelIdeal.S32 EltTy.f32)
local notation "caW" => (Memref.whole Cert.KernelIdeal.cc0_scratch7 : Memref Cert.KernelIdeal.sig Kind.scVector Space.vmem Cert.KernelIdeal.S32 EltTy.f32)
local notation "iaW" => (Memref.whole Cert.KernelIdeal.cc0_scratch8 : Memref Cert.KernelIdeal.sig Kind.scVector Space.vmem Cert.KernelIdeal.S32 EltTy.i32)
local notation "saW" => (Memref.whole Cert.KernelIdeal.cc0_scratch9 : Memref Cert.KernelIdeal.sig Kind.scVector Space.vmem Cert.KernelIdeal.S16 EltTy.f32)

variable [FloatOps F] [Named F]

/-! ## A tile's own buffers and semaphores -/

omit [FloatOps F] [Named F] in
/-- The members of a list of distinct members, taken one by one out of a big star. -/
theorem bigSep_list {I : Type} [DecidableEq I] (Φ : I → sProp 𝕄) : ∀ (l : List I) (s : Finset I), l.Nodup → (∀ x ∈ l, x ∈ s) →
    bigSep s Φ = l.foldr (fun i P => iprop(Φ i ∗ P)) (bigSep (s \ l.toFinset) Φ)
  | [], s, _, _ => by simp
  | a :: l, s, hn, hm => by
    rw [SparseCore.bigSep_erase' (hm a List.mem_cons_self),
      bigSep_list Φ l (s.erase a) (List.nodup_cons.mp hn).2 (fun x hx => Finset.mem_erase.mpr
        ⟨fun e => (List.nodup_cons.mp hn).1 (e ▸ hx), hm x (List.mem_cons_of_mem _ hx)⟩)]
    rw [show s.erase a \ l.toFinset = s \ (a :: l).toFinset by
      ext x; simp only [Finset.mem_sdiff, Finset.mem_erase, List.mem_toFinset, List.mem_cons]; tauto]
    rfl

abbrev ownB : List (Ref sig .scVector) := [cc0_scratch0, cc0_scratch1, cc0_scratch2, cc0_scratch3, cc0_scratch4, cc0_scratch5, cc0_scratch6, cc0_scratch7, cc0_scratch8, cc0_scratch9]
abbrev ownS : List (SemLoc sig) := [SemLoc.dma cc0_scoped0.sem, SemLoc.dma cc0_scoped1.sem, SemLoc.dma cc0_scoped2.sem, SemLoc.dma cc0_scoped3.sem, SemLoc.dma cc0_scoped4.sem, SemLoc.dma cc0_scoped5.sem, SemLoc.dma cc0_scoped6.sem, SemLoc.dma cc0_scoped7.sem, SemLoc.dma cc0_scoped8.sem, SemLoc.dma cc0_scoped9.sem]

theorem ownB_nodup : ownB.Nodup := by decide
theorem ownS_nodup : ownS.Nodup := by decide
theorem ownS_scoped : ∀ b ∈ ownS, b.isScoped .scVector = true := by decide

variable (d : Dev nD) (L : grid0.Coords)

/-- What else the tile owns: buffers, -/
def restB : Finset (DevRef τ sig) := ownRefs (τ := τ) (.scVector (cV L) (jV L)) \ (ownB.map fun b => (Proc.scVector (cV L) (jV L)).devRef b).toFinset
/-- and semaphores. -/
def restS : Finset (GSem nD τ sig) := ownCells (V d (cV L) (jV L)) \ (ownS.map fun s => (((V d (cV L) (jV L)), s) : GSem nD τ sig)).toFinset

omit [FloatOps F] [Named F] in
theorem ownBufs_tile : (ownBufs (V d (cV L) (jV L)) : sProp 𝕄) = iprop((∃ f, (pxW).view.loc (V d (cV L) (jV L)) ↦{fullShare} f) ∗ (∃ f, (pyW).view.loc (V d (cV L) (jV L)) ↦{fullShare} f) ∗ (∃ f, (pzW).view.loc (V d (cV L) (jV L)) ↦{fullShare} f) ∗ (∃ f, (qxW).view.loc (V d (cV L) (jV L)) ↦{fullShare} f) ∗ (∃ f, (qyW).view.loc (V d (cV L) (jV L)) ↦{fullShare} f) ∗ (∃ f, (qzW).view.loc (V d (cV L) (jV L)) ↦{fullShare} f) ∗ (∃ f, (cmW).view.loc (V d (cV L) (jV L)) ↦{fullShare} f) ∗ (∃ f, (caW).view.loc (V d (cV L) (jV L)) ↦{fullShare} f) ∗ (∃ f, (iaW).view.loc (V d (cV L) (jV L)) ↦{fullShare} f) ∗ (∃ f, (saW).view.loc (V d (cV L) (jV L)) ↦{fullShare} f)
    ∗ bigSep (restB L) fun b => iprop(∃ f, ((d, b) : Loc nD τ sig) ↦{fullShare} f)) := by
  unfold SparseCore.Cfg.ownBufs
  rw [bigSep_list _ (ownB.map fun b => (Proc.scVector (cV L) (jV L)).devRef b) _ (List.Nodup.map (Proc.devRef_injective _) ownB_nodup) (fun x hx => ?_)]
  · have key : ∀ R : sProp 𝕄, (ownB.map fun b => (Proc.scVector (cV L) (jV L)).devRef b).foldr
        (fun i P => iprop((∃ f, (((V d (cV L) (jV L)).1, i) : Loc nD τ sig) ↦{fullShare} f) ∗ P)) R = iprop((∃ f, (pxW).view.loc (V d (cV L) (jV L)) ↦{fullShare} f) ∗ (∃ f, (pyW).view.loc (V d (cV L) (jV L)) ↦{fullShare} f) ∗ (∃ f, (pzW).view.loc (V d (cV L) (jV L)) ↦{fullShare} f) ∗ (∃ f, (qxW).view.loc (V d (cV L) (jV L)) ↦{fullShare} f) ∗ (∃ f, (qyW).view.loc (V d (cV L) (jV L)) ↦{fullShare} f) ∗ (∃ f, (qzW).view.loc (V d (cV L) (jV L)) ↦{fullShare} f) ∗ (∃ f, (cmW).view.loc (V d (cV L) (jV L)) ↦{fullShare} f) ∗ (∃ f, (caW).view.loc (V d (cV L) (jV L)) ↦{fullShare} f) ∗ (∃ f, (iaW).view.loc (V d (cV L) (jV L)) ↦{fullShare} f) ∗ (∃ f, (saW).view.loc (V d (cV L) (jV L)) ↦{fullShare} f) ∗ R) := fun R => rfl
    exact key _
  · obtain ⟨b, hb, rfl⟩ := List.mem_map.mp hx
    apply SparseCore.Cfg.mem_ownRefs_of_owner
    simp only [ownB, List.mem_cons, List.not_mem_nil, or_false] at hb
    rcases hb with rfl | rfl | rfl | rfl | rfl | rfl | rfl | rfl | rfl | rfl <;> rfl

omit [FloatOps F] [Named F] in
theorem ownSems0_tile : (ownSems0 (V d (cV L) (jV L)) : sProp 𝕄) = iprop(semVal (scell d L cc0_scoped0) 0 ∗ semVal (scell d L cc0_scoped1) 0 ∗ semVal (scell d L cc0_scoped2) 0 ∗ semVal (scell d L cc0_scoped3) 0 ∗ semVal (scell d L cc0_scoped4) 0 ∗ semVal (scell d L cc0_scoped5) 0 ∗ semVal (scell d L cc0_scoped6) 0 ∗ semVal (scell d L cc0_scoped7) 0 ∗ semVal (scell d L cc0_scoped8) 0 ∗ semVal (scell d L cc0_scoped9) 0
    ∗ bigSep (restS d L) fun g => semVal g 0) := by
  unfold SparseCore.Cfg.ownSems0
  rw [bigSep_list _ (ownS.map fun s => (((V d (cV L) (jV L)), s) : GSem nD τ sig)) _ (List.Nodup.map (fun _ _ e => (Prod.mk.inj e).2) ownS_nodup) (fun x hx => ?_)]
  · have key : ∀ R : sProp 𝕄, (ownS.map fun s => (((V d (cV L) (jV L)), s) : GSem nD τ sig)).foldr
        (fun g P => iprop(semVal g 0 ∗ P)) R = iprop(semVal (scell d L cc0_scoped0) 0 ∗ semVal (scell d L cc0_scoped1) 0 ∗ semVal (scell d L cc0_scoped2) 0 ∗ semVal (scell d L cc0_scoped3) 0 ∗ semVal (scell d L cc0_scoped4) 0 ∗ semVal (scell d L cc0_scoped5) 0 ∗ semVal (scell d L cc0_scoped6) 0 ∗ semVal (scell d L cc0_scoped7) 0 ∗ semVal (scell d L cc0_scoped8) 0 ∗ semVal (scell d L cc0_scoped9) 0 ∗ R) := fun R => rfl
    exact key _
  · obtain ⟨b, hb, rfl⟩ := List.mem_map.mp hx
    refine (mem_ownCells (g := (((V d (cV L) (jV L)), b) : GSem nD τ sig))).mpr ⟨rfl, ?_⟩
    exact ownS_scoped b hb

/-! ## What a tile takes and what it gives back -/

variable (fw : FVec F S24576 .f32) (f3 : FVec F S1024 .f32) (f4 : IVec S1024 32) (f5 : FVec F S131072 .f32) (f6 : FVec F S512 .f32)

/-- The tile's share of the points, and its rows of the four results. -/
def rowsPts : sProp 𝕄 := iprop((wpLoc d ↦{Transfers.shareTok fullShare 32 (wid L)} fw)
    ∗ (chLoc d ↦[(chS L).view.set]{fullShare} f3) ∗ (ixLoc d ↦[(ixS L).view.set]{fullShare} f4)
    ∗ (coLoc d ↦[(coS L).view.set]{fullShare} f5) ∗ (suLoc d ↦[(suS L).view.set]{fullShare} f6))

theorem tile_body (hF : (K (F := F)).Facts) (O : CellTallies nD τ sig (HIx 1)) (W : Waits sig (HIx 1)) (hO : ∀ g, O g none = 0) :
    iprop(levAts (K (F := F)).L (K (F := F)).lev ∗ emp ∗ rowsPts d L fw f3 f4 f5 f6
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body (F := F) L wpW (Memref.isWhole_whole _) chW (Memref.isWhole_whole _) ixW (Memref.isWhole_whole _) coW (Memref.isWhole_whole _) suW (Memref.isWhole_whole _) pxW (Memref.isWhole_whole _) pyW (Memref.isWhole_whole _) pzW (Memref.isWhole_whole _) qxW (Memref.isWhole_whole _) qyW (Memref.isWhole_whole _) qzW (Memref.isWhole_whole _) cmW (Memref.isWhole_whole _) caW (Memref.isWhole_whole _) iaW (Memref.isWhole_whole _) saW (Memref.isWhole_whole _) cc0_scoped0 cc0_scoped1 cc0_scoped2 cc0_scoped3 cc0_scoped4 cc0_scoped5 cc0_scoped6 cc0_scoped7 cc0_scoped8 cc0_scoped9)
          fun _ => (iprop(rowsPts d L fw (outCh fw) (outIx fw) (outCo fw) (outSu fw) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [body_eq, (K (F := F)).scopedBufs_V hF d (cV L) (jV L), SparseCore.Cfg.scopedSems0_V (Val := Elt F) d (cV L) (jV L), ownSems0_tile, ownBufs_tile]
  unfold rowsPts
  iintro ⟨#Hlv, -, ⟨Hwp, Hch, Hix, Hco, Hsu⟩, ⟨⟨%g0, B0⟩, ⟨%g1, B1⟩, ⟨%g2, B2⟩, ⟨%g3, B3⟩, ⟨%g4, B4⟩, ⟨%g5, B5⟩, ⟨%g6, B6⟩, ⟨%g7, B7⟩, ⟨%g8, B8⟩, ⟨%g9, B9⟩, Hbufs⟩, ⟨S0, S1, S2, S3, S4, S5, S6, S7, S8, S9, Hsems⟩, HO⟩
  ihave Hmw := ((K (F := F)).mayWaits_none (thr := (V d (cV L) (jV L))) hO) $$ Hlv
  iapply (wp_wand_r frame (wpE (defs₀ (F := F)) 𝒱₀ (V d (cV L) (jV L)) none))
  isplitr [Hbufs Hsems]
  · iapply (tile_run (F := F) d L (Transfers.shareTok fullShare 32 (wid L)) O W fw f3 f4 f5 f6 g0 g1 g2 g6 g3 g4 g5 g7 g8 g9)
    isplitl [Hmw]; · iexact Hmw
    isplitl [Hwp]; · iexact Hwp
    isplitl [Hch]; · iexact Hch
    isplitl [Hix]; · iexact Hix
    isplitl [Hco]; · iexact Hco
    isplitl [Hsu]; · iexact Hsu
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact HO
  iintro %_ ⟨Hwp, Hch, Hix, Hco, Hsu, B0, B1, B2, B3, B4, B5, B6, B7, B8, B9, S0, S1, S2, S3, S4, S5, S6, S7, S8, S9, HO⟩
  isplitl [Hwp Hch Hix Hco Hsu]
  · isplitl [Hwp]; · iexact Hwp
    isplitl [Hch]; · iexact Hch
    isplitl [Hix]; · iexact Hix
    isplitl [Hco]; · iexact Hco
    iexact Hsu
  isplitl [B0 B1 B2 B3 B4 B5 B6 B7 B8 B9 Hbufs]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact Hbufs
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact Hsems
  iexact HO

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

/-- The points in one row and the four results' contents at the launch, on every device. -/
structure Arr (F : FTy → Type) where
  fw : FVec F S24576 .f32
  f3 : FVec F S1024 .f32
  f4 : IVec S1024 32
  f5 : FVec F S131072 .f32
  f6 : FVec F S512 .f32

def Arr.outs (a : Arr F) : Arr F := ⟨a.fw, outCh a.fw, outIx a.fw, outCo a.fw, outSu a.fw⟩

def tilePts (a : Arr F) (d : Dev nD) (c : Fin (grid0.bound 0)) (i : Fin (grid0.bound 1)) : sProp 𝕄 :=
  rowsPts d (coordsV c i) a.fw a.f3 a.f4 a.f5 a.f6

/-- What the handshakes hand over: at the start every tile's part, and the same at the end. -/
def P (A : Dev nD → Arr F) : (K (F := F)).Pay (nD := nD) (Val := Elt F) (Name := ℕ) (U := UU) where
  st q d c := match q with | 0 => bigSep Finset.univ fun i : Fin (grid0.bound 1) => tilePts (A d) d c i
  dn q d c := match q with | 0 => bigSep Finset.univ fun i : Fin (grid0.bound 1) => tilePts (A d).outs d c i
  go q d c i := match q with | 0 => tilePts (A d) d c i
  td q d c i := match q with | 0 => tilePts (A d).outs d c i
  x _ _ := iprop(emp)

omit [FloatOps F] [Named F] in
instance tilePts_storable (a : Arr F) (d : Dev nD) (c : Fin (grid0.bound 0)) (i : Fin (grid0.bound 1)) : BI.Storable (upEmb : UEmb _ 𝕄) (tilePts a d c i) := by
  unfold tilePts rowsPts; infer_instance

omit [FloatOps F] [Named F] in
theorem tiles_storable (a : Arr F) (d : Dev nD) (c : Fin (grid0.bound 0)) :
    BI.Storable (upEmb : UEmb _ 𝕄) (bigSep Finset.univ fun i : Fin (grid0.bound 1) => tilePts a d c i) :=
  haveI := fun i => tilePts_storable a d c i
  BI.Storable.bigSep (upEmb : UEmb _ 𝕄) _ _

instance P_storable (A : Dev nD → Arr F) : (P A).IsStorable where
  st q d c := match q with | 0 => tiles_storable (A d) d c
  dn q d c := match q with | 0 => tiles_storable (A d).outs d c
  go q d c i := match q with | 0 => tilePts_storable (A d) d c i
  td q d c i := match q with | 0 => tilePts_storable (A d).outs d c i

theorem defs₀_vector (c : Fin τ.nSC) (s : Fin τ.nSub) :
    defs₀ (F := F) (.scVector c s) 0 ()
      = SparseCore.onTile hcore0 hsub0 (fun c s => cc0__sc_body (F := F) (coordsV c s) wpW (Memref.isWhole_whole _) chW (Memref.isWhole_whole _) ixW (Memref.isWhole_whole _) coW (Memref.isWhole_whole _) suW (Memref.isWhole_whole _) pxW (Memref.isWhole_whole _) pyW (Memref.isWhole_whole _) pzW (Memref.isWhole_whole _) qxW (Memref.isWhole_whole _) qyW (Memref.isWhole_whole _) qzW (Memref.isWhole_whole _) cmW (Memref.isWhole_whole _) caW (Memref.isWhole_whole _) iaW (Memref.isWhole_whole _) saW (Memref.isWhole_whole _) cc0_scoped0 cc0_scoped1 cc0_scoped2 cc0_scoped3 cc0_scoped4 cc0_scoped5 cc0_scoped6 cc0_scoped7 cc0_scoped8 cc0_scoped9) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (A : Dev nD → Arr F) (hF : (K (F := F)).Facts) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (A d).fw (A d).f3 (A d).f4 (A d).f5 (A d).f6 hF O W hO).trans (wp_mono frame _ _ fun _ => obl_post)

theorem vecSplit (A : Dev nD → Arr F) : (K (F := F)).VecSplit' (P A) 0 := by
  intro d c
  show (bigSep Finset.univ fun i : Fin (grid0.bound 1) => tilePts (A d) d c i : sProp 𝕄) ⊢ |={Set.univ}=> iprop(
      (bigSep Finset.univ fun i : Fin (grid0.bound 1) => tilePts (A d) d c i)
      ∗ ((bigSep Finset.univ fun i : Fin (grid0.bound 1) => tilePts (A d).outs d c i) -∗ bigSep Finset.univ fun i : Fin (grid0.bound 1) => tilePts (A d).outs d c i))
  iintro H; imodintro
  isplitl [H]; · iexact H
  iintro H; iexact H

end Cert.KernelIdeal.KI
-- ==== Proof.KI.Share.lean ====
module

public import proofs.«01_k».proof.Proof.KI.TileObl

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

local notation "chW" => (Memref.whole Cert.KernelIdeal.main_v13_0_scv : Memref Cert.KernelIdeal.sig Kind.scVector Space.hbm Cert.KernelIdeal.S1024 EltTy.f32)
local notation "ixW" => (Memref.whole Cert.KernelIdeal.main_v13_1_scv : Memref Cert.KernelIdeal.sig Kind.scVector Space.hbm Cert.KernelIdeal.S1024 EltTy.i32)
local notation "coW" => (Memref.whole Cert.KernelIdeal.main_v13_2_scv : Memref Cert.KernelIdeal.sig Kind.scVector Space.hbm Cert.KernelIdeal.S131072 EltTy.f32)
local notation "suW" => (Memref.whole Cert.KernelIdeal.main_v13_3_scv : Memref Cert.KernelIdeal.sig Kind.scVector Space.hbm Cert.KernelIdeal.S512 EltTy.f32)

/-! # The five arrays dealt to the thirty-two tiles, and put together again -/

omit [FloatOps F] [Named F] in
theorem div1024 : 32 ∣ S1024.size 0 := ⟨32, rfl⟩
omit [FloatOps F] [Named F] in
theorem div131072 : 32 ∣ S131072.size 0 := ⟨4096, rfl⟩
omit [FloatOps F] [Named F] in
theorem div512 : 32 ∣ S512.size 0 := ⟨16, rfl⟩

omit [FloatOps F] [Named F] in
theorem set_ch (L : grid0.Coords) : (chS L).view.set = (Rect.part (s := S1024) (a₀ := 0) div1024 (wid L)).set := by
  show ((View.whole (main_v13_0_scv : Ref sig .scVector)).slice (Rect.unit (s := S1024) (k0_off8 L) S32.size (k0_off8_inb L))).set = _
  rw [show Rect.unit (s := S1024) (k0_off8 L) S32.size (k0_off8_inb L) = Rect.part (s := S1024) (a₀ := 0) div1024 (wid L) by
    unfold Rect.part Rect.block
    congr 1 <;> funext a
    · rw [off8_eq]; match a with | 0 => simp [Shape.partIx, Shape.partSize]; omega
    · match a with | 0 => simp [Shape.partSize], View.set_slice]
  exact Finset.map_refl
omit [FloatOps F] [Named F] in
theorem set_ix (L : grid0.Coords) : (ixS L).view.set = (Rect.part (s := S1024) (a₀ := 0) div1024 (wid L)).set := set_ch L
omit [FloatOps F] [Named F] in
theorem set_co (L : grid0.Coords) : (coS L).view.set = (Rect.part (s := S131072) (a₀ := 0) div131072 (wid L)).set := by
  show ((View.whole (main_v13_2_scv : Ref sig .scVector)).slice (Rect.unit (s := S131072) (k0_off9 L) S4096.size (k0_off9_inb L))).set = _
  rw [show Rect.unit (s := S131072) (k0_off9 L) S4096.size (k0_off9_inb L) = Rect.part (s := S131072) (a₀ := 0) div131072 (wid L) by
    unfold Rect.part Rect.block
    congr 1 <;> funext a
    · rw [off9_eq]; match a with | 0 => simp [Shape.partIx, Shape.partSize]; omega
    · match a with | 0 => simp [Shape.partSize], View.set_slice]
  exact Finset.map_refl
omit [FloatOps F] [Named F] in
theorem set_su (L : grid0.Coords) : (suS L).view.set = (Rect.part (s := S512) (a₀ := 0) div512 (wid L)).set := by
  show ((View.whole (main_v13_3_scv : Ref sig .scVector)).slice (Rect.unit (s := S512) (k0_off10 L) S16.size (k0_off10_inb L))).set = _
  rw [show Rect.unit (s := S512) (k0_off10 L) S16.size (k0_off10_inb L) = Rect.part (s := S512) (a₀ := 0) div512 (wid L) by
    unfold Rect.part Rect.block
    congr 1 <;> funext a
    · rw [off10_eq]; match a with | 0 => simp [Shape.partIx, Shape.partSize]; omega
    · match a with | 0 => simp [Shape.partSize], View.set_slice]
  exact Finset.map_refl

/-- Part `k` of the arrays. -/
def partPts (a : Arr F) (d : Dev nD) (k : Fin 32) : sProp 𝕄 := iprop((wpLoc d ↦{Transfers.shareTok fullShare 32 k} a.fw)
    ∗ (chLoc d ↦[(Rect.part (s := S1024) (a₀ := 0) div1024 k).set]{fullShare} a.f3)
    ∗ (ixLoc d ↦[(Rect.part (s := S1024) (a₀ := 0) div1024 k).set]{fullShare} a.f4)
    ∗ (coLoc d ↦[(Rect.part (s := S131072) (a₀ := 0) div131072 k).set]{fullShare} a.f5)
    ∗ (suLoc d ↦[(Rect.part (s := S512) (a₀ := 0) div512 k).set]{fullShare} a.f6))

omit [FloatOps F] [Named F] in
theorem tilePts_eq (a : Arr F) (d : Dev nD) (c : Fin 2) (i : Fin 16) : (tilePts a d c i : sProp 𝕄) = partPts a d (finProdFinEquiv (c, i)) := by
  have e : wid (coordsV c i) = finProdFinEquiv (c, i) := by
    apply Fin.ext
    show 16 * c.val + i.val = i.val + 16 * c.val
    omega
  unfold tilePts rowsPts partPts
  rw [set_ch, set_ix, set_co, set_su, e]

omit [FloatOps F] [Named F] in
theorem tiles_eq (a : Arr F) (d : Dev nD) :
    (bigSep Finset.univ fun c : Fin (grid0.bound 0) => bigSep Finset.univ fun i : Fin (grid0.bound 1) => tilePts a d c i : sProp 𝕄) = bigSep Finset.univ fun k : Fin 32 => partPts a d k := by
  refine Eq.trans ?_ ((bigSep_univ_equiv (finProdFinEquiv (m := 2) (n := 16)) (fun k : Fin 32 => (partPts a d k : sProp 𝕄))).trans (bigSep_univ_prod _)).symm
  exact bigSep_congr fun c _ => bigSep_congr fun i _ => tilePts_eq a d c i

omit [FloatOps F] [Named F] in
theorem ch_parts (d : Dev nD) (f : Buf (Elt F) (chLoc d)) :
    (chLoc d ↦{fullShare} f : sProp 𝕄) = bigSep Finset.univ fun k : Fin 32 => chLoc d ↦[(Rect.part (s := S1024) (a₀ := 0) div1024 k).set]{fullShare} f := by
  rw [← pointsTo_biUnion Finset.univ (ℓ := chLoc d) (fun k : Fin 32 => (Rect.part (s := S1024) (a₀ := 0) div1024 k).set) (fun i _ j _ h => Rect.part_disjoint div1024 h)]
  exact congrArg (fun S => (chLoc d ↦[S]{fullShare} f : sProp 𝕄)) (Rect.biUnion_part div1024).symm
omit [FloatOps F] [Named F] in
theorem ix_parts (d : Dev nD) (f : Buf (Elt F) (ixLoc d)) :
    (ixLoc d ↦{fullShare} f : sProp 𝕄) = bigSep Finset.univ fun k : Fin 32 => ixLoc d ↦[(Rect.part (s := S1024) (a₀ := 0) div1024 k).set]{fullShare} f := by
  rw [← pointsTo_biUnion Finset.univ (ℓ := ixLoc d) (fun k : Fin 32 => (Rect.part (s := S1024) (a₀ := 0) div1024 k).set) (fun i _ j _ h => Rect.part_disjoint div1024 h)]
  exact congrArg (fun S => (ixLoc d ↦[S]{fullShare} f : sProp 𝕄)) (Rect.biUnion_part div1024).symm
omit [FloatOps F] [Named F] in
theorem co_parts (d : Dev nD) (f : Buf (Elt F) (coLoc d)) :
    (coLoc d ↦{fullShare} f : sProp 𝕄) = bigSep Finset.univ fun k : Fin 32 => coLoc d ↦[(Rect.part (s := S131072) (a₀ := 0) div131072 k).set]{fullShare} f := by
  rw [← pointsTo_biUnion Finset.univ (ℓ := coLoc d) (fun k : Fin 32 => (Rect.part (s := S131072) (a₀ := 0) div131072 k).set) (fun i _ j _ h => Rect.part_disjoint div131072 h)]
  exact congrArg (fun S => (coLoc d ↦[S]{fullShare} f : sProp 𝕄)) (Rect.biUnion_part div131072).symm
omit [FloatOps F] [Named F] in
theorem su_parts (d : Dev nD) (f : Buf (Elt F) (suLoc d)) :
    (suLoc d ↦{fullShare} f : sProp 𝕄) = bigSep Finset.univ fun k : Fin 32 => suLoc d ↦[(Rect.part (s := S512) (a₀ := 0) div512 k).set]{fullShare} f := by
  rw [← pointsTo_biUnion Finset.univ (ℓ := suLoc d) (fun k : Fin 32 => (Rect.part (s := S512) (a₀ := 0) div512 k).set) (fun i _ j _ h => Rect.part_disjoint div512 h)]
  exact congrArg (fun S => (suLoc d ↦[S]{fullShare} f : sProp 𝕄)) (Rect.biUnion_part div512).symm

/-- The arrays whole. -/
def wholePts (a : Arr F) (d : Dev nD) : sProp 𝕄 := iprop((wpLoc d ↦{fullShare} a.fw) ∗ (chLoc d ↦{fullShare} a.f3) ∗ (ixLoc d ↦{fullShare} a.f4)
    ∗ (coLoc d ↦{fullShare} a.f5) ∗ (suLoc d ↦{fullShare} a.f6))

omit [FloatOps F] [Named F] in
theorem deal (a : Arr F) (d : Dev nD) : (wholePts a d : sProp 𝕄) ⊢ iprop((wpLoc d ↦{Transfers.shareDrop fullShare 32} a.fw)
    ∗ bigSep Finset.univ fun c : Fin (grid0.bound 0) => bigSep Finset.univ fun i : Fin (grid0.bound 1) => tilePts a d c i) := by
  rw [tiles_eq]
  unfold partPts wholePts
  rw [bigSep_sep', bigSep_sep', bigSep_sep', bigSep_sep', ← ch_parts, ← ix_parts, ← co_parts, ← su_parts]
  iintro ⟨H0, H1, H2, H3, H4⟩
  ihave H := (Transfers.pointsTo_toks_split (ℓ := wpLoc d) (S := Finset.univ) (f := a.fw) fullShare 32) $$ H0
  icases H with ⟨Hd, Ht⟩
  isplitl [Hd]; · iexact Hd
  isplitl [Ht]; · iexact Ht
  isplitl [H1]; · iexact H1
  isplitl [H2]; · iexact H2
  isplitl [H3]; · iexact H3
  iexact H4

omit [FloatOps F] [Named F] in
theorem undeal (a : Arr F) (d : Dev nD) : iprop((wpLoc d ↦{Transfers.shareDrop fullShare 32} a.fw)
    ∗ bigSep Finset.univ fun c : Fin (grid0.bound 0) => bigSep Finset.univ fun i : Fin (grid0.bound 1) => tilePts a d c i) ⊢ (wholePts a d : sProp 𝕄) := by
  rw [tiles_eq]
  unfold partPts wholePts
  rw [bigSep_sep', bigSep_sep', bigSep_sep', bigSep_sep', ← ch_parts, ← ix_parts, ← co_parts, ← su_parts]
  iintro ⟨Hd, Ht, H1, H2, H3, H4⟩
  isplitl [Hd Ht]
  · iapply (Transfers.pointsTo_toks_join (ℓ := wpLoc d) (S := Finset.univ) (f := a.fw) fullShare 32)
    isplitl [Hd]; · iexact Hd
    iexact Ht
  isplitl [H1]; · iexact H1
  isplitl [H2]; · iexact H2
  isplitl [H3]; · iexact H3
  iexact H4

end Cert.KernelIdeal.KI
-- ==== Proof.KI.Host.lean ====
module

public import proofs.«01_k».proof.Proof.KI.Common

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! # The host function: its lines, its three calls, and what every buffer holds in between -/

/-- The host function's lines: the operations before the first call. -/
def ops1 : List (HloOp τ sig (Elt F)) := [
  StableHlo.reshape main_arg0 main_v0 (rfl : (.f32 : EltTy) = .f32) shapeCasts_S1x4096x3_S4096x3,
  StableHlo.reshape main_arg2 main_v1 (rfl : (.f32 : EltTy) = .f32) shapeCasts_S1x4096x3_S4096x3,
  StableHlo.binary main_arg0 main_arg2 main_v2 (addf : (⟨S1x4096x3, .f32⟩ : BufTy).Contents (Elt F) → (⟨S1x4096x3, .f32⟩ : BufTy).Contents (Elt F) → (⟨S1x4096x3, .f32⟩ : BufTy).Contents (Elt F)),
  StableHlo.reshape main_v2 main_v3 (rfl : (.f32 : EltTy) = .f32) shapeCasts_S1x4096x3_S4096x3,
  StableHlo.unary main_v3 main_v4 ((transpose S3x4096 [1, 0] · transposes_S4096x3_S3x4096_1_0) : (⟨S4096x3, .f32⟩ : BufTy).Contents (Elt F) → (⟨S3x4096, .f32⟩ : BufTy).Contents (Elt F)),
  StableHlo.reshape main_arg1 main_v5 (rfl : (.f32 : EltTy) = .f32) shapeCasts_S1x4096x3_S4096x3,
  StableHlo.unary main_v5 main_v6 ((transpose S3x4096 [1, 0] · transposes_S4096x3_S3x4096_1_0) : (⟨S4096x3, .f32⟩ : BufTy).Contents (Elt F) → (⟨S3x4096, .f32⟩ : BufTy).Contents (Elt F)),
  StableHlo.nullary main_cst (constant S_ .f32 0x00000000#32),
  StableHlo.unary main_cst main_v7 (broadcastInDim S8x4096 ![] bcast_S_S8x4096 : (⟨S_, .f32⟩ : BufTy).Contents (Elt F) → (⟨S8x4096, .f32⟩ : BufTy).Contents (Elt F)),
  StableHlo.nullary main_c (constantI S_ 32 0#32),
  StableHlo.unary main_c main_v8 (broadcastInDim S1 ![] bcast_S_S1 : (⟨S_, .i32⟩ : BufTy).Contents (Elt F) → (⟨S1, .i32⟩ : BufTy).Contents (Elt F)),
  StableHlo.ternary main_v7 main_v8 main_v6 main_v9 ((fun x i u => Host.scatter scatter_S8x4096_S1_S3x4096_01_n_0_0 (fun _ b => b) x i u) : (⟨S8x4096, .f32⟩ : BufTy).Contents (Elt F) → (⟨S1, .i32⟩ : BufTy).Contents (Elt F) → (⟨S3x4096, .f32⟩ : BufTy).Contents (Elt F) → (⟨S8x4096, .f32⟩ : BufTy).Contents (Elt F)),
  StableHlo.reshape main_v4 main_v10 (rfl : (.f32 : EltTy) = .f32) shapeCasts_S3x4096_S12288,
  StableHlo.reshape main_v6 main_v11 (rfl : (.f32 : EltTy) = .f32) shapeCasts_S3x4096_S12288,
  StableHlo.binary main_v10 main_v11 main_v12 ((fun a b => concatenate S24576 0 [⟨S12288, a⟩, ⟨S12288, b⟩] concatenates_S12288_S12288_S24576_d0) : (⟨S12288, .f32⟩ : BufTy).Contents (Elt F) → (⟨S12288, .f32⟩ : BufTy).Contents (Elt F) → (⟨S24576, .f32⟩ : BufTy).Contents (Elt F))]
/-- The host function's lines: those between the first and the second call. -/
def ops2 : List (HloOp τ sig (Elt F)) := [
  StableHlo.unary main_v0 main_v14 ((extractStridedSlice S3072x3 ![0, 0] · slices_S4096x3_S3072x3_0_0) : (⟨S4096x3, .f32⟩ : BufTy).Contents (Elt F) → (⟨S3072x3, .f32⟩ : BufTy).Contents (Elt F)),
  StableHlo.unary main_v1 main_v15 ((extractStridedSlice S3072x3 ![0, 0] · slices_S4096x3_S3072x3_0_0) : (⟨S4096x3, .f32⟩ : BufTy).Contents (Elt F) → (⟨S3072x3, .f32⟩ : BufTy).Contents (Elt F))]
/-- The host function's lines: those between the second and the third call. -/
def ops3 : List (HloOp τ sig (Elt F)) := [
  StableHlo.reshape main_v13_3 main_v17 (rfl : (.f32 : EltTy) = .f32) shapeCasts_S512_S8x64,
  StableHlo.reshape main_v13_2 main_v18 (rfl : (.f32 : EltTy) = .f32) shapeCasts_S131072_S32x4096]
/-- The host function's lines: those after the last call. -/
def ops4 : List (HloOp τ sig (Elt F)) := [
  StableHlo.reshape main_v16_0 main_v20 (rfl : (.f32 : EltTy) = .f32) shapeCasts_S3072x1_S3072,
  StableHlo.binary main_v20 main_v13_0 main_v21 ((fun a b => concatenate S4096 0 [⟨S3072, a⟩, ⟨S1024, b⟩] concatenates_S3072_S1024_S4096_d0) : (⟨S3072, .f32⟩ : BufTy).Contents (Elt F) → (⟨S1024, .f32⟩ : BufTy).Contents (Elt F) → (⟨S4096, .f32⟩ : BufTy).Contents (Elt F)),
  StableHlo.reshape main_v16_1 main_v22 (rfl : (.i32 : EltTy) = .i32) shapeCasts_S3072x1_S3072,
  StableHlo.binary main_v22 main_v13_1 main_v23 ((fun a b => concatenate S4096 0 [⟨S3072, a⟩, ⟨S1024, b⟩] concatenates_S3072_S1024_S4096_d0) : (⟨S3072, .i32⟩ : BufTy).Contents (Elt F) → (⟨S1024, .i32⟩ : BufTy).Contents (Elt F) → (⟨S4096, .i32⟩ : BufTy).Contents (Elt F)),
  StableHlo.reshape main_v19 main_v24 (rfl : (.f32 : EltTy) = .f32) shapeCasts_S1x1_S_,
  StableHlo.reshape main_v21 main_v25 (rfl : (.f32 : EltTy) = .f32) shapeCasts_S4096_S1x4096,
  StableHlo.reshape main_v23 main_v26 (rfl : (.i32 : EltTy) = .i32) shapeCasts_S4096_S1x4096]

theorem main_eq (d : Dev nD) : main (F := F) d = StableHlo.seq ops1 >>= fun _ => ((K (F := F)).run d 0 >>= fun _ => (StableHlo.seq ops2 >>= fun _ =>
    (Prog.lift (.customCall (SparseCore.inner (Pipeline.entry 0)) ()) >>= fun _ => (StableHlo.seq ops3 >>= fun _ =>
    (Prog.lift (.customCall (SparseCore.inner (Pipeline.entry 1)) ()) >>= fun _ => (StableHlo.seq ops4 >>= fun _ => pure ⟨⟩)))))) := rfl

end Cert.KernelIdeal.KI
-- ==== Proof.KI.Main.lean ====
module

public import proofs.«01_k».proof.Proof.KI.Dats
public import proofs.«01_k».proof.Proof.KI.Share
public import proofs.«01_k».proof.Proof.KI.Host

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! # The host function run, and the program's run -/

variable (m : (ℓ : Loc nD τ sig) → Buf (Elt F) ℓ)

/-! ## What every buffer holds in between -/

abbrev SB : Finset (DevRef τ sig) := Pipeline.ucRefs τ sig

def W0 (d : Dev nD) : Valuation τ sig (Elt F) := fun b => m (d, b)
def W1 (d : Dev nD) : Valuation τ sig (Elt F) := StableHlo.after ops1 (W0 m d)
/-- The arrays of the first call, as it finds them. -/
def arrIn (d : Dev nD) : Arr F :=
  ⟨W1 m d (Proc.devRef .tc main_v12), W1 m d (Proc.devRef .tc main_v13_0), W1 m d (Proc.devRef .tc main_v13_1), W1 m d (Proc.devRef .tc main_v13_2), W1 m d (Proc.devRef .tc main_v13_3)⟩
/-- A valuation with the four results of the first call set. -/
def setOuts (V : Valuation τ sig (Elt F)) (a : Arr F) : Valuation τ sig (Elt F) :=
  Function.update (Function.update (Function.update (Function.update V (Proc.devRef .tc main_v13_0) a.f3) (Proc.devRef .tc main_v13_1) a.f4)
    (Proc.devRef .tc main_v13_2) a.f5) (Proc.devRef .tc main_v13_3) a.f6
def W2 (d : Dev nD) : Valuation τ sig (Elt F) := setOuts (W1 m d) (arrIn m d).outs
def W3 (d : Dev nD) : Valuation τ sig (Elt F) := StableHlo.after ops2 (W2 m d)
def W4 (d : Dev nD) : Valuation τ sig (Elt F) := Pipeline.afterRegion (dat1 (W3 m) d) (W3 m d)
def W5 (d : Dev nD) : Valuation τ sig (Elt F) := StableHlo.after ops3 (W4 m d)
def W6 (d : Dev nD) : Valuation τ sig (Elt F) := Pipeline.afterRegion (dat2 (W5 m) d) (W5 m d)
def W7 (d : Dev nD) : Valuation τ sig (Elt F) := StableHlo.after ops4 (W6 m d)

/-! ## The five arrays of the first call among all the buffers -/

def callRefs : Finset (DevRef τ sig) := {Proc.devRef .tc main_v12, Proc.devRef .tc main_v13_0, Proc.devRef .tc main_v13_1, Proc.devRef .tc main_v13_2, Proc.devRef .tc main_v13_3}

omit [FloatOps F] [Named F] in
theorem callRefs_sub : callRefs ⊆ SB := by decide

omit [FloatOps F] [Named F] in
theorem held_call (d : Dev nD) (V : Valuation τ sig (Elt F)) (a : Arr F)
    (h0 : V (Proc.devRef .tc main_v12) = a.fw) (h3 : V (Proc.devRef .tc main_v13_0) = a.f3) (h4 : V (Proc.devRef .tc main_v13_1) = a.f4)
    (h5 : V (Proc.devRef .tc main_v13_2) = a.f5) (h6 : V (Proc.devRef .tc main_v13_3) = a.f6) :
    (StableHlo.held (d.tc : Thread nD τ) callRefs V : sProp 𝕄) = wholePts a d := by
  unfold StableHlo.held callRefs wholePts
  rw [SparseCore.bigSep_insert' (by decide), SparseCore.bigSep_insert' (by decide), SparseCore.bigSep_insert' (by decide), SparseCore.bigSep_insert' (by decide), bigSep_singleton, ← h0, ← h3, ← h4, ← h5, ← h6]

omit [FloatOps F] [Named F] in
theorem setOuts_off (V : Valuation τ sig (Elt F)) (a : Arr F) : ∀ b ∈ SB \ callRefs, setOuts V a b = V b := by
  intro b hb
  have hn := (Finset.mem_sdiff.mp hb).2
  simp only [callRefs, Finset.mem_insert, Finset.mem_singleton, not_or] at hn
  unfold setOuts
  rw [Function.update_of_ne hn.2.2.2.2, Function.update_of_ne hn.2.2.2.1, Function.update_of_ne hn.2.2.1, Function.update_of_ne hn.2.1]

/-- The first call's part of the payload, whole. -/
theorem held_split1 (d : Dev nD) : (StableHlo.held (d.tc : Thread nD τ) SB (W1 m d) : sProp 𝕄)
    = iprop(wholePts (arrIn m d) d ∗ StableHlo.held (d.tc : Thread nD τ) (SB \ callRefs) (W1 m d)) := by
  rw [StableHlo.held_sub_split (d.tc : Thread nD τ) callRefs_sub (W1 m d), held_call d (W1 m d) (arrIn m d) rfl rfl rfl rfl rfl]

theorem held_join2 (d : Dev nD) : (StableHlo.held (d.tc : Thread nD τ) SB (W2 m d) : sProp 𝕄)
    = iprop(wholePts (arrIn m d).outs d ∗ StableHlo.held (d.tc : Thread nD τ) (SB \ callRefs) (W1 m d)) := by
  rw [StableHlo.held_sub_split (d.tc : Thread nD τ) callRefs_sub (W2 m d), held_call d (W2 m d) (arrIn m d).outs]
  · rw [StableHlo.held_congr (d.tc : Thread nD τ) (S := SB \ callRefs) (V := W2 m d) (V' := W1 m d) (setOuts_off _ _)]
  all_goals (unfold W2 setOuts; repeat first | rw [Function.update_self] | rw [Function.update_of_ne (by decide)])
  all_goals rfl

/-! ## The ghost state -/

abbrev phinj : Function.Injective (Pipeline.cellOf (nD := nD) (τ := τ) (Pipeline.pin (pcfgs (F := F)) adm)) := cellOf_inj
def uP : UP := initOf (Pipeline.cells (Pipeline.pin (pcfgs (F := F)) adm) (phinj (F := F))) (Pipeline.launchToks (Pipeline.pin (pcfgs (F := F)) adm) (phinj (F := F)))
def u₀ : UU := (initOf (K (F := F)).hsCells (K (F := F)).hsToks, (uP (F := F), 1))

/-- The pipelines' tokens on a device. -/
def G (d : Dev nD) : sProp 𝕄 := iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

instance EP_landsIn : (EP : Emb UP (MM F)).LandsIn (upEmb : UEmb _ (MM F)) := by unfold EP embR; infer_instance
instance EH_landsIn : (EH : Emb UH (MM F)).LandsIn (upEmb : UEmb _ (MM F)) := by unfold EH embL; infer_instance

theorem hu₀ (A : Dev nD → Arr F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P A).x q thr) := by
  have hx : (bigSep Finset.univ fun thr : Thread nD τ => bigSep Finset.univ fun q : Fin 1 => (P A).x q thr : sProp 𝕄) = iprop(emp) := by
    rw [show (fun thr : Thread nD τ => bigSep Finset.univ fun q : Fin 1 => (P A).x q thr : Thread nD τ → sProp 𝕄) = fun _ => iprop(emp) from
      funext fun _ => bigSep_emp_const _]
    exact bigSep_emp_const _
  rw [hx]
  unfold u₀ G
  rw [bigSep_sep']
  iintro Hu
  ihave H := (ownU_pair _ _) $$ Hu
  icases H with ⟨HH, HR⟩
  ihave H := (own_pair_emb _ _ _) $$ HR
  icases H with ⟨HP, -⟩
  imod (show (BI.own ((Emb.inl.trans embR : Emb _ _) (uP (F := F))) : sProp 𝕄) ⊢ _ from Pipeline.fund_ghost (Pipeline.pin (pcfgs (F := F)) adm) EP (phinj (F := F))) $$ HP with ⟨Hg, Ht⟩
  imodintro
  isplitl [HH]; · iexact HH
  isplitl [Hg Ht]
  · isplitl [Hg]; · iexact Hg
    iexact Ht
  iempintro

/-! ## What the TensorCore owes after the first call -/

def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : ((K (F := F)).tcSt EH d 1 : sProp 𝕄) = iprop(owesDone d ∗ tcRest d) := by
  have hO : (K (F := F)).Otc d 1 = 0 := by
    unfold SparseCore.Cfg.Otc
    exact Finset.sum_eq_zero fun q _ => if_neg (by have := q.isLt; omega)
  unfold SparseCore.Cfg.tcSt owesDone tcRest
  rw [hO]
  rfl

/-! ## The regions at the host function -/

theorem phi1 (W : Dev nD → Valuation τ sig (Elt F)) (c : Dev nD) (t) : (pdats1 W 0 c).Φ t = Pipeline.scopedRest (Pipeline.pin (pcfgs (F := F)) adm 0).spec c := by
  change Pipeline.scopedRest spec1 c = _
  rfl
theorem phi2 (W : Dev nD → Valuation τ sig (Elt F)) (c : Dev nD) (t) : (pdats2 W 1 c).Φ t = Pipeline.scopedRest (Pipeline.pin (pcfgs (F := F)) adm 1).spec c := by
  change Pipeline.scopedRest spec2 c = _
  rfl

set_option backward.isDefEq.respectTransparency.types false in
/-- The distance pipeline, entered with every buffer at `W`. -/
def reg1 (W : Dev nD → Valuation τ sig (Elt F)) :
    Pipeline.RegionSeg (pcfgs (F := F)) adm (pdats1 W) (none : HIx 1) (defs₀ (F := F)) 𝒱₀ (K (F := F)).L (K (F := F)).lev 0 :=
  mkReg (pdats1 W) (K (F := F)).L (K (F := F)).lev 0 SB (Pipeline.arrRefs_sub_ucRefs _ winFacts1.arr_unscoped) (launch1).toP rfl
    (fun c => (body1 W c).loose) (fun _ _ => rfl) (fun _ _ => rfl) (fun c => (dat1 W c).share_full fun _ => rfl) (phi1 W) W (fun _ _ => rfl)

set_option backward.isDefEq.respectTransparency.types false in
/-- The loss pipeline. -/
def reg2 (W : Dev nD → Valuation τ sig (Elt F)) :
    Pipeline.RegionSeg (pcfgs (F := F)) adm (pdats2 W) (none : HIx 1) (defs₀ (F := F)) 𝒱₀ (K (F := F)).L (K (F := F)).lev 1 :=
  mkReg (pdats2 W) (K (F := F)).L (K (F := F)).lev 1 SB (Pipeline.arrRefs_sub_ucRefs _ winFacts2.arr_unscoped) (launch2).toP rfl
    (fun c => (body2 W c).loose) (fun _ _ => rfl) (fun _ _ => rfl) (fun c => (dat2 W c).share_full fun _ => rfl) (phi2 W) W (fun _ _ => rfl)

end Cert.KernelIdeal.KI
-- ==== Proof.KI.Run.lean ====
module

public import proofs.«01_k».proof.Proof.KI.Main

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! # The program's run -/

variable (m : (ℓ : Loc nD τ sig) → Buf (Elt F) ℓ)
variable [∀ e, Nonempty (Elt F e)]

omit [∀ e, Nonempty (Elt F e)] in
theorem reg1_pre (W : Dev nD → Valuation τ sig (Elt F)) (d : Dev nD) :
    (reg1 W).pre d = iprop(StableHlo.held (d.tc : Thread nD τ) SB (W d) ∗ owesDone d) := rfl
omit [∀ e, Nonempty (Elt F e)] in
theorem reg1_post (W : Dev nD → Valuation τ sig (Elt F)) (d : Dev nD) :
    (reg1 W).post d = iprop(StableHlo.held (d.tc : Thread nD τ) SB (Pipeline.afterRegion (dat1 W d) (W d)) ∗ owesDone d) := rfl

/-- The region's call, in the program of the TensorCore alone. -/
def entryCall0 : Prog (TpuEff nD τ sig (Elt F) (ΛP (F := F)) .tc) PUnit := .op (.customCall (Pipeline.entry 0) ()) .ret
omit [Named F] [∀ e, Nonempty (Elt F e)] [FloatOps F] in
theorem lift_entry0 : (Prog.lift (.customCall (SparseCore.inner (Pipeline.entry 0)) ()) : Prog (TpuEff nD τ sig (Elt F) (SparseCore.Sig (ΛP (F := F)) 1) .tc) PUnit)
    = SparseCore.liftProg (entryCall0 (F := F)) := rfl

theorem region1_inner (W : Dev nD → Valuation τ sig (Elt F)) (d : Dev nD) (Q : PUnit → sProp 𝕄) :
    iprop((iprop(boundary (d.tc : Thread nD τ) ∗ (reg1 W).post d) -∗ wp frame (wpE (D (F := F)) 𝒱 (d.tc : Thread nD τ) none) Set.univ (.ret ⟨⟩) Q)
        ∗ boundary (d.tc : Thread nD τ) ∗ (reg1 W).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (entryCall0 (F := F)) Q := by
  have h := Pipeline.RegionSeg.wp (pcfgs (F := F)) adm (pdats1 W) (none : HIx 1) (phinj (F := F)) EP (defs₀ (F := F)) 𝒱₀ (K (F := F)).L (K (F := F)).lev (reg1 W) d none
    (fun _ h => nomatch h) Prog.ret Q
  exact h

theorem region1_step (W : Dev nD → Valuation τ sig (Elt F)) (d : Dev nD) {α : Type} (k : PUnit → Prog (TpuEff nD τ sig (Elt F) (SparseCore.Sig (ΛP (F := F)) 1) .tc) α) (Q : α → sProp 𝕄) :
    iprop((boundary (d.tc : Thread nD τ) ∗ StableHlo.held (d.tc : Thread nD τ) SB (Pipeline.afterRegion (dat1 W d) (W d)) ∗ owesDone d
          -∗ wp frame (wpE ((K (F := F)).defs (D (F := F))) 𝒱 (d.tc) none) Set.univ (k ⟨⟩) Q)
        ∗ boundary (d.tc : Thread nD τ) ∗ (StableHlo.held (d.tc : Thread nD τ) SB (W d) ∗ owesDone d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (d.tc) none) Set.univ
          (Prog.lift (.customCall (SparseCore.inner (Pipeline.entry 0)) ()) >>= k) Q := by
  rw [wp_bind, lift_entry0]
  have h := fun Q' : PUnit → sProp 𝕄 => (K (F := F)).wp_liftProg (D (F := F)) 𝒱 (d.tc : Thread nD τ) Set.univ none (entryCall0 (F := F)) Q'
  refine BIClass.entails_trans ?_ (h _)
  refine BIClass.entails_trans ?_ (region1_inner W d _)
  rw [reg1_pre, reg1_post]
  iintro ⟨Hk, Hb, Hpre, Hl, Hc, Ht⟩
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hpre]; · iexact Hpre
  isplitl [Hl]; · iexact Hl
  isplitl [Hc]; · iexact Hc
  iexact Ht

omit [∀ e, Nonempty (Elt F e)] in
theorem reg2_pre (W : Dev nD → Valuation τ sig (Elt F)) (d : Dev nD) :
    (reg2 W).pre d = iprop(StableHlo.held (d.tc : Thread nD τ) SB (W d) ∗ owesDone d) := rfl
omit [∀ e, Nonempty (Elt F e)] in
theorem reg2_post (W : Dev nD → Valuation τ sig (Elt F)) (d : Dev nD) :
    (reg2 W).post d = iprop(StableHlo.held (d.tc : Thread nD τ) SB (Pipeline.afterRegion (dat2 W d) (W d)) ∗ owesDone d) := rfl

/-- The region's call, in the program of the TensorCore alone. -/
def entryCall1 : Prog (TpuEff nD τ sig (Elt F) (ΛP (F := F)) .tc) PUnit := .op (.customCall (Pipeline.entry 1) ()) .ret
omit [Named F] [∀ e, Nonempty (Elt F e)] [FloatOps F] in
theorem lift_entry1 : (Prog.lift (.customCall (SparseCore.inner (Pipeline.entry 1)) ()) : Prog (TpuEff nD τ sig (Elt F) (SparseCore.Sig (ΛP (F := F)) 1) .tc) PUnit)
    = SparseCore.liftProg (entryCall1 (F := F)) := rfl

theorem region2_inner (W : Dev nD → Valuation τ sig (Elt F)) (d : Dev nD) (Q : PUnit → sProp 𝕄) :
    iprop((iprop(boundary (d.tc : Thread nD τ) ∗ (reg2 W).post d) -∗ wp frame (wpE (D (F := F)) 𝒱 (d.tc : Thread nD τ) none) Set.univ (.ret ⟨⟩) Q)
        ∗ boundary (d.tc : Thread nD τ) ∗ (reg2 W).pre d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (entryCall1 (F := F)) Q := by
  have h := Pipeline.RegionSeg.wp (pcfgs (F := F)) adm (pdats2 W) (none : HIx 1) (phinj (F := F)) EP (defs₀ (F := F)) 𝒱₀ (K (F := F)).L (K (F := F)).lev (reg2 W) d none
    (fun _ h => nomatch h) Prog.ret Q
  exact h

theorem region2_step (W : Dev nD → Valuation τ sig (Elt F)) (d : Dev nD) {α : Type} (k : PUnit → Prog (TpuEff nD τ sig (Elt F) (SparseCore.Sig (ΛP (F := F)) 1) .tc) α) (Q : α → sProp 𝕄) :
    iprop((boundary (d.tc : Thread nD τ) ∗ StableHlo.held (d.tc : Thread nD τ) SB (Pipeline.afterRegion (dat2 W d) (W d)) ∗ owesDone d
          -∗ wp frame (wpE ((K (F := F)).defs (D (F := F))) 𝒱 (d.tc) none) Set.univ (k ⟨⟩) Q)
        ∗ boundary (d.tc : Thread nD τ) ∗ (StableHlo.held (d.tc : Thread nD τ) SB (W d) ∗ owesDone d) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (d.tc) none) Set.univ
          (Prog.lift (.customCall (SparseCore.inner (Pipeline.entry 1)) ()) >>= k) Q := by
  rw [wp_bind, lift_entry1]
  have h := fun Q' : PUnit → sProp 𝕄 => (K (F := F)).wp_liftProg (D (F := F)) 𝒱 (d.tc : Thread nD τ) Set.univ none (entryCall1 (F := F)) Q'
  refine BIClass.entails_trans ?_ (h _)
  refine BIClass.entails_trans ?_ (region2_inner W d _)
  rw [reg2_pre, reg2_post]
  iintro ⟨Hk, Hb, Hpre, Hl, Hc, Ht⟩
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hpre]; · iexact Hpre
  isplitl [Hl]; · iexact Hl
  isplitl [Hc]; · iexact Hc
  iexact Ht

/-! ## The host function -/

omit [Named F] [∀ e, Nonempty (Elt F e)] in
theorem ops_sub : (∀ op ∈ (ops1 : List (HloOp τ sig (Elt F))), op.bufs ⊆ SB) ∧ (∀ op ∈ (ops2 : List (HloOp τ sig (Elt F))), op.bufs ⊆ SB)
    ∧ (∀ op ∈ (ops3 : List (HloOp τ sig (Elt F))), op.bufs ⊆ SB) ∧ (∀ op ∈ (ops4 : List (HloOp τ sig (Elt F))), op.bufs ⊆ SB) := by
  refine ⟨?_, ?_, ?_, ?_⟩ <;> rw [← List.forall_iff_forall_mem]
  · exact ⟨Pipeline.sub_ucRefs _ (StableHlo.reshape_bufs_sub ..), Pipeline.sub_ucRefs _ (StableHlo.reshape_bufs_sub ..), Pipeline.sub_ucRefs _ (StableHlo.binary_bufs_sub ..), Pipeline.sub_ucRefs _ (StableHlo.reshape_bufs_sub ..), Pipeline.sub_ucRefs _ (StableHlo.unary_bufs_sub ..), Pipeline.sub_ucRefs _ (StableHlo.reshape_bufs_sub ..), Pipeline.sub_ucRefs _ (StableHlo.unary_bufs_sub ..), Pipeline.sub_ucRefs _ (StableHlo.nullary_bufs_sub ..), Pipeline.sub_ucRefs _ (StableHlo.unary_bufs_sub ..), Pipeline.sub_ucRefs _ (StableHlo.nullary_bufs_sub ..), Pipeline.sub_ucRefs _ (StableHlo.unary_bufs_sub ..), Pipeline.sub_ucRefs _ (StableHlo.ternary_bufs_sub ..), Pipeline.sub_ucRefs _ (StableHlo.reshape_bufs_sub ..), Pipeline.sub_ucRefs _ (StableHlo.reshape_bufs_sub ..), Pipeline.sub_ucRefs _ (StableHlo.binary_bufs_sub ..)⟩
  · exact ⟨Pipeline.sub_ucRefs _ (StableHlo.unary_bufs_sub ..), Pipeline.sub_ucRefs _ (StableHlo.unary_bufs_sub ..)⟩
  · exact ⟨Pipeline.sub_ucRefs _ (StableHlo.reshape_bufs_sub ..), Pipeline.sub_ucRefs _ (StableHlo.reshape_bufs_sub ..)⟩
  · exact ⟨Pipeline.sub_ucRefs _ (StableHlo.reshape_bufs_sub ..), Pipeline.sub_ucRefs _ (StableHlo.binary_bufs_sub ..), Pipeline.sub_ucRefs _ (StableHlo.reshape_bufs_sub ..), Pipeline.sub_ucRefs _ (StableHlo.binary_bufs_sub ..), Pipeline.sub_ucRefs _ (StableHlo.reshape_bufs_sub ..), Pipeline.sub_ucRefs _ (StableHlo.reshape_bufs_sub ..), Pipeline.sub_ucRefs _ (StableHlo.reshape_bufs_sub ..)⟩
omit [Named F] [∀ e, Nonempty (Elt F e)] in
theorem ops_fresh : (∀ op ∈ (ops1 : List (HloOp τ sig (Elt F))), op.fresh = ∅) ∧ (∀ op ∈ (ops2 : List (HloOp τ sig (Elt F))), op.fresh = ∅)
    ∧ (∀ op ∈ (ops3 : List (HloOp τ sig (Elt F))), op.fresh = ∅) ∧ (∀ op ∈ (ops4 : List (HloOp τ sig (Elt F))), op.fresh = ∅) := by
  refine ⟨?_, ?_, ?_, ?_⟩ <;> rw [← List.forall_iff_forall_mem]
  · exact ⟨rfl, rfl, rfl, rfl, rfl, rfl, rfl, rfl, rfl, rfl, rfl, rfl, rfl, rfl, rfl⟩
  · exact ⟨rfl, rfl⟩
  · exact ⟨rfl, rfl⟩
  · exact ⟨rfl, rfl, rfl, rfl, rfl, rfl, rfl⟩

variable (ρ : Dev nD → PrngReg)

/-- What the host function leaves: every buffer. -/
abbrev FIN (d : Dev nD) : sProp 𝕄 := StableHlo.held (d.tc : Thread nD τ) SB (W7 m d)

theorem tail_run (d : Dev nD) :
    iprop(boundary (d.tc : Thread nD τ) ∗ StableHlo.held (d.tc : Thread nD τ) SB (W2 m d) ∗ owesDone d ∗ levAts (K (F := F)).L (K (F := F)).lev ∗ G d)
      ⊢ wp frame (wpE ((K (F := F)).defs (D (F := F))) 𝒱 (d.tc) none) Set.univ
          (StableHlo.seq ops2 >>= fun _ =>
    (Prog.lift (.customCall (SparseCore.inner (Pipeline.entry 0)) ()) >>= fun _ => (StableHlo.seq ops3 >>= fun _ =>
    (Prog.lift (.customCall (SparseCore.inner (Pipeline.entry 1)) ()) >>= fun _ => (StableHlo.seq ops4 >>= fun _ => pure (⟨⟩ : PUnit))))))
          fun _ => (iprop(boundary (d.tc : Thread nD τ) ∗ FIN m d ∗ owesDone d) : sProp 𝕄) := by
  unfold G
  rw [show (Finset.univ : Finset (Fin 2)) = {0, 1} from rfl, SparseCore.bigSep_insert' (by decide), SparseCore.bigSep_insert' (by decide), bigSep_singleton, bigSep_singleton]
  iintro ⟨Hb, Hh, HO, #Hl, ⟨Hc0, Hc1⟩, ⟨Ht0, Ht1⟩⟩
  iapply (StableHlo.wp_seq 𝒱 none Set.univ d SB _ ops2 ops_sub.2.1 ops_fresh.2.1 (W2 m d)) $$ [Hb Hh]
  · isplitl [Hb]; · iexact Hb
    iexact Hh
  iintro ⟨Hb, Hh⟩
  iapply (region1_step (W3 m) d _ _)
  isplitr [Hb Hh HO Hc0 Ht0]
  · iintro ⟨Hb, Hh, HO⟩
    iapply (StableHlo.wp_seq 𝒱 none Set.univ d SB _ ops3 ops_sub.2.2.1 ops_fresh.2.2.1 (W4 m d)) $$ [Hb Hh]
    · isplitl [Hb]; · iexact Hb
      iexact Hh
    iintro ⟨Hb, Hh⟩
    iapply (region2_step (W5 m) d _ _)
    isplitr [Hb Hh HO Hc1 Ht1]
    · iintro ⟨Hb, Hh, HO⟩
      iapply (StableHlo.wp_seq 𝒱 none Set.univ d SB _ ops4 ops_sub.2.2.2 ops_fresh.2.2.2 (W6 m d)) $$ [Hb Hh]
      · isplitl [Hb]; · iexact Hb
        iexact Hh
      iintro ⟨Hb, Hh⟩
      rw [wp_pure]
      imodintro
      isplitl [Hb]; · iexact Hb
      isplitl [Hh]; · iexact Hh
      iexact HO
    isplitl [Hb]; · iexact Hb
    isplitl [Hh HO]
    · isplitl [Hh]; · iexact Hh
      iexact HO
    isplitr; · iexact Hl
    isplitl [Hc1]; · iexact Hc1
    iexact Ht1
  isplitl [Hb]; · iexact Hb
  isplitl [Hh HO]
  · isplitl [Hh]; · iexact Hh
    iexact HO
  isplitr; · iexact Hl
  isplitl [Hc0]; · iexact Hc0
  iexact Ht0

theorem hmain (κ : GSem nD τ sig → ℕ) (d : Dev nD) :
    iprop((K (F := F)).ctx EH (P (arrIn m)) κ ∗ (K (F := F)).tcSt EH d 0 ∗ (K (F := F)).tcRes m ρ d ∗ G d)
      ⊢ wp frame (wpE ((K (F := F)).defs (D (F := F))) 𝒱 (SparseCore.T d) none) Set.univ (main d)
          fun _ => (iprop((K (F := F)).tcSt EH d 1 ∗ FIN m d ∗ (K (F := F)).tcEnd d) : sProp 𝕄) := by
  unfold SparseCore.Cfg.tcRes SparseCore.Cfg.tcEnd
  rw [main_eq, show (unscopedBufs d (fun b => m ((SparseCore.T d : Thread nD τ).loc b)) : sProp 𝕄) = StableHlo.held (d.tc : Thread nD τ) SB (W0 m d) from
    Pipeline.unscopedBufs_held d (W0 m d), tcSt_one]
  iintro ⟨#Hctx, Hst, ⟨Hb, Hh, Hts, -⟩, HG⟩
  ihave #Hl := ((K (F := F)).ctx_levAts (EH := EH) (P := P (arrIn m)) κ) $$ Hctx
  iapply (StableHlo.wp_seq 𝒱 none Set.univ d SB _ ops1 ops_sub.1 ops_fresh.1 (W0 m d)) $$ [Hb Hh]
  · isplitl [Hb]; · iexact Hb
    iexact Hh
  iintro ⟨Hb, Hh⟩
  ihave Hh := (show (StableHlo.held (d.tc : Thread nD τ) SB (StableHlo.after ops1 (W0 m d)) : sProp 𝕄) ⊢ _ from Entails.of_eq (held_split1 m d)) $$ Hh
  icases Hh with ⟨Hw, Hrest⟩
  ihave Hw := (deal (arrIn m d) d) $$ Hw
  icases Hw with ⟨Hd, Htiles⟩
  rw [wp_bind]
  iapply ((K (F := F)).wp_run (D (F := F)) 𝒱 (EH := EH) (P := P (arrIn m)) κ d 0)
  isplitr; · iexact Hctx
  isplitl [Hst]; · iexact Hst
  isplitl [Htiles]; · iexact Htiles
  iintro ⟨Hst, Htiles⟩
  ihave Hst := (show ((K (F := F)).tcSt EH d ((0 : Fin 1).val + 1) : sProp 𝕄) ⊢ _ from Entails.of_eq (tcSt_one d)) $$ Hst
  icases Hst with ⟨HO, Hst⟩
  iapply (wp_wand_r frame (wpE ((K (F := F)).defs (D (F := F))) 𝒱 (d.tc) none))
  isplitr [Hst Hts]
  · iapply (tail_run m d)
    isplitl [Hb]; · iexact Hb
    isplitl [Hd Htiles Hrest]
    · rw [held_join2]
      isplitl [Hd Htiles]
      · iapply (undeal (arrIn m d).outs d)
        isplitl [Hd]; · iexact Hd
        iexact Htiles
      iexact Hrest
    isplitl [HO]; · iexact HO
    isplitr; · iexact Hl
    iexact HG
  iintro %_ ⟨Hb, Hf, HO⟩
  isplitl [HO Hst]
  · isplitl [HO]; · iexact HO
    iexact Hst
  isplitl [Hf]; · iexact Hf
  isplitl [Hb]; · iexact Hb
  iexact Hts

/-! ## The program's run -/

def fq (d : Dev nD) (s' : Phys nD τ sig (Elt F)) : Prop := ∀ b : {b : DevRef τ sig // b ∈ SB}, s'.mem.mem (d, b.1) = W7 m d b.1

theorem hfin_at (d : Dev nD) (s' : Phys nD τ sig (Elt F)) (b : {b : DevRef τ sig // b ∈ SB}) :
    iprop(FIN m d ∗ SI s') ⊢ (⌜s'.mem.mem (d, b.1) = W7 m d b.1⌝ : sProp 𝕄) := by
  unfold FIN StableHlo.held
  rw [SparseCore.bigSep_erase' b.2]
  iintro ⟨⟨Hi, -⟩, HSI⟩
  ihave H := (SI_pointsTo_agree (st := s') (ℓ := (d, b.1)) (I := Finset.univ) (q := fullShare) (f := W7 m d b.1)) $$ [HSI Hi]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  unfold fq
  exact BIClass.entails_trans (BIClass.forall_intro (hfin_at m d s')) pure_forall.2

def QC : PUnit × MemSt nD τ sig (Elt F) → Prop := fun r => (∀ d : Dev nD, ∀ b ∈ SB, r.2.mem (d, b) = W7 m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (arrIn m)) (A := ∅) facts v₀
    (fun q hq => match q with | 0 => nomatch hq)
    (fun q _ => match q with | 0 => tileObl (arrIn m) facts)
    (fun q _ => match q with | 0 => SparseCore.Cfg.VecSplit.of_plain (vecSplit (arrIn m)))
    m ρ main G (FIN m) (u₀ (F := F)) (sep_elim_left.trans (hu₀ (arrIn m))) (hmain m ρ) (fq m) (hfin m) (QC m)
    (fun _ h hz => ⟨fun d b hb => h d ⟨b, hb⟩, hz⟩)

end Cert.KernelIdeal.KI
-- ==== Proof.KI.Ends.lean ====
module

public import proofs.«01_k».proof.Proof.KI.Run

@[expose] public section

noncomputable section

namespace Cert.KernelIdeal.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! # The arguments after the run -/

variable (m : (ℓ : Loc nD τ sig) → Buf (Elt F) ℓ)

omit [Named F] in
theorem host_keeps (V : Valuation τ sig (Elt F)) : ∀ b ∈ ([main_arg0, main_arg1, main_arg2] : List (Ref sig .tc)),
    StableHlo.after (ops1 (F := F)) V (Proc.devRef .tc b) = V (Proc.devRef .tc b) ∧ StableHlo.after (ops2 (F := F)) V (Proc.devRef .tc b) = V (Proc.devRef .tc b)
    ∧ StableHlo.after (ops3 (F := F)) V (Proc.devRef .tc b) = V (Proc.devRef .tc b) ∧ StableHlo.after (ops4 (F := F)) V (Proc.devRef .tc b) = V (Proc.devRef .tc b) := by
  intro b hb
  refine ⟨?_, ?_, ?_, ?_⟩
  · exact StableHlo.after_of_writes_sub (W := [main_v0, main_v1, main_v2, main_v3, main_v4, main_v5, main_v6, main_cst, main_v7, main_c, main_v8, main_v9, main_v10, main_v11, main_v12]) _ _
      (StableHlo.forall_writes_sub_of_map rfl) (by revert b; decide)
  · exact StableHlo.after_of_writes_sub (W := [main_v14, main_v15]) _ _ (StableHlo.forall_writes_sub_of_map rfl) (by revert b; decide)
  · exact StableHlo.after_of_writes_sub (W := [main_v17, main_v18]) _ _ (StableHlo.forall_writes_sub_of_map rfl) (by revert b; decide)
  · exact StableHlo.after_of_writes_sub (W := [main_v20, main_v21, main_v22, main_v23, main_v24, main_v25, main_v26]) _ _
      (StableHlo.forall_writes_sub_of_map rfl) (by revert b; decide)

theorem arg_not_arr : ∀ b ∈ ([main_arg0, main_arg1, main_arg2] : List (Ref sig .tc)),
    (∀ w, b ≠ Pipeline.arrRef spec1 w) ∧ (∀ w, b ≠ Pipeline.arrRef spec2 w) := by decide

theorem arg_not_call : ∀ b ∈ ([main_arg0, main_arg1, main_arg2] : List (Ref sig .tc)),
    (Proc.devRef .tc b : DevRef τ sig) ≠ Proc.devRef .tc main_v13_0 ∧ (Proc.devRef .tc b : DevRef τ sig) ≠ Proc.devRef .tc main_v13_1
    ∧ (Proc.devRef .tc b : DevRef τ sig) ≠ Proc.devRef .tc main_v13_2 ∧ (Proc.devRef .tc b : DevRef τ sig) ≠ Proc.devRef .tc main_v13_3
    ∧ (Proc.devRef .tc b : DevRef τ sig) ∈ SB := by decide

theorem W7_arg (d : Dev nD) (b : Ref sig .tc) (hb : b ∈ ([main_arg0, main_arg1, main_arg2] : List (Ref sig .tc))) :
    W7 m d (Proc.devRef .tc b) = m (d, Proc.devRef .tc b) := by
  obtain ⟨h1, h2, h3, h4, -⟩ := arg_not_call b hb
  unfold W7
  rw [(host_keeps _ b hb).2.2.2]
  unfold W6
  rw [Pipeline.afterRegion_of_not_arr _ _ (arg_not_arr b hb).2]
  unfold W5
  rw [(host_keeps _ b hb).2.2.1]
  unfold W4
  rw [Pipeline.afterRegion_of_not_arr _ _ (arg_not_arr b hb).1]
  unfold W3
  rw [(host_keeps _ b hb).2.1]
  unfold W2 setOuts
  rw [Function.update_of_ne h4, Function.update_of_ne h3, Function.update_of_ne h2, Function.update_of_ne h1]
  unfold W1
  rw [(host_keeps _ b hb).1]
  rfl

variable [∀ e, Nonempty (Elt F e)]

/-- The program runs, keeps its arguments and leaves every semaphore at zero. -/
theorem run_args (ρ : Dev nD → PrngReg) : θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run (Cert.KernelIdeal.defs (F := F)) _ _).mono (fun r h => ⟨fun c => ?_, h.2⟩) (run_main m ρ)
  have hb := fun b hb => (h.1 c _ (arg_not_call b hb).2.2.2.2).trans (W7_arg m c b hb)
  exact ⟨hb main_arg0 (by decide), hb main_arg1 (by decide), hb main_arg2 (by decide)⟩

end Cert.KernelIdeal.KI
-- ==== Proof.Ref.lean ====
/- The reference's run. -/
module

public import proofs.«01_k».proof.Defs
public import proofs.«01_k».proof.Proof.Gen.ReferenceIdeal
public import Idealize.ShloMosaic.Lib.Claim

@[expose] public section

noncomputable section

namespace Cert.ReferenceIdeal.Ref

open Idealize.ShloMosaic Idealize.SL.Sem

theorem quiescent : Cert.quiescent_ReferenceIdeal := by
  intro m g _
  have h : θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
    hlo_run
  exact (θ_run Cert.ReferenceIdeal.defs _ _).mono (fun r hr => ⟨hr, sem_eq_zero_of_no_sems (by decide) r.2⟩) h

end Cert.ReferenceIdeal.Ref
-- ==== Proof.V.Scan.lean ====
module

public import proofs.«01_k».proof.Proof.KI.Ends

@[expose] public section

noncomputable section

namespace Cert.Val

open Idealize.ShloMosaic Idealize.SL.Sem Cert.KernelIdeal Cert.KernelIdeal.Gen Cert.KernelIdeal.KI

/-! # Least values and first least indices -/

/-- `v` is the greatest lower bound of the first `n` numbers. -/
def Inf (d : ℕ → EReal) (n : ℕ) (v : EReal) : Prop := ∀ z, z ≤ v ↔ ∀ i, i < n → z ≤ d i

/-- `v` is the least of the first `n` numbers and `a` is the first place that holds it. -/
def Best (d : ℕ → EReal) (n : ℕ) (v : EReal) (a : ℕ) : Prop :=
  Inf d n v ∧ a < n ∧ d a = v ∧ ∀ j, j < a → v < d j

theorem Inf.uniq {d : ℕ → EReal} {n : ℕ} {v w : EReal} (h : Inf d n v) (k : Inf d n w) : v = w :=
  le_antisymm ((k v).2 ((h v).1 le_rfl)) ((h w).2 ((k w).1 le_rfl))

theorem Inf.le {d : ℕ → EReal} {n : ℕ} {v : EReal} (h : Inf d n v) {j : ℕ} (hj : j < n) : v ≤ d j :=
  (h v).1 le_rfl j hj

theorem Best.uniq {d : ℕ → EReal} {n : ℕ} {v w : EReal} {a b : ℕ} (h : Best d n v a) (k : Best d n w b) : a = b := by
  obtain ⟨h1, h2, h3, h4⟩ := h
  obtain ⟨k1, k2, k3, k4⟩ := k
  have e := h1.uniq k1
  subst e
  rcases lt_trichotomy a b with c | c | c
  · exact absurd (k4 a c) (by rw [h3]; exact lt_irrefl _)
  · exact c
  · exact absurd (h4 b c) (by rw [k3]; exact lt_irrefl _)

theorem Inf.congr {d e : ℕ → EReal} {n : ℕ} {v : EReal} (h : Inf d n v) (he : ∀ j, j < n → d j = e j) : Inf e n v := by
  intro z
  rw [h z]
  exact forall_congr' fun i => forall_congr' fun hi => by rw [he i hi]

theorem Best.congr {d e : ℕ → EReal} {n : ℕ} {v : EReal} {a : ℕ} (h : Best d n v a) (he : ∀ j, j < n → d j = e j) : Best e n v a :=
  ⟨h.1.congr he, h.2.1, (he a h.2.1).symm.trans h.2.2.1, fun j hj => by rw [← he j (by have := h.2.1; omega)]; exact h.2.2.2 j hj⟩

/-- A lane's state after it has met `p` numbers: the least of them and where it was first met. -/
def Run (x : ℕ) (e : ℕ → EReal) (p : ℕ) (v : EReal) (a : ℕ) : Prop :=
  Inf e p v ∧ ((v = ⊤ ∧ a = 0) ∨ (v < ⊤ ∧ ∃ q, q < p ∧ a = 16 * q + x ∧ e q = v ∧ ∀ r, r < q → v < e r))

theorem Run.zero (x : ℕ) (e : ℕ → EReal) : Run x e 0 ⊤ 0 := ⟨fun z => by simp, Or.inl ⟨rfl, rfl⟩⟩

theorem Run.step {x : ℕ} {e : ℕ → EReal} {p : ℕ} {v : EReal} {a : ℕ} (h : Run x e p v a) :
    Run x e (p + 1) (if e p < v then e p else v) (if e p < v then 16 * p + x else a) := by
  obtain ⟨h1, h2⟩ := h
  by_cases c : e p < v
  · simp only [if_pos c]
    refine ⟨fun z => ⟨fun hz i hi => ?_, fun hz => hz p (by omega)⟩, Or.inr ⟨lt_of_lt_of_le c le_top, p, by omega, rfl, rfl, fun r hr => ?_⟩⟩
    · rcases Nat.lt_succ_iff_lt_or_eq.1 hi with hi | rfl
      · exact (h1 z).1 (hz.trans c.le) i hi
      · exact hz
    · exact lt_of_lt_of_le c (h1.le hr)
  · simp only [if_neg c]
    refine ⟨fun z => ⟨fun hz i hi => ?_, fun hz => (h1 z).2 fun i hi => hz i (by omega)⟩, ?_⟩
    · rcases Nat.lt_succ_iff_lt_or_eq.1 hi with hi | rfl
      · exact (h1 z).1 hz i hi
      · exact hz.trans (not_lt.1 c)
    · rcases h2 with h2 | ⟨ht, q, hq, r⟩
      · exact Or.inl h2
      · exact Or.inr ⟨ht, q, by omega, r⟩

/-- Sixteen lanes together. -/
theorem Run.best {d : ℕ → EReal} {p : ℕ} (v : Fin 16 → EReal) (a : Fin 16 → ℕ)
    (h : ∀ x : Fin 16, Run x.val (fun q => d (16 * q + x.val)) p (v x) (a x)) (hp : 0 < p) (V : EReal) (A : ℕ)
    (hV : ∀ z, z ≤ V ↔ ∀ x, z ≤ v x) (hA : ∃ x, v x = V ∧ A = a x) (hA' : ∀ x, v x = V → A ≤ a x) :
    Best d (16 * p) V A := by
  have hd : ∀ j, j < 16 * p → ∀ z, z ≤ V → z ≤ d j := fun j hj z hz => by
    have := ((h ⟨j % 16, by omega⟩).1 z).1 ((hV z).1 hz _) (j / 16) (by omega)
    simpa [Nat.div_add_mod] using this
  refine ⟨fun z => ⟨fun hz i hi => hd i hi z hz, fun hz => (hV z).2 fun x => ((h x).1 z).2 fun q hq => hz _ (by have := x.isLt; omega)⟩, ?_⟩
  obtain ⟨x, hx, rfl⟩ := hA
  rcases (h x).2 with ⟨ht, h0⟩ | ⟨ht, q, hq, hq1, hq2, hq3⟩
  · refine ⟨by omega, ?_, fun j hj => by omega⟩
    rw [h0, ← hx, ht]
    exact top_le_iff.1 (hd 0 (by omega) ⊤ (by rw [← hx, ht]))
  · refine ⟨by have := x.isLt; omega, by rw [hq1]; exact hq2.trans hx, fun j hj => ?_⟩
    have hj' : j < 16 * p := by have := x.isLt; omega
    refine lt_of_le_of_ne (hd j hj' V le_rfl) fun e => ?_
    have hr := h ⟨j % 16, by omega⟩
    have hv : v ⟨j % 16, by omega⟩ = V := by
      refine le_antisymm ?_ ((hV V).1 le_rfl _)
      rw [e]
      have := hr.1.le (show j / 16 < p by omega)
      simpa [Nat.div_add_mod] using this
    have hle := hA' _ hv
    rcases hr.2 with ⟨ht', _⟩ | ⟨_, q', hq', hq1', hq2', hq3'⟩
    · rw [hv, ← hx] at ht'
      exact absurd ht' ht.ne
    · have : ¬ j / 16 < q' := fun c => by
        have := hq3' _ c
        rw [hv, e] at this
        simp [Nat.div_add_mod] at this
      simp only at hq1'
      omega

theorem exists_eq_of_le {n : ℕ} (v : Fin (n + 1) → EReal) (V : EReal) (hV : ∀ z, z ≤ V ↔ ∀ x, z ≤ v x) : ∃ x, v x = V := by
  obtain ⟨x, _, hx⟩ := Finset.exists_min_image Finset.univ v ⟨0, Finset.mem_univ _⟩
  exact ⟨x, le_antisymm ((hV _).2 fun y => hx y (Finset.mem_univ _)) ((hV V).1 le_rfl x)⟩

/-! # One tile -/

theorem bigW_top : (bigW : Ideal .f32) = (⊤ : EReal) :=
  IdealRules.named_const.ideal_named_scalar κ "big" _ _ rfl

/-- The distance of two points. -/
def abd (a b c x y z : EReal) : EReal := max (a - x) (-(a - x)) + max (b - y) (-(b - y)) + max (c - z) (-(c - z))

/-- The distance of query `c` to point `j`. -/
def dl (cx cy cz : EReal) (fx fy fz : FVec Ideal S4096 .f32) (j : ℕ) : EReal :=
  if h : j < 4096 then abd (fx (at1 j h)) (fy (at1 j h)) (fz (at1 j h)) cx cy cz else ⊤

theorem cM_tup (rm : Fin 8 → FVec Ideal S16 .f32) (ri : Fin 8 → IVec S16 32) : cM (tup rm ri) = rm := by
  funext l; fin_cases l <;> rfl

theorem cI_tup (rm : Fin 8 → FVec Ideal S16 .f32) (ri : Fin 8 → IVec S16 32) : cI (tup rm ri) = ri := by
  funext l; fin_cases l <;> rfl

theorem sel_lt {α : Type} (a b : EReal) (x y : α) : Scalar.select (Ideal.cmp .olt a b) x y = if a < b then x else y := by
  by_cases h : a < b <;> simp [Scalar.select, Ideal.cmp, h]

theorem sel_eq {α : Type} (a b : EReal) (x y : α) : Scalar.select (Ideal.cmp .oeq a b) x y = if a = b then x else y := by
  by_cases h : a = b <;> simp [Scalar.select, Ideal.cmp, h]

theorem nxM_apply (d rm : FVec Ideal S16 .f32) (x : S16.Idx) :
    nxM d rm x = if (show EReal from d x) < rm x then d x else rm x := sel_lt (d x) (rm x) (d x) (rm x)

theorem nxI_apply (d rm : FVec Ideal S16 .f32) (jv ri : IVec S16 32) (x : S16.Idx) :
    nxI d rm jv ri x = if (show EReal from d x) < rm x then jv x else ri x := sel_lt (d x) (rm x) (jv x) (ri x)

theorem jvec_apply (k : ℕ) (hk : k < 128) (u : ℕ) (hu : u < 2) (x : S16.Idx) :
    (jvec io k (BitVec.ofNat 32 (16 * u)) x).toNat = 16 * (2 * k + u) + (x 0).val := by
  have hx := idx1_lt x
  have h1 : io x = BitVec.ofNat 32 (x 0).val := by
    obtain ⟨y, rfl⟩ : ∃ y : Fin 16, (at1 y.1 y.2 : S16.Idx) = x := ⟨⟨(x 0).val, idx1_lt x⟩, idx1_eta x⟩
    fin_cases y <;> rfl
  show (io x + (Scf.iv 0#32 1#32 k * 32#32 + BitVec.ofNat 32 (16 * u))).toNat = _
  rw [h1]
  simp only [Scf.iv, BitVec.toNat_add, BitVec.toNat_mul, BitVec.toNat_ofNat]
  omega

theorem dst_chk (cx cy cz : EReal) (fx fy fz : FVec Ideal S4096 .f32) (k : Fin k0_t2_loop.trips) (u : Fin 2) (x : S16.Idx) :
    dst (fun _ => cx) (fun _ => cy) (fun _ => cz) (chk fx k u) (chk fy k u) (chk fz k u) x = dl cx cy cz fx fy fz (16 * (2 * k.val + u.val) + (x 0).val) := by
  have hk : k.val < 128 := k.isLt
  have hu := u.isLt
  have hx := idx1_lt x
  have e : 16 * (2 * k.val + u.val) + (x 0).val = 32 * k.val + 16 * u.val + (x 0).val := by ring
  rw [e, dl, dif_pos (by omega), ← chk_apply fx k u x, ← chk_apply fy k u x, ← chk_apply fz k u x]
  rfl

section scan
variable (cx cy cz : Fin 8 → EReal) (fx fy fz : FVec Ideal S4096 .f32)

/-- What a lane of the carry holds after `n` trips. -/
theorem scanC_run (n : ℕ) (hn : n ≤ 128) (l : Fin 8) (x : S16.Idx) :
    Run (x 0).val (fun q => dl (cx l) (cy l) (cz l) fx fy fz (16 * q + (x 0).val)) (2 * n)
      (cM (scanC io (fun l _ => cx l) (fun l _ => cy l) (fun l _ => cz l) fx fy fz n) l x)
      (cI (scanC io (fun l _ => cx l) (fun l _ => cy l) (fun l _ => cz l) fx fy fz n) l x).toNat := by
  induction n with
  | zero =>
    have e1 : cM (scanC io (fun l _ => cx l) (fun l _ => cy l) (fun l _ => cz l) fx fy fz 0) l x = (⊤ : EReal) :=
      (congrFun (congrFun (cM_tup (fun _ => broadcast S16 bigW) (fun _ => broadcast S16 0#32)) l) x).trans bigW_top
    have e2 : cI (scanC io (fun l _ => cx l) (fun l _ => cy l) (fun l _ => cz l) fx fy fz 0) l x = 0#32 :=
      congrFun (congrFun (cI_tup (fun _ => broadcast S16 bigW) (fun _ => broadcast S16 0#32)) l) x
    rw [e1, e2]
    exact Run.zero _ _
  | succ n ih =>
    have ih := ih (by omega)
    have hk : n < k0_t2_loop.trips := hn
    rw [scanC, dif_pos hk]
    generalize scanC io (fun l _ => cx l) (fun l _ => cy l) (fun l _ => cz l) fx fy fz n = c at ih ⊢
    unfold stepC
    rw [cM_tup, cI_tup]
    simp only [rmC, riC, nxM_apply, nxI_apply, dst_chk]
    have s := ih.step.step
    have j0 := jvec_apply n (by omega) 0 (by omega) x
    have j1 := jvec_apply n (by omega) 1 (by omega) x
    have e : 2 * (n + 1) = 2 * n + 1 + 1 := by ring
    rw [e]
    refine Eq.mp ?_ s
    congr 1
    rw [apply_ite BitVec.toNat, apply_ite BitVec.toNat]
    rw [show (jvec io n 16#32 x).toNat = _ from j1, show (jvec io n 0#32 x).toNat = _ from j0]
    rfl

theorem cm8_le (px py pz cm : FVec Ideal S16 .f32) (x : S16.Idx) (z : EReal) :
    z ≤ cm8 (fun l _ => cx l) (fun l _ => cy l) (fun l _ => cz l) px py pz cm x ↔
      z ≤ cm x ∧ ∀ l, z ≤ dst (fun _ => cx l) (fun _ => cy l) (fun _ => cz l) px py pz x := by
  have e : ∀ a b : FVec Ideal S16 .f32, z ≤ minimumf a b x ↔ z ≤ a x ∧ z ≤ b x := fun a b => le_min_iff
  unfold cm8
  simp only [e, Fin.forall_fin_succ, and_assoc]
  simp

theorem cmU_le (k : Fin k0_t2_loop.trips) (u : Fin 2) (fm : FVec Ideal S4096 .f32) (j : S4096.Idx) (z : EReal) :
    z ≤ cmU (fun l _ => cx l) (fun l _ => cy l) (fun l _ => cz l) fx fy fz k u fm j ↔
      z ≤ fm j ∧ (32 * k.val + 16 * u.val ≤ (j 0).val ∧ (j 0).val < 32 * k.val + 16 * u.val + 16 →
        ∀ l, z ≤ dl (cx l) (cy l) (cz l) fx fy fz (j 0).val) := by
  unfold cmU
  rw [putc_apply]
  split
  · rename_i h
    rw [cm8_le, chk_apply]
    simp only [dst_chk]
    have e1 : 32 * k.val + 16 * u.val + ((j 0).val - (32 * k.val + 16 * u.val)) = (j 0).val := by omega
    have e2 : 16 * (2 * k.val + u.val) + ((j 0).val - (32 * k.val + 16 * u.val)) = (j 0).val := by omega
    have e3 : fm (at1 (32 * k.val + 16 * u.val + ((j 0).val - (32 * k.val + 16 * u.val))) (by have := idx1_lt j; omega)) = fm j := congrArg fm (idx1_ext e1)
    rw [e3]
    simp only [e2]
    exact ⟨fun q => ⟨q.1, fun _ => q.2⟩, fun q => ⟨q.1, q.2 h⟩⟩
  · rename_i h
    exact ⟨fun q => ⟨q, fun c => absurd c h⟩, fun q => q.1⟩

/-- What the column minima hold after `n` trips. -/
theorem scanM_le (fm : FVec Ideal S4096 .f32) (n : ℕ) (hn : n ≤ 128) (j : S4096.Idx) (z : EReal) :
    z ≤ scanM (fun l _ => cx l) (fun l _ => cy l) (fun l _ => cz l) fx fy fz fm n j ↔
      z ≤ fm j ∧ ((j 0).val < 32 * n → ∀ l, z ≤ dl (cx l) (cy l) (cz l) fx fy fz (j 0).val) := by
  induction n with
  | zero => simp [scanM]
  | succ n ih =>
    have hk : n < k0_t2_loop.trips := hn
    rw [scanM, dif_pos hk, stepM, cmU_le, cmU_le, ih (by omega)]
    simp only [Fin.val_zero, Fin.val_one]
    generalize (∀ l, z ≤ dl (cx l) (cy l) (cz l) fx fy fz (j 0).val) = P
    constructor
    · rintro ⟨⟨⟨a, b⟩, c⟩, d⟩
      refine ⟨a, fun h => ?_⟩
      by_cases h1 : (j 0).val < 32 * n
      · exact b h1
      · by_cases h2 : (j 0).val < 32 * n + 16
        · exact c ⟨by omega, by omega⟩
        · exact d ⟨by omega, by omega⟩
    · rintro ⟨a, b⟩
      exact ⟨⟨⟨a, fun h => b (by omega)⟩, fun h => b (by omega)⟩, fun h => b (by omega)⟩

end scan

/-! # The lanes put together -/

theorem laneMin_le (v : FVec Ideal S16 .f32) (z : EReal) : z ≤ laneMin v ↔ ∀ x : Fin 16, z ≤ v (at1 x.val x.isLt) := by
  have e : ∀ a b : Ideal .f32, z ≤ Scalar.minimumf a b ↔ z ≤ a ∧ z ≤ b := fun a b => le_min_iff
  have g : ∀ l : Fin 16, lane l v = v (at1 l.val l.isLt) := fun l => congrArg v (idx1_ext (by fin_cases l <;> rfl))
  unfold laneMin
  simp only [e, g, Fin.forall_fin_succ, and_assoc]
  simp

theorem foldl_minui (L : List (Fin 16)) (f : Fin 16 → BitVec 32) (i : BitVec 32) :
    (L.foldl (fun r k => ScanKind.step .min r (f k)) i = i ∨ ∃ k ∈ L, L.foldl (fun r k => ScanKind.step .min r (f k)) i = f k) ∧
      (L.foldl (fun r k => ScanKind.step .min r (f k)) i).toNat ≤ i.toNat ∧
      ∀ k ∈ L, (L.foldl (fun r k => ScanKind.step .min r (f k)) i).toNat ≤ (f k).toNat := by
  induction L generalizing i with
  | nil => exact ⟨Or.inl rfl, le_rfl, fun k hk => absurd hk List.not_mem_nil⟩
  | cons b L ih =>
    have hm : (ScanKind.step .min i (f b) = i ∨ ScanKind.step .min i (f b) = f b) ∧ (ScanKind.step .min i (f b)).toNat ≤ i.toNat
        ∧ (ScanKind.step .min i (f b)).toNat ≤ (f b).toNat := by
      show (IntOp.minui i (f b) = i ∨ IntOp.minui i (f b) = f b) ∧ (IntOp.minui i (f b)).toNat ≤ _ ∧ (IntOp.minui i (f b)).toNat ≤ _
      unfold IntOp.minui
      split <;> rename_i c <;> simp only [BitVec.ult, BitVec.ule, BitVec.lt_def, BitVec.le_def, decide_eq_true_eq] at c <;>
        exact ⟨by simp, by omega, by omega⟩
    obtain ⟨g1, g2, g3⟩ := ih (ScanKind.step .min i (f b))
    rw [List.foldl_cons]
    refine ⟨?_, g2.trans hm.2.1, fun k hk => ?_⟩
    · rcases g1 with g1 | ⟨k, hk, g1⟩
      · rw [g1]
        rcases hm.1 with h | h
        · exact Or.inl h
        · exact Or.inr ⟨b, List.mem_cons_self, h⟩
      · exact Or.inr ⟨k, List.mem_cons_of_mem _ hk, g1⟩
    · rcases List.mem_cons.1 hk with rfl | hk
      · exact g2.trans hm.2.2
      · exact g3 k hk

theorem xor_top (b : BitVec 32) (h : b.toNat < 2 ^ 31) : (b ^^^ 2147483648#32).toNat = 2 ^ 31 + b.toNat := by
  rw [BitVec.toNat_xor, show 2 ^ 31 + b.toNat = 2 ^ 31 ||| b.toNat by simpa using Nat.two_pow_add_eq_or_of_lt h 1]
  show b.toNat ^^^ 2 ^ 31 = _
  apply Nat.eq_of_testBit_eq
  intro i
  rw [Nat.testBit_xor, Nat.testBit_or, Nat.testBit_two_pow]
  by_cases e : 31 = i
  · subst e
    simp [Nat.testBit_lt_two_pow h]
  · simp [e]

theorem laneArg_spec (rm : FVec Ideal S16 .f32) (ri : IVec S16 32) (hr : ∀ x, (ri x).toNat ≤ 4096)
    (hm : ∃ x : Fin 16, (rm (at1 x.val x.isLt) : EReal) = laneMin rm) :
    (∃ x : Fin 16, (rm (at1 x.val x.isLt) : EReal) = laneMin rm ∧ (laneArg rm ri).toNat = (ri (at1 x.val x.isLt)).toNat) ∧
      ∀ x : Fin 16, (rm (at1 x.val x.isLt) : EReal) = laneMin rm → (laneArg rm ri).toNat ≤ (ri (at1 x.val x.isLt)).toNat := by
  have hg : ∀ x : S16.Idx, (select (cmpf .oeq rm (broadcast S16 (laneMin rm))) ri (broadcast S16 4096#32) x)
      = if (rm x : EReal) = laneMin rm then ri x else 4096#32 := fun x => sel_eq (rm x) (laneMin rm) (ri x) 4096#32
  obtain ⟨g, hgd⟩ : ∃ g : S16.Idx → BitVec 32, g = fun x => if (rm x : EReal) = laneMin rm then ri x else 4096#32 := ⟨_, rfl⟩
  have hG : select (cmpf .oeq rm (broadcast S16 (laneMin rm))) ri (broadcast S16 4096#32) = g := by
    rw [hgd]; exact funext hg
  have hg4 : ∀ x, (g x).toNat ≤ 4096 := fun x => by
    rw [hgd]; dsimp only; split
    · exact hr x
    · simp
  have hx : ∀ x, (g x ^^^ 2147483648#32).toNat = 2 ^ 31 + (g x).toNat := fun x => xor_top _ (by have := hg4 x; omega)
  obtain ⟨R, hR⟩ : ∃ R, ((List.finRange 16).filter fun k : Fin 16 => decide (0 < k.val ∧ k.val ≤ 15)).foldl
      (fun r k => ScanKind.step .min r (g (at1 k.val k.isLt) ^^^ 2147483648#32)) (g (at1 0 (by omega)) ^^^ 2147483648#32) = R := ⟨_, rfl⟩
  have hA : laneArg rm ri = R ^^^ 2147483648#32 := by
    unfold laneArg
    rw [hG, ← hR]
    rfl
  have hf := foldl_minui ((List.finRange 16).filter fun k : Fin 16 => decide (0 < k.val ∧ k.val ≤ 15))
    (fun k => g (at1 k.val k.isLt) ^^^ 2147483648#32) (g (at1 0 (by omega)) ^^^ 2147483648#32)
  rw [hR] at hf
  obtain ⟨f1, f2, f3⟩ := hf
  have h1 : ∃ x : Fin 16, R = g (at1 x.val x.isLt) ^^^ 2147483648#32 := by
    rcases f1 with f1 | ⟨k, _, f1⟩
    · exact ⟨0, f1⟩
    · exact ⟨k, f1⟩
  have h2 : ∀ x : Fin 16, R.toNat ≤ (g (at1 x.val x.isLt) ^^^ 2147483648#32).toNat := fun x => by
    by_cases hx0 : x = 0
    · subst hx0; exact f2
    · refine f3 x (List.mem_filter.2 ⟨List.mem_finRange x, ?_⟩)
      have := x.isLt
      have : x.val ≠ 0 := fun c => hx0 (Fin.ext c)
      simp only [decide_eq_true_eq]
      omega
  obtain ⟨y, hy⟩ := h1
  have hAy : laneArg rm ri = g (at1 y.val y.isLt) := by
    rw [hA, hy, BitVec.xor_assoc, BitVec.xor_self, BitVec.xor_zero]
  have hle : ∀ x : Fin 16, (laneArg rm ri).toNat ≤ (g (at1 x.val x.isLt)).toNat := fun x => by
    have := h2 x
    rw [hy, hx, hx] at this
    rw [hAy]; omega
  have hle' : ∀ x : Fin 16, (rm (at1 x.val x.isLt) : EReal) = laneMin rm → (laneArg rm ri).toNat ≤ (ri (at1 x.val x.isLt)).toNat := fun x hx => by
    have := hle x
    rw [show g (at1 x.val x.isLt) = ri (at1 x.val x.isLt) by rw [hgd]; exact if_pos hx] at this
    exact this
  refine ⟨?_, hle'⟩
  by_cases c : (rm (at1 y.val y.isLt) : EReal) = laneMin rm
  · exact ⟨y, c, by rw [hAy, hgd]; exact congrArg BitVec.toNat (if_pos c)⟩
  · obtain ⟨x, hx⟩ := hm
    refine ⟨x, hx, le_antisymm (hle' x hx) ?_⟩
    have : laneArg rm ri = 4096#32 := by rw [hAy, hgd]; exact if_neg c
    rw [this]
    exact hr _

/-- What the lanes of a carry give together. -/
theorem carry_best (c : Carry Ideal) (l : Fin 8) (d : ℕ → EReal)
    (h : ∀ x : S16.Idx, Run (x 0).val (fun q => d (16 * q + (x 0).val)) 256 (cM c l x) (cI c l x).toNat) :
    Best d 4096 (laneMin (cM c l)) (laneArg (cM c l) (cI c l)).toNat := by
  generalize cM c l = rm at h ⊢
  generalize cI c l = ri at h ⊢
  have hV := laneMin_le rm
  have hr : ∀ x, (ri x).toNat ≤ 4096 := fun x => by
    have hx := idx1_lt x
    rcases (h x).2 with ⟨_, e⟩ | ⟨_, q, hq, e, _⟩ <;> rw [e] <;> omega
  obtain ⟨⟨x, hx, hxe⟩, hle⟩ := laneArg_spec rm ri hr (exists_eq_of_le _ _ hV)
  have := Run.best (d := d) (p := 256) (fun x => rm (at1 x.val x.isLt)) (fun x => (ri (at1 x.val x.isLt)).toNat)
    (fun x => h (at1 x.val x.isLt)) (by omega) _ _ hV ⟨x, hx, hxe⟩ hle
  exact this

/-- What a block of eight queries finds for each of them. -/
theorem block_best (cx cy cz : Fin 8 → EReal) (fx fy fz : FVec Ideal S4096 .f32) (l : Fin 8) (n : ℕ) (hn : n = 128) :
    Best (dl (cx l) (cy l) (cz l) fx fy fz) 4096
      (laneMin (cM (scanC io (fun l _ => cx l) (fun l _ => cy l) (fun l _ => cz l) fx fy fz n) l))
      (laneArg (cM (scanC io (fun l _ => cx l) (fun l _ => cy l) (fun l _ => cz l) fx fy fz n) l)
        (cI (scanC io (fun l _ => cx l) (fun l _ => cy l) (fun l _ => cz l) fx fy fz n) l)).toNat := by
  have h := scanC_run cx cy cz fx fy fz n (by omega) l
  refine carry_best _ _ _ fun x => ?_
  have := h x
  rw [show 2 * n = 256 by omega] at this
  exact this

/-! # The lanes of one tile -/

theorem sel_cmpi {α : Type} (a b : BitVec 32) (x y : α) : Scalar.select (IntOp.cmpi .eq a b) x y = if a = b then x else y := by
  by_cases h : a = b
  · simp [Scalar.select, IntOp.cmpi, h]
  · rw [if_neg h]
    simp [Scalar.select, IntOp.cmpi, beq_eq_false_iff_ne.2 h]

theorem io_apply (x : Fin 16) : (io : IVec S16 32) (at1 x.val x.isLt) = BitVec.ofNat 32 x.val := by
  fin_cases x <;> rfl

theorem put_apply {α : Type} (l x : Fin 16) (m : α) (acc : S16.Idx → α) :
    select (cmpi .eq io (broadcast S16 (BitVec.ofNat 32 l.val))) (broadcast S16 m) acc (at1 x.val x.isLt)
      = if x = l then m else acc (at1 x.val x.isLt) := by
  refine (sel_cmpi (io (at1 x.val x.isLt)) (BitVec.ofNat 32 l.val) m _).trans ?_
  rw [io_apply]
  have : (BitVec.ofNat 32 x.val = BitVec.ofNat 32 l.val) ↔ x = l := by
    rw [Fin.ext_iff, ← BitVec.toNat_inj]
    have := x.isLt; have := l.isLt
    simp only [BitVec.toNat_ofNat]
    omega
  simp only [this]

theorem accM_apply (hi : Bool) (rm : Fin 8 → FVec Ideal S16 .f32) (acc : FVec Ideal S16 .f32) (x : Fin 16) :
    accM io hi rm acc (at1 x.val x.isLt)
      = if (x.val / 8 = if hi then 1 else 0) then laneMin (rm ⟨x.val % 8, by omega⟩) else acc (at1 x.val x.isLt) := by
  unfold accM putM
  simp only [put_apply]
  cases hi <;> fin_cases x <;> simp [ln, Fin.ext_iff]

theorem accI_apply (hi : Bool) (rm : Fin 8 → FVec Ideal S16 .f32) (ri : Fin 8 → IVec S16 32) (acc : IVec S16 32) (x : Fin 16) :
    accI io hi rm ri acc (at1 x.val x.isLt)
      = if (x.val / 8 = if hi then 1 else 0) then laneArg (rm ⟨x.val % 8, by omega⟩) (ri ⟨x.val % 8, by omega⟩) else acc (at1 x.val x.isLt) := by
  unfold accI putI
  simp only [put_apply]
  cases hi <;> fin_cases x <;> simp [ln, Fin.ext_iff]

section tile
variable (fw : FVec Ideal S24576 .f32)

/-- One number of the array all tiles read. -/
def rd (k : ℕ) : EReal := if h : k < 24576 then fw (at1 k h) else ⊤

/-- The distance of query `i` to point `j`, read from the array. -/
def dF (i j : ℕ) : EReal :=
  abd (rd fw (12288 + j)) (rd fw (16384 + j)) (rd fw (20480 + j)) (rd fw i) (rd fw (4096 + i)) (rd fw (8192 + i))

/-- The number of the query in lane `x` of half `hf` of tile `w`. -/
def qn (w : Fin 32) (hf : Fin 2) (x : ℕ) : ℕ := 3072 + 32 * w.val + 16 * hf.val + x

theorem sect_eq (o : Fin 3) (j : S4096.Idx) : sect fw o j = rd fw (12288 + 4096 * o.val + (j 0).val) := by
  have := idx1_lt j; have := o.isLt
  rw [rd, dif_pos (by omega)]; rfl

theorem qv_eq (w : Fin 32) (o : Fin 3) (hf : Fin 2) (x : Fin 16) : qv fw w o hf (at1 x.val x.isLt) = rd fw (4096 * o.val + qn w hf x.val) := by
  have := x.isLt; have := o.isLt; have := w.isLt; have := hf.isLt
  rw [rd, dif_pos (by unfold qn; omega)]
  exact congrArg fw (idx1_ext (by show 4096 * o.val + (3072 + 32 * w.val) + 16 * hf.val + x.val = 4096 * o.val + qn w hf x.val; unfold qn; omega))

theorem bqs_eq (hi : Bool) (w : Fin 32) (o : Fin 3) (hf : Fin 2) :
    bqs hi (qv fw w o hf) = fun l _ => rd fw (4096 * o.val + qn w hf (ln hi l).val) := by
  funext l x
  rw [← qv_eq]
  unfold bqs
  generalize qv fw w o hf = v
  generalize ln hi l = k
  show v _ = v _
  refine congrArg v (idx1_ext ?_)
  fin_cases k <;> rfl

theorem dl_sect (cx cy cz : EReal) (i : ℕ) (hx : cx = rd fw i) (hy : cy = rd fw (4096 + i)) (hz : cz = rd fw (8192 + i)) (j : ℕ) (hj : j < 4096) :
    dl cx cy cz (sect fw 0) (sect fw 1) (sect fw 2) j = dF fw i j := by
  rw [dl, dif_pos hj, sect_eq, sect_eq, sect_eq, hx, hy, hz]
  rfl

theorem blk_best (w : Fin 32) (hf : Fin 2) (hi : Bool) (l : Fin 8) :
    Best (dF fw (qn w hf (ln hi l).val)) 4096 (laneMin (cM (blk fw w hf hi) l)) (laneArg (cM (blk fw w hf hi) l) (cI (blk fw w hf hi) l)).toNat := by
  unfold blk
  rw [bqs_eq, bqs_eq, bqs_eq]
  refine (block_best _ _ _ _ _ _ l _ rfl).congr fun j hj => ?_
  refine dl_sect fw _ _ _ (qn w hf (ln hi l).val) ?_ rfl rfl j hj
  show rd fw (4096 * 0 + _) = _
  rw [Nat.mul_zero, Nat.zero_add]

theorem half_best (w : Fin 32) (hf : Fin 2) (acc : FVec Ideal S16 .f32) (acci : IVec S16 32) (x : Fin 16) :
    Best (dF fw (qn w hf x.val)) 4096 (halfM fw w hf acc (at1 x.val x.isLt)) (halfI fw w hf acci (at1 x.val x.isLt)).toNat := by
  unfold halfM halfI
  rw [accM_apply, accI_apply]
  have hx := x.isLt
  by_cases h : x.val / 8 = 1
  · have e : (ln true ⟨x.val % 8, by omega⟩).val = x.val := by show 8 + x.val % 8 = _; omega
    have := blk_best fw w hf true ⟨x.val % 8, by omega⟩
    rw [e] at this
    simp only [h, if_true]
    exact this
  · have h0 : x.val / 8 = 0 := by omega
    have e : (ln false ⟨x.val % 8, by omega⟩).val = x.val := by show 0 + x.val % 8 = _; omega
    have := blk_best fw w hf false ⟨x.val % 8, by omega⟩
    rw [e] at this
    rw [accM_apply, accI_apply]
    simp only [h0]
    exact this

/-- What the tiles find for their queries. -/
theorem out_best (j : Fin 1024) :
    Best (dF fw (3072 + j.val)) 4096 (outCh fw (at1 j.val j.isLt)) (outIx fw (at1 j.val j.isLt)).toNat := by
  have hj := j.isLt
  unfold outCh outIx join2
  dsimp only
  split
  · rename_i h
    have := half_best fw ⟨j.val / 32, by omega⟩ 0 zeroM (broadcast S16 0#32) ⟨j.val % 32, h⟩
    rw [show qn ⟨j.val / 32, by omega⟩ 0 (j.val % 32) = 3072 + j.val by unfold qn; simp; omega] at this
    exact this
  · rename_i h
    have := half_best fw ⟨j.val / 32, by omega⟩ 1 (mins0 fw ⟨j.val / 32, by omega⟩) (idxs0 fw ⟨j.val / 32, by omega⟩) ⟨j.val % 32 - 16, by omega⟩
    rw [show qn ⟨j.val / 32, by omega⟩ 1 (j.val % 32 - 16) = 3072 + j.val by
      have : ¬ j.val % 32 < 16 := h
      unfold qn; simp; omega] at this
    exact this

theorem blkM_le (w : Fin 32) (hf : Fin 2) (hi : Bool) (fm : FVec Ideal S4096 .f32) (j : S4096.Idx) (z : EReal) :
    z ≤ blkM fw w hf hi fm j ↔ z ≤ fm j ∧ ∀ l : Fin 8, z ≤ dF fw (qn w hf (ln hi l).val) (j 0).val := by
  have hj := idx1_lt j
  unfold blkM
  rw [bqs_eq, bqs_eq, bqs_eq, scanM_le _ _ _ _ _ _ _ k0_t2_loop.trips (le_of_eq rfl)]
  refine and_congr Iff.rfl ?_
  have e : ∀ l : Fin 8, dl (rd fw (4096 * (0 : Fin 3).val + qn w hf (ln hi l).val)) (rd fw (4096 * (1 : Fin 3).val + qn w hf (ln hi l).val))
      (rd fw (4096 * (2 : Fin 3).val + qn w hf (ln hi l).val)) (sect fw 0) (sect fw 1) (sect fw 2) (j 0).val = dF fw (qn w hf (ln hi l).val) (j 0).val := fun l => by
    refine dl_sect fw _ _ _ (qn w hf (ln hi l).val) ?_ rfl rfl _ hj
    show rd fw (4096 * 0 + _) = _
    rw [Nat.mul_zero, Nat.zero_add]
  simp only [e]
  exact ⟨fun h => h hj, fun h _ => h⟩

/-- What the column minima of one tile are. -/
theorem colT_le (w : Fin 32) (j : S4096.Idx) (z : EReal) :
    z ≤ colT fw w j ↔ ∀ y, y < 32 → z ≤ dF fw (3072 + 32 * w.val + y) (j 0).val := by
  unfold colT
  rw [blkM_le, blkM_le, blkM_le, blkM_le, bigW_top]
  have hq : ∀ (hf : Fin 2) (hi : Bool) (l : Fin 8), qn w hf (ln hi l).val = 3072 + 32 * w.val + (16 * hf.val + ((if hi then 8 else 0) + l.val)) :=
    fun hf hi l => by unfold qn ln; dsimp only; omega
  simp only [hq]
  constructor
  · rintro ⟨⟨⟨⟨_, a⟩, b⟩, c⟩, d⟩ y hy
    by_cases h1 : y < 8
    · have := a ⟨y, h1⟩; simpa using this
    · by_cases h2 : y < 16
      · have := b ⟨y - 8, by omega⟩; simp only [Fin.val_zero, if_true] at this; rwa [show 16 * 0 + (8 + (y - 8)) = y by omega] at this
      · by_cases h3 : y < 24
        · have := c ⟨y - 16, by omega⟩; simp only [Fin.val_one] at this; rwa [show 16 * 1 + ((if false = true then 8 else 0) + (y - 16)) = y by simp; omega] at this
        · have := d ⟨y - 24, by omega⟩; simp only [Fin.val_one, if_true] at this; rwa [show 16 * 1 + (8 + (y - 24)) = y by omega] at this
  · intro h
    have g : ∀ (hf : Fin 2) (hi : Bool) (l : Fin 8), z ≤ dF fw (3072 + 32 * w.val + (16 * hf.val + ((if hi then 8 else 0) + l.val))) (j 0).val := fun hf hi l =>
      h _ (by have := hf.isLt; have := l.isLt; split <;> omega)
    exact ⟨⟨⟨⟨le_top, g 0 false⟩, g 0 true⟩, g 1 false⟩, g 1 true⟩

end tile

end Cert.Val
-- ==== Proof.V.TcVal.lean ====
module

public import proofs.«01_k».proof.Proof.V.Scan
public import Idealize.ShloMosaic.Lib.IdealHost
public import Idealize.ShloMosaic.Lib.WordArith
public import Idealize.ShloMosaic.Lib.Pipeline.Value
public import Idealize.ShloMosaic.Lib.Pointwise.Tactic

@[expose] public section

noncomputable section

namespace Cert.Val

open Idealize.ShloMosaic Idealize.SL.Sem Cert.KernelIdeal Cert.KernelIdeal.Gen Cert.KernelIdeal.KI

/-! # The TensorCore's terms in closed form -/

theorem ofBits_inf_k : (FloatOps.ofBits (F := Ideal) .f32 0x7F800000#32 : EReal) = ⊤ := by
  show Ideal.ofBits .f32 0x7F800000#32 = ⊤
  simp [Ideal.ofBits, Ideal.ieee]

/-- The first place of the least number, from the least of the places that hold it. -/
theorem best_of {d : ℕ → EReal} {n N : ℕ} {v : EReal} (hn : 0 < n) (hI : Inf d n v)
    (hN : ∀ z : ℕ, z ≤ N ↔ ∀ k, k < n → z ≤ if d k = v then k else n) : Best d n v N := by
  have hx : ∃ k, k < n ∧ d k = v := by
    obtain ⟨k, hk, hm⟩ := Finset.exists_min_image (Finset.range n) d ⟨0, Finset.mem_range.2 hn⟩
    have hk' := Finset.mem_range.1 hk
    refine ⟨k, hk', le_antisymm ((hI _).2 fun i hi => hm i (Finset.mem_range.2 hi)) (hI.le hk')⟩
  classical
  obtain ⟨h1, h2⟩ := Nat.find_spec hx
  have hmin := fun j => Nat.find_min hx (m := j)
  have e : N = Nat.find hx := by
    apply le_antisymm
    · have := (hN N).1 le_rfl _ h1
      rwa [if_pos h2] at this
    · refine (hN _).2 fun k hk => ?_
      split
      · rename_i h
        exact Nat.find_min' hx ⟨hk, h⟩
      · exact h1.le
  rw [e]
  refine ⟨hI, h1, h2, fun j hj => lt_of_le_of_ne (hI.le (hj.trans h1)) fun c => hmin j hj ⟨hj.trans h1, c.symm⟩⟩

theorem red_r : S256x4096.Reduces [1] S256 := by decide
theorem red_c : S256x4096.Reduces [0] S4096 := by decide
theorem red_p : S32x4096.Reduces [0] S4096 := by decide

theorem lift_r (r : Fin 256) (k : Fin 4096) : red_r.lift (ix1 r) k = ix2 r k := by
  funext a; apply Fin.ext; refine (Shape.Reduces.lift_val _ _ _ _).trans ?_; fin_cases a <;> rfl
theorem lift_c (k : Fin 4096) (r : Fin 256) : red_c.lift (ix1 k) r = ix2 r k := by
  funext a; apply Fin.ext; refine (Shape.Reduces.lift_val _ _ _ _).trans ?_; fin_cases a <;> rfl
theorem lift_p (k : Fin 4096) (r : Fin 32) : red_p.lift (ix1 k) r = ix2 r k := by
  funext a; apply Fin.ext; refine (Shape.Reduces.lift_val _ _ _ _).trans ?_; fin_cases a <;> rfl

/-- The least numbers of the rows and of the columns. -/
theorem min_r (D : FVec Ideal S256x4096 .f32) (h : S256x4096.Reduces [1] S256) (h1 h2) (r : Fin 256) (z : EReal) :
    z ≤ multiReduction .minimumf [1] S256 D 0x7F800000#32 h h1 h2 (ix1 r) ↔ ∀ k : Fin 4096, z ≤ D (ix2 r k) := by
  rw [multiReduction_minimumf_eq_fold, Shape.Reduces.fold_filter_drop_single, ofBits_inf_k]
  refine (Finset.le_fold_min z).trans ?_
  simp only [le_top, true_and, Finset.mem_univ, true_implies, Function.comp]
  exact forall_congr' fun k => iff_of_eq (congrArg (fun q => z ≤ D q) (lift_r r k))

theorem min_c (D : FVec Ideal S256x4096 .f32) (h : S256x4096.Reduces [0] S4096) (h1 h2) (k : Fin 4096) (z : EReal) :
    z ≤ multiReduction .minimumf [0] S4096 D 0x7F800000#32 h h1 h2 (ix1 k) ↔ ∀ r : Fin 256, z ≤ D (ix2 r k) := by
  rw [multiReduction_minimumf_eq_fold, Shape.Reduces.fold_filter_drop_single, ofBits_inf_k]
  refine (Finset.le_fold_min z).trans ?_
  simp only [le_top, true_and, Finset.mem_univ, true_implies, Function.comp]
  exact forall_congr' fun r => iff_of_eq (congrArg (fun q => z ≤ D q) (lift_c k r))

theorem min_p (D : FVec Ideal S32x4096 .f32) (h : S32x4096.Reduces [0] S4096) (h1 h2) (k : Fin 4096) (z : EReal) :
    z ≤ multiReduction .minimumf [0] S4096 D 0x7F800000#32 h h1 h2 (ix1 k) ↔ ∀ r : Fin 32, z ≤ D (ix2 r k) := by
  rw [multiReduction_minimumf_eq_fold, Shape.Reduces.fold_filter_drop_single, ofBits_inf_k]
  refine (Finset.le_fold_min z).trans ?_
  simp only [le_top, true_and, Finset.mem_univ, true_implies, Function.comp]
  exact forall_congr' fun r => iff_of_eq (congrArg (fun q => z ≤ D q) (lift_p k r))

/-- A signed least word, as a number. -/
theorem fold_minsi {ι : Type} [DecidableEq ι] (s : Finset ι) (f : ι → BitVec 32) (b : BitVec 32) (hb : b.toNat < 2 ^ 31) (hf : ∀ k, (f k).toNat < 2 ^ 31) :
    (s.fold IntOp.minsi b f).toNat < 2 ^ 31 ∧ ∀ z : ℕ, z ≤ (s.fold IntOp.minsi b f).toNat ↔ z ≤ b.toNat ∧ ∀ k ∈ s, z ≤ (f k).toNat := by
  induction s using Finset.induction with
  | empty => exact ⟨hb, fun z => by simp⟩
  | insert a s ha ih =>
    rw [Finset.fold_insert ha, WordArith.toNat_minsi_of_lt _ _ (hf a) ih.1]
    refine ⟨lt_of_le_of_lt (min_le_left _ _) (hf a), fun z => ?_⟩
    rw [le_min_iff, ih.2 z, Finset.forall_mem_insert]
    tauto

theorem arg_r (D : IVec S256x4096 32) (h : S256x4096.Reduces [1] S256) (h2) (r : Fin 256) (hD : ∀ q, (D q).toNat ≤ 4096) (z : ℕ) :
    z ≤ (multiReductionI .minsi [1] S256 D 2147483647#32 h h2 (ix1 r)).toNat ↔ ∀ k : Fin 4096, z ≤ (D (ix2 r k)).toNat := by
  rw [multiReductionI_eq_fold, Shape.Reduces.fold_filter_drop_single]
  have := (fold_minsi (Finset.univ : Finset (Fin 4096)) (D ∘ h.lift (ix1 r)) 2147483647#32 (by decide) (fun k => by have := hD (h.lift (ix1 r) k); simp only [Function.comp]; omega)).2 z
  refine this.trans ?_
  simp only [Finset.mem_univ, true_implies, Function.comp]
  constructor
  · intro ⟨_, g⟩ k
    have := g k
    rwa [show h.lift (ix1 r) k = ix2 r k from lift_r r k] at this
  · intro g
    refine ⟨?_, fun k => ?_⟩
    · have h1 := g 0
      have h2 := hD (ix2 r 0)
      have h3 : (2147483647#32).toNat = 2147483647 := rfl
      omega
    · rw [show h.lift (ix1 r) k = ix2 r k from lift_r r k]
      exact g k

/-- A reshape to the same shape changes nothing. -/
theorem sc_self {s : Shape} {α : Type} (x : s.Idx → α) (h : s.ShapeCasts s) : shapeCast s x h = x :=
  funext fun j => Idealize.ShloMosaic.shapeCast_apply x h j j rfl

/-! ## The distance body -/

/-- The distance of row `r` of a block to column `k`. -/
def tD (X0 X1 : S256x3.Idx → Ideal .f32) (X2 : S8x4096.Idx → Ideal .f32) (r : Fin 256) (k : Fin 4096) : EReal :=
  abd (X0 (ix2 r 0) + X1 (ix2 r 0) : EReal) (X0 (ix2 r 1) + X1 (ix2 r 1) : EReal) (X0 (ix2 r 2) + X1 (ix2 r 2) : EReal) (X2 (ix2 0 k)) (X2 (ix2 1 k)) (X2 (ix2 2 k))

theorem rowOf_apply (n : Fin 8) (inb) (X2 : S8x4096.Idx → Ideal .f32) (k : Fin 4096) : rowOf (F := Ideal) n.val inb X2 (ix2 0 k) = X2 (ix2 n k) := by
  refine congrArg X2 ?_
  funext a; apply Fin.ext
  fin_cases a
  · show n.val + 1 * 0 = n.val; omega
  · show 0 + 1 * k.val = k.val; omega

theorem pay5_apply (X0 X1 : S256x3.Idx → Ideal .f32) (r0 r1 r2 : S1x4096.Idx → Ideal .f32) (r : Fin 256) (k : Fin 4096) :
    (k1_pay5 (F := Ideal) X0 X1 r0 r1 r2) (ix2 r k)
      = abd (X0 (ix2 r 0) + X1 (ix2 r 0) : EReal) (X0 (ix2 r 1) + X1 (ix2 r 1) : EReal) (X0 (ix2 r 2) + X1 (ix2 r 2) : EReal) (r0 (ix2 0 k)) (r1 (ix2 0 k)) (r2 (ix2 0 k)) := by
  unfold k1_pay5 abd
  rw [sc_self X0, sc_self X1, sc_self r0, sc_self r1, sc_self r2]
  pointwise
  rfl

theorem dM_apply (X0 X1 : S256x3.Idx → Ideal .f32) (X2 : S8x4096.Idx → Ideal .f32) (r : Fin 256) (k : Fin 4096) :
    dM (F := Ideal) X0 X1 X2 (ix2 r k) = tD X0 X1 X2 r k := by
  refine (pay5_apply _ _ _ _ _ _ _).trans ?_
  unfold tD
  rw [← rowOf_apply 0 inb_S8x4096_S1x4096_0_0 X2 k, ← rowOf_apply 1 inb_S8x4096_S1x4096_1_0 X2 k, ← rowOf_apply 2 inb_S8x4096_S1x4096_2_0 X2 k]
  rfl

theorem pay6_apply (X0 X1 : S256x3.Idx → Ideal .f32) (r0 r1 r2 : S1x4096.Idx → Ideal .f32) (r : Fin 256) (z : EReal) :
    z ≤ (k1_pay6 (F := Ideal) X0 X1 r0 r1 r2) (ix2 r 0) ↔ ∀ k : Fin 4096, z ≤ k1_pay5 (F := Ideal) X0 X1 r0 r1 r2 (ix2 r k) := by
  unfold k1_pay6
  generalize k1_pay5 (F := Ideal) X0 X1 r0 r1 r2 = D
  rw [← min_r D reduces_S256x4096_S256 (.inl rfl) rfl r z]
  refine iff_of_eq (congrArg (fun q => z ≤ q) ?_)
  exact Idealize.ShloMosaic.shapeCast_apply _ _ _ _ (by rfl)

theorem pay7_apply (X0 X1 : S256x3.Idx → Ideal .f32) (r0 r1 r2 : S1x4096.Idx → Ideal .f32) (r : Fin 256) (z : ℕ) :
    z ≤ ((k1_pay7 (F := Ideal) X0 X1 r0 r1 r2) (ix2 r 0)).toNat
      ↔ ∀ k : Fin 4096, z ≤ if (k1_pay5 (F := Ideal) X0 X1 r0 r1 r2 (ix2 r k) : EReal) = k1_pay6 (F := Ideal) X0 X1 r0 r1 r2 (ix2 r 0) then k.val else 4096 := by
  unfold k1_pay7
  generalize k1_pay5 (F := Ideal) X0 X1 r0 r1 r2 = D
  generalize k1_pay6 (F := Ideal) X0 X1 r0 r1 r2 = M
  have hs : ∀ (a : Fin 256) (b : Fin 4096), (select (cmpf .oeq D (broadcastTo S256x4096 M broadcasts_S256x1_S256x4096)) (iota .tc S256x4096 32 [1] iota_S256x4096_d1_w32) (broadcast S256x4096 4096#32) (ix2 a b)).toNat
      = if (D (ix2 a b) : EReal) = M (ix2 a 0) then b.val else 4096 := by
    intro a b
    have e1 : broadcastTo S256x4096 M broadcasts_S256x1_S256x4096 (ix2 a b) = M (ix2 a 0) := by pointwise
    have e2 : iota .tc S256x4096 32 [1] iota_S256x4096_d1_w32 (ix2 a b) = BitVec.ofNat 32 b.val := by pointwise
    show (Scalar.select (FloatOps.cmpf (F := Ideal) (φ := .f32) .oeq (D (ix2 a b)) (broadcastTo S256x4096 M broadcasts_S256x1_S256x4096 (ix2 a b))) (iota .tc S256x4096 32 [1] iota_S256x4096_d1_w32 (ix2 a b)) 4096#32).toNat = _
    rw [e1, e2]
    refine (congrArg BitVec.toNat (sel_eq _ _ _ _)).trans ?_
    split
    · simp only [BitVec.toNat_ofNat]; have := b.isLt; omega
    · rfl
  have hx := arg_r (select (cmpf .oeq D (broadcastTo S256x4096 M broadcasts_S256x1_S256x4096)) (iota .tc S256x4096 32 [1] iota_S256x4096_d1_w32) (broadcast S256x4096 4096#32))
    reduces_S256x4096_S256 rfl r (fun q => by
      have e : q = ix2 (q 0) (q 1) := by funext a; fin_cases a <;> rfl
      rw [e]
      refine (hs (q 0) (q 1)).le.trans ?_
      split
      · exact (q 1).isLt.le
      · exact le_rfl) z
  refine Iff.trans (iff_of_eq (congrArg (fun q : BitVec 32 => z ≤ q.toNat) ?_)) (hx.trans (forall_congr' fun k => by rw [hs]))
  exact Idealize.ShloMosaic.shapeCast_apply _ _ _ _ (by rfl)

/-- The least distance of a row and its place. -/
theorem row_best (X0 X1 : S256x3.Idx → Ideal .f32) (X2 : S8x4096.Idx → Ideal .f32) (r : Fin 256) (d : ℕ → EReal) (hd : ∀ k : Fin 4096, tD X0 X1 X2 r k = d k.val) :
    Best d 4096 (dMin (F := Ideal) X0 X1 X2 (ix2 r 0)) (dArg (F := Ideal) X0 X1 X2 (ix2 r 0)).toNat := by
  refine best_of (by omega) (fun z => ?_) (fun z => ?_)
  · refine (pay6_apply _ _ _ _ _ _ _).trans ⟨fun h k hk => ?_, fun h k => ?_⟩
    · rw [← hd ⟨k, hk⟩, ← dM_apply]; exact h _
    · refine le_of_le_of_eq (h k.val k.isLt) ?_
      rw [← hd k, ← dM_apply]
  · refine (pay7_apply _ _ _ _ _ _ _).trans ⟨fun h k hk => ?_, fun h k => ?_⟩
    · rw [← hd ⟨k, hk⟩, ← dM_apply]; exact h ⟨k, hk⟩
    · refine le_of_le_of_eq (h k.val k.isLt) ?_
      rw [← hd k, ← dM_apply]

theorem rm_row (k : Fin 4096) : (S4096.rowMajor (ix1 k)).val = (S1x4096.rowMajor (ix2 0 k)).val := by
  rw [Shape.rowMajor_val_one, Shape.rowMajor_val_two]
  show k.val = 0 * 4096 + k.val
  omega

theorem pay1_apply (D : FVec Ideal S256x4096 .f32) (k : Fin 4096) (z : EReal) :
    z ≤ k1_pay1 (F := Ideal) D (ix2 0 k) ↔ ∀ r : Fin 256, z ≤ D (ix2 r k) := by
  unfold k1_pay1
  rw [← min_c D reduces_S256x4096_S4096 (.inl rfl) rfl k z]
  refine iff_of_eq (congrArg (fun q => z ≤ q) ?_)
  exact Idealize.ShloMosaic.shapeCast_apply _ _ _ _ (rm_row k)

theorem pay3_apply (D : FVec Ideal S256x4096 .f32) (v : FVec Ideal S1x4096 .f32) (k : Fin 4096) (z : EReal) :
    z ≤ k1_pay3 (F := Ideal) D v (ix2 0 k) ↔ z ≤ v (ix2 0 k) ∧ ∀ r : Fin 256, z ≤ D (ix2 r k) := by
  rw [← pay1_apply]
  unfold k1_pay3
  generalize k1_pay1 (F := Ideal) D = C
  have e : shapeCast S1x4096 v shapeCasts_S1x4096_S1x4096 (ix2 0 k) = v (ix2 0 k) := Idealize.ShloMosaic.shapeCast_apply _ _ _ _ (by rfl)
  refine Iff.trans (iff_of_eq (congrArg (fun q => z ≤ q) ?_)) (le_min_iff (c := z) (a := (v (ix2 0 k) : EReal)) (b := C (ix2 0 k)))
  exact congrArg (fun q : EReal => min q (C (ix2 0 k))) e

/-- A sum over a block's rows. -/
theorem sum_256 (v : FVec Ideal S256x1 .f32) (h1 h2) :
    multiReduction .add [1, 2] S1 (shapeCast S1x256x1 v shapeCasts_S256x1_S1x256x1) 0x00000000#32 reduces_S1x256x1_S1 h1 h2 (ix1 0) = ∑ r : Fin 256, (v (ix2 r 0) : EReal) := by
  rw [Ideal.multiReduction_add_total _ _ _ (fun b => by fin_cases b; rfl)]
  unfold shapeCast
  refine (Equiv.sum_comp (Shape.reshapeEquiv shapeCasts_S256x1_S1x256x1) (fun i => (v i : EReal))).trans ?_
  refine (ValueIdx.sum_idx2 (n0 := 256) (n1 := 1) _).trans ?_
  exact Finset.sum_congr rfl fun r _ => Fin.sum_univ_one _

theorem pay2_apply (v : FVec Ideal S256x1 .f32) (q : S1x1.Idx) : k1_pay2 (F := Ideal) v q = ∑ r : Fin 256, (v (ix2 r 0) : EReal) := by
  rw [← sum_256 v (.inl rfl) rfl]
  unfold k1_pay2
  refine (Idealize.ShloMosaic.shapeCast_apply (s := S1) (t := S1x1x1) _ _ _ (ix1 0) (by rfl))

theorem pay4_apply (v : FVec Ideal S256x1 .f32) (a : FVec Ideal S1x1 .f32) (q : S1x1.Idx) : k1_pay4 (F := Ideal) v a q = (a (ix2 0 0) + ∑ r : Fin 256, (v (ix2 r 0) : EReal) : EReal) := by
  have hq : q = ix2 0 0 := by funext b; fin_cases b <;> exact Subsingleton.elim (α := Fin 1) _ _
  subst hq
  rw [← sum_256 v (.inl rfl) rfl]
  unfold k1_pay4
  refine congrArg₂ (fun a b : EReal => a + b) (Idealize.ShloMosaic.shapeCast_apply _ _ _ _ (by rfl)) ?_
  exact (Idealize.ShloMosaic.shapeCast_apply (s := S1) (t := S1x1x1) _ _ _ (ix1 0) (by rfl))

end Cert.Val
-- ==== Proof.V.TcArr.lean ====
module

public import proofs.«01_k».proof.Proof.V.TcVal
public import Idealize.ShloMosaic.Lib.Pipeline.ValueKit

@[expose] public section

set_option maxRecDepth 16384

noncomputable section

namespace Cert.Val

open Idealize.ShloMosaic Idealize.SL.Sem Cert.KernelIdeal Cert.KernelIdeal.Gen Cert.KernelIdeal.KI

/-! # What the two TensorCore calls leave in their arrays -/

variable (W : Dev nD → Valuation τ sig (Elt Ideal)) (c : Dev nD)

theorem ix1_0 : ∀ t : Fin grid1.N, (cfg1.win 0).index t 0 = t.val ∧ (cfg1.win 0).index t 1 = 0 := by decide +kernel
theorem ix1_1 : ∀ t : Fin grid1.N, (cfg1.win 1).index t 0 = t.val ∧ (cfg1.win 1).index t 1 = 0 := by decide +kernel
theorem ix1_2 : ∀ t : Fin grid1.N, (cfg1.win 2).index t 0 = 0 ∧ (cfg1.win 2).index t 1 = 0 := by decide +kernel
theorem ix1_3 : ∀ t : Fin grid1.N, (cfg1.win 3).index t 0 = t.val ∧ (cfg1.win 3).index t 1 = 0 := by decide +kernel
theorem ix1_4 : ∀ t : Fin grid1.N, (cfg1.win 4).index t 0 = t.val ∧ (cfg1.win 4).index t 1 = 0 := by decide +kernel

theorem lt_N1 (t : Fin cfg1.N) : t.val < 12 := lt_of_lt_of_eq t.isLt N_1

/-- The number of row `r` of block `t`. -/
def row (t : Fin cfg1.N) (r : Fin 256) : Fin 3072 := ⟨256 * t.val + r.val, by have := lt_N1 t; have := r.isLt; omega⟩

theorem xb0_apply (t : Fin cfg1.N) (r : Fin 256) (k : Fin 3) : xb0 W c t (ix2 r k) = (W c (Proc.devRef .tc main_v14) : FVec Ideal S3072x3 .f32) (ix2 (row t r) k) := by
  obtain ⟨e0, e1⟩ := ix1_0 t
  unfold xb0
  refine congrArg (W c (Proc.devRef .tc main_v14) : FVec Ideal S3072x3 .f32) ?_
  funext a
  apply Fin.ext
  match a with
  | ⟨0, _⟩ => blk_simp [e0]; unfold row; simp; omega
  | ⟨1, _⟩ => blk_simp [e1]

theorem xb1_apply (t : Fin cfg1.N) (r : Fin 256) (k : Fin 3) : xb1 W c t (ix2 r k) = (W c (Proc.devRef .tc main_v15) : FVec Ideal S3072x3 .f32) (ix2 (row t r) k) := by
  obtain ⟨e0, e1⟩ := ix1_1 t
  unfold xb1
  refine congrArg (W c (Proc.devRef .tc main_v15) : FVec Ideal S3072x3 .f32) ?_
  funext a
  apply Fin.ext
  match a with
  | ⟨0, _⟩ => blk_simp [e0]; unfold row; simp; omega
  | ⟨1, _⟩ => blk_simp [e1]

theorem xb2_apply (q : S8x4096.Idx) : xb2 W c q = (W c (Proc.devRef .tc main_v9) : FVec Ideal S8x4096 .f32) q := by
  obtain ⟨e0, e1⟩ := ix1_2 t1_0
  unfold xb2
  refine congrArg (W c (Proc.devRef .tc main_v9) : FVec Ideal S8x4096 .f32) ?_
  funext a
  apply Fin.ext
  match a with
  | ⟨0, _⟩ => blk_simp [e0]
  | ⟨1, _⟩ => blk_simp [e1]

/-- The block and the row in it of a row of the array. -/
def bt (q : Fin 3072) : Fin cfg1.N := ⟨q.val / 256, lt_of_lt_of_eq (show q.val / 256 < 12 by have := q.isLt; omega) N_1.symm⟩
def br (q : Fin 3072) : Fin 256 := ⟨q.val % 256, Nat.mod_lt _ (by omega)⟩
theorem row_bt (q : Fin 3072) : row (bt q) (br q) = q := Fin.ext (by show 256 * (q.val / 256) + q.val % 256 = q.val; omega)
theorem bt_row (t : Fin cfg1.N) (r : Fin 256) : bt (row t r) = t := Fin.ext (by show (256 * t.val + r.val) / 256 = t.val; have := r.isLt; omega)
theorem br_row (t : Fin cfg1.N) (r : Fin 256) : br (row t r) = r := Fin.ext (by show (256 * t.val + r.val) % 256 = r.val; have := r.isLt; omega)

def G3 : FVec Ideal S3072x1 .f32 := fun q => dMin (F := Ideal) (xb0 W c (bt (q 0))) (xb1 W c (bt (q 0))) (xb2 W c) (ix2 (br (q 0)) 0)
def G4 : IVec S3072x1 32 := fun q => dArg (F := Ideal) (xb0 W c (bt (q 0))) (xb1 W c (bt (q 0))) (xb2 W c) (ix2 (br (q 0)) 0)

theorem y1_ext (y : S256x1.Idx) : y = ix2 (y 0) 0 := by
  funext a
  match a with
  | ⟨0, _⟩ => rfl
  | ⟨1, _⟩ => exact Subsingleton.elim (α := Fin 1) _ _
theorem emb3 (t : Fin cfg1.N) (r : Fin 256) : ((cfg1.win 3).blk t).view.emb (ix2 r 0 : S256x1.Idx) = (ix2 (row t r) 0 : S3072x1.Idx) := by
  obtain ⟨e0, e1⟩ := ix1_3 t
  funext a
  apply Fin.ext
  match a with
  | ⟨0, _⟩ => blk_simp [e0]; unfold row; simp; omega
  | ⟨1, _⟩ => blk_simp [e1]
theorem emb4 (t : Fin cfg1.N) (r : Fin 256) : ((cfg1.win 4).blk t).view.emb (ix2 r 0 : S256x1.Idx) = (ix2 (row t r) 0 : S3072x1.Idx) := by
  obtain ⟨e0, e1⟩ := ix1_4 t
  funext a
  apply Fin.ext
  match a with
  | ⟨0, _⟩ => blk_simp [e0]; unfold row; simp; omega
  | ⟨1, _⟩ => blk_simp [e1]
theorem G3_row (t : Fin cfg1.N) (r : Fin 256) : dMin (F := Ideal) (xb0 W c t) (xb1 W c t) (xb2 W c) (ix2 r 0) = G3 W c (ix2 (row t r) 0) := by
  show _ = dMin (F := Ideal) (xb0 W c (bt (row t r))) (xb1 W c (bt (row t r))) (xb2 W c) (ix2 (br (row t r)) 0)
  rw [bt_row, br_row]
theorem arr3_of (A : Fin cfg1.N → FVec Ideal S256x1 .f32) (G : FVec Ideal S3072x1 .f32) (hA : ∀ t, (dat1 W c).after 3 t = A t) (hG : ∀ t (r : Fin 256), A t (ix2 r 0) = G (ix2 (row t r) 0)) :
    (dat1 W c).arrAt 3 cfg1.N = G := by
  refine (dat1 W c).arrAt_eq_of_covers 3 _ (by decide +kernel) fun t hf y => ?_
  obtain ⟨r, rfl⟩ : ∃ r : Fin 256, y = (ix2 r 0 : S256x1.Idx) := ⟨y 0, y1_ext y⟩
  rw [hA, emb3, ← hG]
  rfl
theorem arr3 : (dat1 W c).arrAt 3 cfg1.N = G3 W c :=
  arr3_of W c (fun t => dMin (F := Ideal) (xb0 W c t) (xb1 W c t) (xb2 W c)) _ (after1_3 W c) (G3_row W c)
theorem G4_row (t : Fin cfg1.N) (r : Fin 256) : dArg (F := Ideal) (xb0 W c t) (xb1 W c t) (xb2 W c) (ix2 r 0) = G4 W c (ix2 (row t r) 0) := by
  show _ = dArg (F := Ideal) (xb0 W c (bt (row t r))) (xb1 W c (bt (row t r))) (xb2 W c) (ix2 (br (row t r)) 0)
  rw [bt_row, br_row]
theorem arr4_of (A : Fin cfg1.N → IVec S256x1 32) (G : IVec S3072x1 32) (hA : ∀ t, (dat1 W c).after 4 t = A t) (hG : ∀ t (r : Fin 256), A t (ix2 r 0) = G (ix2 (row t r) 0)) :
    (dat1 W c).arrAt 4 cfg1.N = G := by
  refine (dat1 W c).arrAt_eq_of_covers 4 _ (by decide +kernel) fun t hf y => ?_
  obtain ⟨r, rfl⟩ : ∃ r : Fin 256, y = (ix2 r 0 : S256x1.Idx) := ⟨y 0, y1_ext y⟩
  rw [hA, emb4, ← hG]
  rfl
theorem arr4 : (dat1 W c).arrAt 4 cfg1.N = G4 W c :=
  arr4_of W c (fun t => dArg (F := Ideal) (xb0 W c t) (xb1 W c t) (xb2 W c)) _ (after1_4 W c) (G4_row W c)

def tL : Fin cfg1.N := ⟨11, lt_of_lt_of_eq (by omega) N_1.symm⟩

theorem after5 (t : Fin cfg1.N) : (dat1 W c).after 5 t = accC W c t.val t.isLt := by dsimp only [dat1]
theorem after6 (t : Fin cfg1.N) : (dat1 W c).after 6 t = accS W c t.val t.isLt := by dsimp only [dat1]
theorem after2_4 (t : Fin cfg2.N) : (dat2 W c).after 4 t = k2_pay1 (F := Ideal) (yb3 W c) (yb0 W c) (yb1 W c) (yb2 W c) := by dsimp only [dat2]

theorem arr5_of (X : FVec Ideal S1x4096 .f32) (hX : (dat1 W c).after 5 tL = X) : (dat1 W c).arrAt 5 cfg1.N = X := by
  refine (dat1 W c).arrAt_eq_of_after_last 5 tL (by decide +kernel) _ fun j => ?_
  rw [hX]
  rfl
theorem arr6_of (X : FVec Ideal S1x1 .f32) (hX : (dat1 W c).after 6 tL = X) : (dat1 W c).arrAt 6 cfg1.N = X := by
  refine (dat1 W c).arrAt_eq_of_after_last 6 tL (by decide +kernel) _ fun j => ?_
  rw [hX]
  rfl
theorem arr2_4_of (X : FVec Ideal S1x1 .f32) (hX : (dat2 W c).after 4 t2_0 = X) : (dat2 W c).arrAt 4 cfg2.N = X := by
  refine (dat2 W c).arrAt_eq_of_after_last 4 t2_0 (by decide +kernel) _ fun j => ?_
  rw [hX]
  rfl
theorem arr5 : (dat1 W c).arrAt 5 cfg1.N = accC W c tL.val tL.isLt := arr5_of W c _ (after5 W c tL)
theorem arr6 : (dat1 W c).arrAt 6 cfg1.N = accS W c tL.val tL.isLt := arr6_of W c _ (after6 W c tL)
theorem arr2_4 : (dat2 W c).arrAt 4 cfg2.N = k2_pay1 (F := Ideal) (yb3 W c) (yb0 W c) (yb1 W c) (yb2 W c) := arr2_4_of W c _ (after2_4 W c t2_0)

theorem ix2_0 : ∀ t : Fin grid2.N, (cfg2.win 0).index t 0 = 0 ∧ (cfg2.win 0).index t 1 = 0 := by decide +kernel
theorem ix2_1 : ∀ t : Fin grid2.N, (cfg2.win 1).index t 0 = 0 ∧ (cfg2.win 1).index t 1 = 0 := by decide +kernel
theorem ix2_2 : ∀ t : Fin grid2.N, (cfg2.win 2).index t 0 = 0 ∧ (cfg2.win 2).index t 1 = 0 := by decide +kernel
theorem ix2_3 : ∀ t : Fin grid2.N, (cfg2.win 3).index t 0 = 0 ∧ (cfg2.win 3).index t 1 = 0 := by decide +kernel

theorem yb0_eq : yb0 W c = (W c (Proc.devRef .tc main_v17) : FVec Ideal S8x64 .f32) := by
  obtain ⟨e0, e1⟩ := ix2_0 t2_0
  funext q
  unfold yb0
  refine congrArg (W c (Proc.devRef .tc main_v17) : FVec Ideal S8x64 .f32) ?_
  funext a; apply Fin.ext
  match a with
  | ⟨0, _⟩ => blk_simp [e0]
  | ⟨1, _⟩ => blk_simp [e1]
theorem yb1_eq : yb1 W c = (W c (Proc.devRef .tc main_v18) : FVec Ideal S32x4096 .f32) := by
  obtain ⟨e0, e1⟩ := ix2_1 t2_0
  funext q
  unfold yb1
  refine congrArg (W c (Proc.devRef .tc main_v18) : FVec Ideal S32x4096 .f32) ?_
  funext a; apply Fin.ext
  match a with
  | ⟨0, _⟩ => blk_simp [e0]
  | ⟨1, _⟩ => blk_simp [e1]
theorem yb2_eq : yb2 W c = (W c (Proc.devRef .tc main_v16_2) : FVec Ideal S1x4096 .f32) := by
  obtain ⟨e0, e1⟩ := ix2_2 t2_0
  funext q
  unfold yb2
  refine congrArg (W c (Proc.devRef .tc main_v16_2) : FVec Ideal S1x4096 .f32) ?_
  funext a; apply Fin.ext
  match a with
  | ⟨0, _⟩ => blk_simp [e0]
  | ⟨1, _⟩ => blk_simp [e1]
theorem yb3_eq : yb3 W c = (W c (Proc.devRef .tc main_v16_3) : FVec Ideal S1x1 .f32) := by
  obtain ⟨e0, e1⟩ := ix2_3 t2_0
  funext q
  unfold yb3
  refine congrArg (W c (Proc.devRef .tc main_v16_3) : FVec Ideal S1x1 .f32) ?_
  funext a; apply Fin.ext
  match a with
  | ⟨0, _⟩ => blk_simp [e0]
  | ⟨1, _⟩ => blk_simp [e1]

end Cert.Val
-- ==== Proof.V.RefVal.lean ====
module

public import proofs.«01_k».proof.Proof.V.Scan
public import proofs.«01_k».proof.Proof.Ref
public import Idealize.ShloMosaic.Lib.IdealHost
public import Idealize.ShloMosaic.Lib.Pointwise.Tactic

@[expose] public section

noncomputable section

namespace Cert.Val

open Idealize.ShloMosaic Idealize.SL.Sem Cert.ReferenceIdeal Cert.ReferenceIdeal.Gen

/-! # The reference's results in closed form -/

/-- The distance of point `i` of the first set to point `j` of the second. -/
def eD (x y : FVec Ideal S1x4096x3 .f32) (i j : ℕ) : EReal :=
  if h : i < 4096 ∧ j < 4096 then
    abd (x (ix3 0 ⟨i, h.1⟩ 0)) (x (ix3 0 ⟨i, h.1⟩ 1)) (x (ix3 0 ⟨i, h.1⟩ 2)) (y (ix3 0 ⟨j, h.2⟩ 0)) (y (ix3 0 ⟨j, h.2⟩ 1)) (y (ix3 0 ⟨j, h.2⟩ 2))
  else ⊤

theorem abs_sub_symm (a b : EReal) : max (a - b) (-(a - b)) = max (b - a) (-(b - a)) := by
  induction a with
  | bot => induction b with
    | bot => rfl
    | top => rfl
    | coe b => simp
  | top => induction b with
    | bot => rfl
    | top => rfl
    | coe b => simp
  | coe a => induction b with
    | bot => simp
    | top => simp
    | coe b =>
      rw [← EReal.coe_sub, ← EReal.coe_sub, ← EReal.coe_neg, ← EReal.coe_neg, neg_sub, neg_sub, max_comm]

theorem abd_symm (a b c x y z : EReal) : abd a b c x y z = abd x y z a b c := by
  unfold abd; rw [abs_sub_symm a, abs_sub_symm b, abs_sub_symm c]

theorem eD_symm (x y : FVec Ideal S1x4096x3 .f32) (i j : ℕ) : eD x y i j = eD y x j i := by
  unfold eD
  by_cases h : i < 4096 ∧ j < 4096
  · rw [dif_pos h, dif_pos ⟨h.2, h.1⟩, abd_symm]
  · rw [dif_neg h, dif_neg fun c => h ⟨c.2, c.1⟩]

/-- All differences, coordinate by coordinate. -/
def refV (x y : FVec Ideal S1x4096x3 .f32) : FVec Ideal S1x4096x4096x3 .f32 :=
  Host.absf (subf
    (broadcastInDim S1x4096x4096x3 ![0, 1, 2, 3] Facts₀.bcast_S1x4096x1x3_S1x4096x4096x3_0_1_2_3
      (broadcastInDim S1x4096x1x3 ![0, 1, 3] Facts₀.bcast_S1x4096x3_S1x4096x1x3_0_1_3 x))
    (broadcastInDim S1x4096x4096x3 ![0, 1, 2, 3] Facts₀.bcast_S1x1x4096x3_S1x4096x4096x3_0_1_2_3
      (broadcastInDim S1x1x4096x3 ![0, 2, 3] Facts₀.bcast_S1x4096x3_S1x1x4096x3_0_2_3 y)))

/-- All distances. -/
def refD (x y : FVec Ideal S1x4096x3 .f32) : FVec Ideal S1x4096x4096 .f32 :=
  Host.reduceAdd (refV x y)
    (constant S_ .f32 0x00000000#32) Facts₀.reducesTo_S1x4096x4096x3_S1x4096x4096_d3 Facts₀.h_S_

/-- The least distances. -/
def refM (x y : FVec Ideal S1x4096x3 .f32) : FVec Ideal S1x4096 .f32 :=
  Host.reduce FloatOps.minimumf (refD x y) (constant S_ .f32 0x7F800000#32) Facts₀.reducesTo_S1x4096x4096_S1x4096_d2 Facts₀.h_S_

/-- The second result of the reduction to the least element. -/
def refB (D : FVec Ideal S1x4096x4096 .f32) (y : IVec S1x4096x4096 32) (u : FVec Ideal S_ .f32) (v : IVec S_ 32) : IVec S1x4096 32 :=
  fun j => (Host.argReduce reducer_argmin_f32_i32 D y u v Facts₀.reducesTo_S1x4096x4096_S1x4096_d2 Facts₀.h_S_ j).2

/-- The indices of the least distances. -/
def refI (x y : FVec Ideal S1x4096x3 .f32) : IVec S1x4096 32 :=
  refB (refD x y) (iotaInDim S1x4096x4096 32 2) (constant S_ .f32 0x7F800000#32) (constantI S_ 32 0#32)

/-- The mean of a row. -/
def refMean (v : FVec Ideal S1x4096 .f32) : FVec Ideal S_ .f32 :=
  Host.divf (Host.reduceAdd v (constant S_ .f32 0x00000000#32) Facts₀.reducesTo_S1x4096_S_d0_1 Facts₀.h_S_) (constant S_ .f32 0x45800000#32)

/-- The loss. -/
def refL (x y : FVec Ideal S1x4096x3 .f32) : FVec Ideal S_ .f32 :=
  Host.divf (addf (refMean (refM x y)) (refMean (refM y x))) (constant S_ .f32 0x40000000#32)

theorem call_idx (D : FVec Ideal S1x4096x4096 .f32) (y : IVec S1x4096x4096 32) (u : FVec Ideal S_ .f32) (v : IVec S_ 32) :
    (StableHlo.TRef.of (T := ⟨S1x4096, .i32⟩) main_v9).toBuf (Val := Elt Ideal) (refB
          ((StableHlo.TRef.of (T := ⟨S1x4096x4096, .f32⟩) main_v7).ofBuf (Val := Elt Ideal) D)
          ((StableHlo.TRef.of (T := ⟨S1x4096x4096, .i32⟩) main_call0_v0).ofBuf (Val := Elt Ideal)
            ((StableHlo.TRef.of (T := ⟨S1x4096x4096, .i32⟩) main_call0_v0).toBuf (Val := Elt Ideal) y))
          ((StableHlo.TRef.of (T := ⟨S_, .f32⟩) main_call0_cst).ofBuf (Val := Elt Ideal)
            ((StableHlo.TRef.of (T := ⟨S_, .f32⟩) main_call0_cst).toBuf (Val := Elt Ideal) u))
          ((StableHlo.TRef.of (T := ⟨S_, .i32⟩) main_call0_c).ofBuf (Val := Elt Ideal)
            ((StableHlo.TRef.of (T := ⟨S_, .i32⟩) main_call0_c).toBuf (Val := Elt Ideal) v)))
    = refB D y u v := rfl

theorem ref_run (m : (ℓ : Loc nD τ sig) → Buf (Elt Ideal) ℓ) (g : Dev nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev nD,
      r.2.mem ((c.tc : Thread nD τ).loc main_v24) = refL (addf (m ((c.tc : Thread nD τ).loc main_arg0)) (m ((c.tc : Thread nD τ).loc main_arg2))) (m ((c.tc : Thread nD τ).loc main_arg1))
      ∧ r.2.mem ((c.tc : Thread nD τ).loc main_v8) = refM (addf (m ((c.tc : Thread nD τ).loc main_arg0)) (m ((c.tc : Thread nD τ).loc main_arg2))) (m ((c.tc : Thread nD τ).loc main_arg1))
      ∧ r.2.mem ((c.tc : Thread nD τ).loc main_v9) = refI (addf (m ((c.tc : Thread nD τ).loc main_arg0)) (m ((c.tc : Thread nD τ).loc main_arg2))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  · unfold refL refMean refM refD refV
    rfl
  · unfold refM refD refV
    rfl
  · unfold refI refD refV
    exact call_idx _ _ _ _

end Cert.Val
-- ==== Proof.V.HostVal.lean ====
module

public import proofs.«01_k».proof.Proof.V.RefVal
public import Idealize.ShloMosaic.Lib.StableHlo.ReadAt
public import Idealize.ShloMosaic.Lib.Routing.OpsPair
public import Idealize.ShloMosaic.Lib.Routing.OpsSet
public import Idealize.ShloMosaic.Lib.Pointwise.Tactic
public import Idealize.ShloMosaic.Lib.Pipeline.Value

@[expose] public section

noncomputable section

namespace Cert.Val

open Idealize.ShloMosaic Idealize.SL.Sem Cert.KernelIdeal Cert.KernelIdeal.Gen Cert.KernelIdeal.KI

/-! # What the host's lines leave, at an index -/

variable (V : Valuation τ sig (Elt Ideal))

theorem v0_eq : StableHlo.after ops1 V (Proc.devRef .tc main_v0) = shapeCast S4096x3 (V (Proc.devRef .tc main_arg0)) shapeCasts_S1x4096x3_S4096x3 := by
  unfold ops1
  after_reads_simp
  rfl

theorem v1_eq : StableHlo.after ops1 V (Proc.devRef .tc main_v1) = shapeCast S4096x3 (V (Proc.devRef .tc main_arg2)) shapeCasts_S1x4096x3_S4096x3 := by
  unfold ops1
  after_reads_simp
  rfl

/-- The transposed second cloud. -/
def p2c (y : FVec Ideal S1x4096x3 .f32) : FVec Ideal S3x4096 .f32 :=
  transpose S3x4096 [1, 0] (shapeCast S4096x3 y shapeCasts_S1x4096x3_S4096x3) transposes_S4096x3_S3x4096_1_0

def flat (a b : FVec Ideal S3x4096 .f32) : FVec Ideal S24576 .f32 :=
  concatenate S24576 0 [⟨S12288, shapeCast S12288 a shapeCasts_S3x4096_S12288⟩, ⟨S12288, shapeCast S12288 b shapeCasts_S3x4096_S12288⟩] concatenates_S12288_S12288_S24576_d0

def padded (u : FVec Ideal S3x4096 .f32) : FVec Ideal S8x4096 .f32 :=
  Host.scatter scatter_S8x4096_S1_S3x4096_01_n_0_0 (fun _ b => b) (broadcastInDim S8x4096 ![] bcast_S_S8x4096 (constant S_ .f32 0x00000000#32))
    (broadcastInDim S1 ![] bcast_S_S1 (constantI S_ 32 0#32)) u

theorem v9_eq : StableHlo.after ops1 V (Proc.devRef .tc main_v9) = padded (p2c (V (Proc.devRef .tc main_arg1))) := by
  unfold ops1
  after_reads_simp
  rfl

theorem v12_eq : StableHlo.after ops1 V (Proc.devRef .tc main_v12) = flat (p2c (addf (F := Ideal) (φ := .f32) (s := S1x4096x3) (V (Proc.devRef .tc main_arg0)) (V (Proc.devRef .tc main_arg2)))) (p2c (V (Proc.devRef .tc main_arg1))) := by
  unfold ops1
  after_reads_simp
  rfl

theorem p2c_apply (y : FVec Ideal S1x4096x3 .f32) (c : Fin 3) (k : Fin 4096) : p2c y (ix2 c k) = y (ix3 0 k c) := by
  unfold p2c
  pointwise

theorem lands (ind : IVec S1 32) (hi : ∀ q, ind q = 0#32) (u : S3x4096.Idx) (r : Fin 8) (k : Fin 4096) :
    scatter_S8x4096_S1_S3x4096_01_n_0_0.resultIdx? u ind = some (ix2 r k) ↔ (u 0).val = r.val ∧ (u 1).val = k.val := by
  have hs : ∀ a, scatter_S8x4096_S1_S3x4096_01_n_0_0.start u ind a = 0 := by
    intro a
    unfold ScatterDims.start
    split
    · rw [hi]; rfl
    · rfl
  have w0 : scatter_S8x4096_S1_S3x4096_01_n_0_0.window u 0 = (u 0).val := rfl
  have w1 : scatter_S8x4096_S1_S3x4096_01_n_0_0.window u 1 = (u 1).val := rfl
  rw [Routing.resultIdx?_eq_some]
  constructor
  · intro h
    have h0 := h 0
    have h1 := h 1
    rw [hs, w0] at h0
    rw [hs, w1] at h1
    refine ⟨?_, ?_⟩
    · have : (ix2 r k 0).val = r.val := rfl
      omega
    · have : (ix2 r k 1).val = k.val := rfl
      omega
  · rintro ⟨h0, h1⟩ a
    rw [hs]
    match a with
    | ⟨0, _⟩ => exact (zero_add _).trans (congrArg Int.ofNat (w0.trans h0))
    | ⟨1, _⟩ => exact (zero_add _).trans (congrArg Int.ofNat (w1.trans h1))

theorem padded_apply (u : FVec Ideal S3x4096 .f32) (c : Fin 3) (r : Fin 8) (hr : r.val = c.val) (k : Fin 4096) : padded u (ix2 r k) = u (ix2 c k) := by
  unfold padded
  generalize broadcastInDim S8x4096 ![] bcast_S_S8x4096 (constant (F := Ideal) S_ .f32 0x00000000#32) = z
  have hi : ∀ q, broadcastInDim S1 ![] bcast_S_S1 (constantI S_ 32 0#32) q = 0#32 := fun q => rfl
  generalize broadcastInDim S1 ![] bcast_S_S1 (constantI S_ 32 0#32) = ind at hi
  refine Routing.scatter_set_hit _ _ _ _ _ _ (fun q hq => ?_) (ix2 c k) ((lands ind hi _ _ _).2 ⟨hr.symm, rfl⟩)
  obtain ⟨h0, h1⟩ := (lands ind hi _ _ _).1 hq
  refine congrArg u ?_
  funext a
  apply Fin.ext
  match a with
  | ⟨0, _⟩ => exact h0.trans hr
  | ⟨1, _⟩ => exact h1

theorem rm_flat (c : Fin 3) (k : Fin 4096) (n : Fin 12288) (h : n.val = 4096 * c.val + k.val) : (S3x4096.rowMajor (ix2 c k)).val = (S12288.rowMajor (ix1 n)).val := by
  rw [Shape.rowMajor_val_one, Shape.rowMajor_val_two]
  show c.val * 4096 + k.val = n.val
  omega

theorem flat_lo (a b : FVec Ideal S3x4096 .f32) (c : Fin 3) (k : Fin 4096) (n : ℕ) (hn : n = 4096 * c.val + k.val) (h) : flat a b (at1 n h) = a (ix2 c k) := by
  unfold flat
  refine (concatenate_pair_apply_left (s₁ := S12288) (s₂ := S12288) (t := S24576) 0 _ _ _ (at1 n h) rfl (ix1 ⟨n, by omega⟩) (fun b => by fin_cases b; rfl)).trans ?_
  exact shapeCast_apply _ _ _ _ (rm_flat c k _ hn)

theorem flat_hi (a b : FVec Ideal S3x4096 .f32) (c : Fin 3) (k : Fin 4096) (n : ℕ) (hn : n = 12288 + 4096 * c.val + k.val) (h) : flat a b (at1 n h) = b (ix2 c k) := by
  unfold flat
  refine (concatenate_pair_apply_right (s₁ := S12288) (s₂ := S12288) (t := S24576) 0 _ _ _ (at1 n h) rfl rfl (ix1 ⟨n - 12288, by omega⟩)
    (fun b hb => absurd (Subsingleton.elim (α := Fin 1) _ _) hb) (by show n - 12288 + 12288 = n; omega)).trans ?_
  exact shapeCast_apply _ _ _ _ (rm_flat c k _ (by show n - 12288 = _; omega))

theorem rd_lo (x y : FVec Ideal S1x4096x3 .f32) (c : Fin 3) (i : Fin 4096) (n : ℕ) (hn : n = 4096 * c.val + i.val) : rd (flat (p2c x) (p2c y)) n = x (ix3 0 i c) := by
  unfold rd
  rw [dif_pos (by have := c.isLt; have := i.isLt; omega), flat_lo _ _ c i n hn, p2c_apply]

theorem rd_hi (x y : FVec Ideal S1x4096x3 .f32) (c : Fin 3) (i : Fin 4096) (n : ℕ) (hn : n = 12288 + 4096 * c.val + i.val) : rd (flat (p2c x) (p2c y)) n = y (ix3 0 i c) := by
  unfold rd
  rw [dif_pos (by have := c.isLt; have := i.isLt; omega), flat_hi _ _ c i n hn, p2c_apply]

/-- The distances the vector subcores see. -/
theorem dF_eq (x y : FVec Ideal S1x4096x3 .f32) (i j : ℕ) (hi : i < 4096) (hj : j < 4096) : dF (flat (p2c x) (p2c y)) i j = eD x y i j := by
  unfold dF eD
  rw [dif_pos ⟨hi, hj⟩, abd_symm]
  rw [rd_lo x y 0 ⟨i, hi⟩ i (by simp), rd_lo x y 1 ⟨i, hi⟩ (4096 + i) (by simp), rd_lo x y 2 ⟨i, hi⟩ (8192 + i) (by simp),
    rd_hi x y 0 ⟨j, hj⟩ (12288 + j) (by simp), rd_hi x y 1 ⟨j, hj⟩ (16384 + j) (by simp), rd_hi x y 2 ⟨j, hj⟩ (20480 + j) (by simp)]

end Cert.Val
-- ==== Proof.V.RefRed.lean ====
module

public import proofs.«01_k».proof.Proof.V.Scan
public import proofs.«01_k».proof.Proof.Ref
public import Idealize.ShloMosaic.Lib.IdealHost
public import Idealize.ShloMosaic.Lib.Pointwise.Tactic

@[expose] public section

noncomputable section

namespace Cert.Val

open Idealize.ShloMosaic Idealize.SL.Sem Cert.ReferenceIdeal Cert.ReferenceIdeal.Gen

theorem ofBits_inf : (Ideal.ofBits .f32 0x7F800000#32 : EReal) = ⊤ := by simp [Ideal.ofBits, Ideal.ieee]

theorem red3 : S1x4096x4096x3.Reduces [3] S1x4096x4096 := by decide
theorem red2 : S1x4096x4096.Reduces [2] S1x4096 := by decide

theorem lift3 (i j : Fin 4096) (k : Fin 3) : red3.lift (ix3 0 i j) k = ix4 0 i j k := by
  funext a
  apply Fin.ext
  refine (Shape.Reduces.lift_val _ _ _ _).trans ?_
  fin_cases a <;> rfl

theorem lift2 (i : Fin 4096) (k : Fin 4096) : red2.lift (ix2 0 i) k = ix3 0 i k := by
  funext a
  apply Fin.ext
  refine (Shape.Reduces.lift_val _ _ _ _).trans ?_
  fin_cases a <;> rfl

/-- A sum of three along the last axis. -/
theorem sum3 (v : FVec Ideal S1x4096x4096x3 .f32) (i j : Fin 4096) :
    Host.reduceAdd v (constant S_ .f32 0x00000000#32) Facts₀.reducesTo_S1x4096x4096x3_S1x4096x4096_d3 Facts₀.h_S_ (ix3 0 i j)
      = (v (ix4 0 i j 0) + v (ix4 0 i j 1) + v (ix4 0 i j 2) : EReal) := by
  rw [ValueIdx.hostReduceAdd_apply, Ideal.hostReduceAdd_single _ red3]
  have e : constant (F := Ideal) S_ .f32 0x00000000#32 (Shape.Idx.first Facts₀.h_S_) = (0 : EReal) := Ideal.ofBits_zero_f32
  rw [e, zero_add]
  refine (Fin.sum_univ_three (f := fun k : Fin 3 => (v (red3.lift (ix3 0 i j) k) : EReal))).trans ?_
  rw [lift3, lift3, lift3]

/-- A minimum along the last axis. -/
theorem min2 (D : FVec Ideal S1x4096x4096 .f32) (i : Fin 4096) (z : EReal) :
    z ≤ Host.reduce (FloatOps.minimumf (F := Ideal) (φ := .f32)) D (constant (F := Ideal) S_ .f32 0x7F800000#32) Facts₀.reducesTo_S1x4096x4096_S1x4096_d2 Facts₀.h_S_ (ix2 0 i)
      ↔ ∀ k : Fin 4096, z ≤ D (ix3 0 i k) := by
  rw [Host.reduce_eq_fold_single _ _ _ _ red2]
  have e : constant (F := Ideal) S_ .f32 0x7F800000#32 (Shape.Idx.first Facts₀.h_S_) = (⊤ : EReal) := ofBits_inf
  rw [e]
  refine (Finset.le_fold_min z).trans ?_
  simp only [le_top, true_and, Finset.mem_univ, true_implies, Function.comp]
  exact forall_congr' fun k => iff_of_eq (congrArg (fun q => z ≤ D q) (lift2 i k))

/-! ## The index of the first least element -/

theorem reducer_eq (a b : Ideal .f32 × BitVec 32) (ha : a.2.toNat < 2 ^ 31) (hb : b.2.toNat < 2 ^ 31) :
    reducer_argmin_f32_i32 (F := Ideal) a b
      = if (a.1 : EReal) < b.1 ∨ ((a.1 : EReal) = b.1 ∧ a.2.toNat < b.2.toNat) then a else b := by
  obtain ⟨v, k⟩ := a
  obtain ⟨w, l⟩ := b
  have hs : IntOp.cmpi .slt k l = BitVec.ofBool (decide (k.toNat < l.toNat)) := by
    show BitVec.ofBool (BitVec.slt k l) = _
    congr 1
    unfold BitVec.slt
    rw [BitVec.toInt_eq_toNat_of_lt (by simp only at ha; omega), BitVec.toInt_eq_toNat_of_lt (by simp only at hb; omega)]
    simp
  have hlt : FloatOps.cmpf (F := Ideal) (φ := .f32) .olt v w = BitVec.ofBool (decide ((v : EReal) < w)) := rfl
  have heq : FloatOps.cmpf (F := Ideal) (φ := .f32) .oeq v w = BitVec.ofBool (decide ((v : EReal) = w)) := rfl
  have hne : FloatOps.cmpf (F := Ideal) (φ := .f32) .une v v = 0#1 := by
    show BitVec.ofBool (decide ((v : EReal) ≠ v)) = _
    simp
  unfold reducer_argmin_f32_i32
  dsimp only
  rw [hs, hlt, heq, hne]
  rcases lt_trichotomy (v : EReal) w with h | h | h
  · have e1 : ¬ (v : EReal) = w := h.ne
    simp [h, e1, IntOp.ori, IntOp.andi, Scalar.select]
  · have e1 : ¬ (v : EReal) < w := by rw [h]; exact lt_irrefl _
    by_cases c : k.toNat < l.toNat
    · simp [h, c, IntOp.ori, IntOp.andi, Scalar.select]
    · simp [h, c, IntOp.ori, IntOp.andi, Scalar.select]
  · have e1 : ¬ (v : EReal) < w := not_lt.2 h.le
    have e2 : ¬ (v : EReal) = w := h.ne'
    simp [e1, e2, IntOp.ori, IntOp.andi, Scalar.select]

theorem foldl_reducer (L : List (Ideal .f32 × BitVec 32)) (a : Ideal .f32 × BitVec 32) (ha : a.2.toNat < 2 ^ 31)
    (hL : ∀ p ∈ L, p.2.toNat < 2 ^ 31) :
    ((L.foldl (reducer_argmin_f32_i32 (F := Ideal)) a = a ∨ L.foldl (reducer_argmin_f32_i32 (F := Ideal)) a ∈ L)) ∧
      ∀ p, p = a ∨ p ∈ L → ((L.foldl (reducer_argmin_f32_i32 (F := Ideal)) a).1 : EReal) < p.1 ∨
        (((L.foldl (reducer_argmin_f32_i32 (F := Ideal)) a).1 : EReal) = p.1 ∧ (L.foldl (reducer_argmin_f32_i32 (F := Ideal)) a).2.toNat ≤ p.2.toNat) := by
  induction L generalizing a with
  | nil =>
    refine ⟨Or.inl rfl, fun p hp => ?_⟩
    rcases hp with rfl | hp
    · exact Or.inr ⟨rfl, le_rfl⟩
    · exact absurd hp List.not_mem_nil
  | cons b L ih =>
    have hb := hL b List.mem_cons_self
    rw [List.foldl_cons]
    have e := reducer_eq a b ha hb
    have hc : reducer_argmin_f32_i32 (F := Ideal) a b = a ∨ reducer_argmin_f32_i32 (F := Ideal) a b = b := by
      rw [e]; split
      · exact Or.inl rfl
      · exact Or.inr rfl
    have hm : ∀ p, p = a ∨ p = b → ((reducer_argmin_f32_i32 (F := Ideal) a b).1 : EReal) < p.1 ∨
        (((reducer_argmin_f32_i32 (F := Ideal) a b).1 : EReal) = p.1 ∧ (reducer_argmin_f32_i32 (F := Ideal) a b).2.toNat ≤ p.2.toNat) := by
      rw [e]
      rintro p (rfl | rfl)
      · split
        · exact Or.inr ⟨rfl, le_rfl⟩
        · rename_i h
          rw [not_or, not_and, not_lt, not_lt] at h
          rcases h.1.lt_or_eq with g | g
          · exact Or.inl g
          · exact Or.inr ⟨g, h.2 g.symm⟩
      · split
        · rename_i h
          exact h.imp id fun g => ⟨g.1, g.2.le⟩
        · exact Or.inr ⟨rfl, le_rfl⟩
    generalize reducer_argmin_f32_i32 (F := Ideal) a b = q at hc hm
    have hq : q.2.toNat < 2 ^ 31 := by rcases hc with h | h <;> rw [h] <;> assumption
    obtain ⟨g1, g2⟩ := ih q hq fun p hp => hL p (List.mem_cons_of_mem _ hp)
    refine ⟨?_, fun p hp => ?_⟩
    · rcases g1 with g1 | g1
      · rw [g1]
        rcases hc with h | h
        · exact Or.inl h
        · exact Or.inr (h ▸ List.mem_cons_self)
      · exact Or.inr (List.mem_cons_of_mem _ g1)
    · have tr : (p = a ∨ p = b) → ((L.foldl (reducer_argmin_f32_i32 (F := Ideal)) q).1 : EReal) < p.1 ∨
          (((L.foldl (reducer_argmin_f32_i32 (F := Ideal)) q).1 : EReal) = p.1 ∧ (L.foldl (reducer_argmin_f32_i32 (F := Ideal)) q).2.toNat ≤ p.2.toNat) := fun h => by
        have h1 := g2 q (Or.inl rfl)
        have h2 := hm p h
        rcases h1 with h1 | ⟨h1, h1'⟩
        · rcases h2 with h2 | ⟨h2, h2'⟩
          · exact Or.inl (h1.trans h2)
          · exact Or.inl (h2 ▸ h1)
        · rcases h2 with h2 | ⟨h2, h2'⟩
          · exact Or.inl (h1 ▸ h2)
          · exact Or.inr ⟨h1.trans h2, h1'.trans h2'⟩
      rcases hp with hp | hp
      · exact tr (Or.inl hp)
      · rcases List.mem_cons.1 hp with hp | hp
        · exact tr (Or.inr hp)
        · exact g2 p (Or.inr hp)

/-- The fiber over one row holds the row's elements with their places. -/
theorem mem_fiber (D : FVec Ideal S1x4096x4096 .f32) (i : Fin 4096) (p : Ideal .f32 × BitVec 32) :
    p ∈ Host.argReduceFiber D (iotaInDim S1x4096x4096 32 2) Facts₀.reducesTo_S1x4096x4096_S1x4096_d2 (ix2 0 i)
      ↔ ∃ k : Fin 4096, p = (D (ix3 0 i k), BitVec.ofNat 32 k.val) := by
  unfold Host.argReduceFiber
  rw [List.mem_map]
  constructor
  · rintro ⟨n, hn, rfl⟩
    have hd := of_decide_eq_true (List.mem_filter.1 hn).2
    generalize S1x4096x4096.rowMajor.symm n = y at hd ⊢
    obtain ⟨k, hk⟩ : ∃ k : Fin 4096, k = y 2 := ⟨y 2, rfl⟩
    have e : y = ix3 0 i k := by
      rw [← lift2 i k, hk]
      exact (red2.lift_drop y).symm.trans (congrArg (fun q => red2.lift q (y 2)) hd)
    exact ⟨k, by rw [e]; rfl⟩
  · rintro ⟨k, rfl⟩
    refine ⟨S1x4096x4096.rowMajor (ix3 0 i k), List.mem_filter.2 ⟨List.mem_finRange _, decide_eq_true ?_⟩, ?_⟩
    · rw [Equiv.symm_apply_apply, ← lift2]
      exact red2.drop_lift _ _
    · rw [Equiv.symm_apply_apply]; rfl

/-- The least element of a row and its first place. -/
theorem arg2 (D : FVec Ideal S1x4096x4096 .f32) (i : Fin 4096) (d : ℕ → EReal) (hd : ∀ k : Fin 4096, D (ix3 0 i k) = d k.val) :
    Best d 4096 (Host.reduce (FloatOps.minimumf (F := Ideal) (φ := .f32)) D (constant (F := Ideal) S_ .f32 0x7F800000#32) Facts₀.reducesTo_S1x4096x4096_S1x4096_d2 Facts₀.h_S_ (ix2 0 i))
      (Host.argReduce (reducer_argmin_f32_i32 (F := Ideal)) D (iotaInDim S1x4096x4096 32 2) (constant (F := Ideal) S_ .f32 0x7F800000#32) (constantI S_ 32 0#32)
        Facts₀.reducesTo_S1x4096x4096_S1x4096_d2 Facts₀.h_S_ (ix2 0 i)).2.toNat := by
  have hI : Inf d 4096 (Host.reduce (FloatOps.minimumf (F := Ideal) (φ := .f32)) D (constant (F := Ideal) S_ .f32 0x7F800000#32) Facts₀.reducesTo_S1x4096x4096_S1x4096_d2 Facts₀.h_S_ (ix2 0 i)) := by
    intro z
    rw [min2]
    exact ⟨fun h k hk => hd ⟨k, hk⟩ ▸ h ⟨k, hk⟩, fun h k => (hd k).symm ▸ h k.val k.isLt⟩
  refine ⟨hI, ?_⟩
  rw [Ideal.argReduce_eq_reduce2, Host.reduce2_eq_foldl_fiber]
  have e : constant (F := Ideal) S_ .f32 0x7F800000#32 (Shape.Idx.first Facts₀.h_S_) = (⊤ : EReal) := ofBits_inf
  have e' : constantI S_ 32 0#32 (Shape.Idx.first Facts₀.h_S_) = 0#32 := rfl
  rw [e, e']
  have hm := mem_fiber D i
  generalize Host.argReduceFiber D (iotaInDim S1x4096x4096 32 2) Facts₀.reducesTo_S1x4096x4096_S1x4096_d2 (ix2 0 i) = L at hm ⊢
  obtain ⟨f1, f2⟩ := foldl_reducer L ((⊤ : EReal), 0#32) (by decide) (fun p hp => by
    obtain ⟨k, rfl⟩ := (hm p).1 hp
    have := k.isLt
    simp only [BitVec.toNat_ofNat]
    omega)
  generalize L.foldl (reducer_argmin_f32_i32 (F := Ideal)) ((⊤ : EReal), 0#32) = R at f1 f2 ⊢
  generalize Host.reduce (FloatOps.minimumf (F := Ideal) (φ := .f32)) D (constant (F := Ideal) S_ .f32 0x7F800000#32) Facts₀.reducesTo_S1x4096x4096_S1x4096_d2 Facts₀.h_S_ (ix2 0 i) = V at hI ⊢
  have hk : ∀ k : Fin 4096, (R.1 : EReal) < d k.val ∨ ((R.1 : EReal) = d k.val ∧ R.2.toNat ≤ k.val) := fun k => by
    have := f2 _ (Or.inr ((hm _).2 ⟨k, rfl⟩))
    have hkk : (BitVec.ofNat 32 k.val).toNat = k.val := by have := k.isLt; simp only [BitVec.toNat_ofNat]; omega
    simp only [hd, hkk] at this
    exact this
  have hRV : (R.1 : EReal) ≤ V := (hI R.1).2 fun k h => by
    rcases hk ⟨k, h⟩ with g | g
    · exact g.le
    · exact g.1.le
  rcases f1 with f1 | f1
  · have h1 : (R.1 : EReal) = ⊤ := by rw [f1]
    have h2 : R.2.toNat = 0 := by rw [f1]; rfl
    rw [h2]
    have hV : V = ⊤ := top_le_iff.1 (h1 ▸ hRV)
    refine ⟨by omega, ?_, fun j hj => by omega⟩
    have := hI.le (show 0 < 4096 by omega)
    rw [hV] at this ⊢
    exact top_le_iff.1 this
  · obtain ⟨k, hR⟩ := (hm _).1 f1
    have h1 : (R.1 : EReal) = d k.val := by rw [hR]; exact hd k
    have h2 : R.2.toNat = k.val := by rw [hR]; have := k.isLt; simp only [BitVec.toNat_ofNat]; omega
    have hV : V = R.1 := le_antisymm (h1 ▸ hI.le k.isLt) hRV
    rw [h2, hV]
    refine ⟨k.isLt, h1.symm, fun j hj => ?_⟩
    have := k.isLt
    rcases hk ⟨j, by omega⟩ with g | g
    · exact g
    · have := g.2; simp only at this; omega

end Cert.Val
-- ==== Proof.V.RefBest.lean ====
module

public import proofs.«01_k».proof.Proof.V.RefVal
public import proofs.«01_k».proof.Proof.V.RefRed

@[expose] public section

noncomputable section

namespace Cert.Val

open Idealize.ShloMosaic Idealize.SL.Sem Cert.ReferenceIdeal Cert.ReferenceIdeal.Gen

/-! # The reference's least distances -/

theorem eD_of (x y : FVec Ideal S1x4096x3 .f32) (i j : Fin 4096) : eD x y i.val j.val =
    abd (x (ix3 0 i 0)) (x (ix3 0 i 1)) (x (ix3 0 i 2)) (y (ix3 0 j 0)) (y (ix3 0 j 1)) (y (ix3 0 j 2)) := by
  unfold eD; rw [dif_pos ⟨i.isLt, j.isLt⟩]

theorem sum3_of (V : FVec Ideal S1x4096x4096x3 .f32) (i j : Fin 4096) (f : Fin 3 → EReal) (h : ∀ c : Fin 3, V (ix4 0 i j c) = f c) :
    Host.reduceAdd V (constant S_ .f32 0x00000000#32) Facts₀.reducesTo_S1x4096x4096x3_S1x4096x4096_d3 Facts₀.h_S_ (ix3 0 i j)
      = f 0 + f 1 + f 2 := by
  rw [← h 0, ← h 1, ← h 2]
  exact sum3 V i j

/-- One coordinate's part of a distance. -/
def part (x y : FVec Ideal S1x4096x3 .f32) (i j : Fin 4096) (c : Fin 3) : EReal :=
  max (x (ix3 0 i c) - y (ix3 0 j c)) (-(x (ix3 0 i c) - y (ix3 0 j c)))

theorem diff_apply (x y : FVec Ideal S1x4096x3 .f32) (i j : Fin 4096) (c : Fin 3) : refV x y (ix4 0 i j c) = part x y i j c := by
  unfold refV part
  pointwise
  rfl

theorem part_eq (x y : FVec Ideal S1x4096x3 .f32) (i j : Fin 4096) : part x y i j 0 + part x y i j 1 + part x y i j 2 = eD x y i.val j.val := by
  rw [eD_of]
  rfl

theorem refD_apply (x y : FVec Ideal S1x4096x3 .f32) (i j : Fin 4096) : refD x y (ix3 0 i j) = eD x y i.val j.val := by
  have h := sum3_of (refV x y) i j (part x y i j) (diff_apply x y i j)
  rw [part_eq x y i j] at h
  exact h

theorem refB_eq (D : FVec Ideal S1x4096x4096 .f32) (y : IVec S1x4096x4096 32) (u : FVec Ideal S_ .f32) (v : IVec S_ 32) :
    refB D y u v = fun j => (Host.argReduce reducer_argmin_f32_i32 D y u v Facts₀.reducesTo_S1x4096x4096_S1x4096_d2 Facts₀.h_S_ j).2 := rfl

theorem best_D (D : FVec Ideal S1x4096x4096 .f32) (d : ℕ → EReal) (i : Fin 4096) (hd : ∀ k : Fin 4096, D (ix3 0 i k) = d k.val) :
    Best d 4096 (Host.reduce (FloatOps.minimumf (F := Ideal) (φ := .f32)) D (constant (F := Ideal) S_ .f32 0x7F800000#32) Facts₀.reducesTo_S1x4096x4096_S1x4096_d2 Facts₀.h_S_ (ix2 0 i))
      (refB D (iotaInDim S1x4096x4096 32 2) (constant S_ .f32 0x7F800000#32) (constantI S_ 32 0#32) (ix2 0 i)).toNat := by
  rw [refB_eq]
  exact arg2 D i d hd

theorem refM_eq (x y : FVec Ideal S1x4096x3 .f32) : refM x y = Host.reduce (FloatOps.minimumf (F := Ideal) (φ := .f32)) (refD x y) (constant (F := Ideal) S_ .f32 0x7F800000#32) Facts₀.reducesTo_S1x4096x4096_S1x4096_d2 Facts₀.h_S_ := rfl

theorem refI_eq (x y : FVec Ideal S1x4096x3 .f32) : refI x y = refB (refD x y) (iotaInDim S1x4096x4096 32 2) (constant S_ .f32 0x7F800000#32) (constantI S_ 32 0#32) := rfl

theorem ref_best (x y : FVec Ideal S1x4096x3 .f32) (i : Fin 4096) :
    Best (eD x y i.val) 4096 (refM x y (ix2 0 i)) (refI x y (ix2 0 i)).toNat := by
  rw [refM_eq, refI_eq]
  exact best_D (refD x y) (eD x y i.val) i (refD_apply x y i)

theorem refMean_apply (v : FVec Ideal S1x4096 .f32) (q : S_.Idx) :
    refMean v q = Ideal.div (∑ k : Fin 4096, (v (ix2 0 k) : EReal)) (Ideal.ofBits .f32 0x45800000#32) := by
  unfold refMean
  refine congrArg (fun s => Ideal.div s (Ideal.ofBits .f32 0x45800000#32)) ?_
  rw [ValueIdx.hostReduceAdd_apply, Ideal.hostReduceAdd_total _ (fun b => b.elim0)]
  have e : constant (F := Ideal) S_ .f32 0x00000000#32 (Shape.Idx.first Facts₀.h_S_) = (0 : EReal) := Ideal.ofBits_zero_f32
  rw [e, zero_add]
  exact (ValueIdx.sum_idx2 (n0 := 1) (n1 := 4096) _).trans (Fin.sum_univ_one _)

end Cert.Val
-- ==== Proof.V.Rows.lean ====
module

public import proofs.«01_k».proof.Proof.V.TcArr
public import proofs.«01_k».proof.Proof.V.HostVal
public import proofs.«01_k».proof.Proof.V.RefBest
public import proofs.«01_k».proof.Proof.KI.Ends

@[expose] public section

noncomputable section

namespace Cert.Val

open Idealize.ShloMosaic Idealize.SL.Sem Cert.KernelIdeal Cert.KernelIdeal.Gen Cert.KernelIdeal.KI

/-! # The rows of the first TensorCore call -/

variable (m : (ℓ : Loc nD τ sig) → Buf (Elt Ideal) ℓ) (c : Dev nD)

/-- The warped first cloud and the second cloud. -/
def xs : FVec Ideal S1x4096x3 .f32 := addf (F := Ideal) (φ := .f32) (s := S1x4096x3) (m (c, Proc.devRef .tc main_arg0)) (m (c, Proc.devRef .tc main_arg2))
def ys : FVec Ideal S1x4096x3 .f32 := m (c, Proc.devRef .tc main_arg1)

theorem slice_cast (u : FVec Ideal S1x4096x3 .f32) (q : Fin 3072) (k : Fin 3) :
    extractStridedSlice S3072x3 ![0, 0] (shapeCast S4096x3 u shapeCasts_S1x4096x3_S4096x3) slices_S4096x3_S3072x3_0_0 (ix2 q k) = u (ix3 0 ⟨q.val, by have := q.isLt; omega⟩ k) := by
  pointwise

theorem r14 (V : Valuation τ sig (Elt Ideal)) : StableHlo.after ops2 V (Proc.devRef .tc main_v14) = (extractStridedSlice S3072x3 ![0, 0] (V (Proc.devRef .tc main_v0)) slices_S4096x3_S3072x3_0_0) := by
  unfold ops2
  after_reads_simp
theorem r15 (V : Valuation τ sig (Elt Ideal)) : StableHlo.after ops2 V (Proc.devRef .tc main_v15) = (extractStridedSlice S3072x3 ![0, 0] (V (Proc.devRef .tc main_v1)) slices_S4096x3_S3072x3_0_0) := by
  unfold ops2
  after_reads_simp

theorem keep2 (V : Valuation τ sig (Elt Ideal)) (b : Ref sig .tc) (hb : b ∉ ([main_v14, main_v15] : List (Ref sig .tc))) : StableHlo.after ops2 V (Proc.devRef .tc b) = V (Proc.devRef .tc b) :=
  StableHlo.after_of_writes_sub (W := [main_v14, main_v15]) _ _ (StableHlo.forall_writes_sub_of_map rfl) hb

theorem W2_off (b : Ref sig .tc) (h : (Proc.devRef .tc b : DevRef τ sig) ∈ SB \ callRefs) : W2 m c (Proc.devRef .tc b) = W1 m c (Proc.devRef .tc b) := setOuts_off _ _ _ h

theorem W3_v14 (q : Fin 3072) (k : Fin 3) : (W3 m c (Proc.devRef .tc main_v14) : FVec Ideal S3072x3 .f32) (ix2 q k)
    = (m (c, Proc.devRef .tc main_arg0) : FVec Ideal S1x4096x3 .f32) (ix3 0 ⟨q.val, by have := q.isLt; omega⟩ k) := by
  unfold W3
  rw [r14, W2_off m c main_v0 (by decide)]
  unfold W1
  rw [v0_eq]
  exact slice_cast _ q k
theorem W3_v15 (q : Fin 3072) (k : Fin 3) : (W3 m c (Proc.devRef .tc main_v15) : FVec Ideal S3072x3 .f32) (ix2 q k)
    = (m (c, Proc.devRef .tc main_arg2) : FVec Ideal S1x4096x3 .f32) (ix3 0 ⟨q.val, by have := q.isLt; omega⟩ k) := by
  unfold W3
  rw [r15, W2_off m c main_v1 (by decide)]
  unfold W1
  rw [v1_eq]
  exact slice_cast _ q k
theorem W3_v9 (a : Fin 3) (r : Fin 8) (hr : r.val = a.val) (k : Fin 4096) : (W3 m c (Proc.devRef .tc main_v9) : FVec Ideal S8x4096 .f32) (ix2 r k) = ys m c (ix3 0 k a) := by
  unfold W3
  rw [keep2 _ _ (by decide), W2_off m c main_v9 (by decide)]
  unfold W1
  rw [v9_eq]
  exact (padded_apply _ a r hr k).trans (p2c_apply _ _ _)

/-- A row's distances in the first TensorCore call. -/
theorem tD_eq (t : Fin cfg1.N) (r : Fin 256) (k : Fin 4096) :
    tD (xb0 (W3 m) c t) (xb1 (W3 m) c t) (xb2 (W3 m) c) r k = eD (xs m c) (ys m c) (row t r).val k.val := by
  have hq : (row t r).val < 4096 := by have := (row t r).isLt; omega
  unfold tD eD
  rw [dif_pos ⟨hq, k.isLt⟩]
  rw [xb0_apply, xb0_apply, xb0_apply, xb1_apply, xb1_apply, xb1_apply, xb2_apply, xb2_apply, xb2_apply,
    W3_v14, W3_v14, W3_v14, W3_v15, W3_v15, W3_v15, W3_v9 m c 0 0 rfl, W3_v9 m c 1 1 rfl, W3_v9 m c 2 2 rfl]
  rfl

theorem tile_best (t : Fin cfg1.N) (r : Fin 256) :
    Best (eD (xs m c) (ys m c) (row t r).val) 4096 (dMin (F := Ideal) (xb0 (W3 m) c t) (xb1 (W3 m) c t) (xb2 (W3 m) c) (ix2 r 0))
      (dArg (F := Ideal) (xb0 (W3 m) c t) (xb1 (W3 m) c t) (xb2 (W3 m) c) (ix2 r 0)).toNat :=
  row_best _ _ _ r _ (tD_eq m c t r)

theorem g_best (q : Fin 3072) : Best (eD (xs m c) (ys m c) q.val) 4096 (G3 (W3 m) c (ix2 q 0)) (G4 (W3 m) c (ix2 q 0)).toNat := by
  have h := tile_best m c (bt q) (br q)
  rw [row_bt] at h
  exact h

/-- The row minima of the reference, by number. -/
def rm (i : ℕ) : EReal := if h : i < 4096 then refM (xs m c) (ys m c) (ix2 0 ⟨i, h⟩) else 0

theorem rm_eq {i : ℕ} (h : i < 4096) {v : EReal} (hv : Inf (eD (xs m c) (ys m c) i) 4096 v) : v = rm m c i := by
  unfold rm
  rw [dif_pos h]
  exact hv.uniq (ref_best (xs m c) (ys m c) ⟨i, h⟩).1

theorem accC_le (k : Fin 4096) (z : EReal) : ∀ (n : ℕ) (h : n < cfg1.N),
    z ≤ accC (W3 m) c n h (ix2 0 k) ↔ ∀ i, i < 256 * (n + 1) → z ≤ eD (xs m c) (ys m c) i k.val
  | 0, h => by
    rw [accC, pay1_apply]
    constructor
    · intro H i hi
      have := H ⟨i, by omega⟩
      rw [dM_apply, tD_eq] at this
      simpa [row] using this
    · intro H r
      rw [dM_apply, tD_eq]
      exact H _ (by have := r.isLt; simp [row])
  | n + 1, h => by
    rw [accC, pay3_apply, accC_le k z n]
    constructor
    · rintro ⟨H1, H2⟩ i hi
      by_cases hl : i < 256 * (n + 1)
      · exact H1 i hl
      · have := H2 ⟨i - 256 * (n + 1), by omega⟩
        rw [dM_apply, tD_eq] at this
        have e : (row ⟨n + 1, h⟩ ⟨i - 256 * (n + 1), by omega⟩).val = i := by unfold row; simp only; omega
        rwa [e] at this
    · intro H
      refine ⟨fun i hi => H i (by omega), fun r => ?_⟩
      rw [dM_apply, tD_eq]
      exact H _ (by have := r.isLt; unfold row; simp only; omega)

theorem blk_sum (t : Fin cfg1.N) : (∑ r : Fin 256, (dMin (F := Ideal) (xb0 (W3 m) c t) (xb1 (W3 m) c t) (xb2 (W3 m) c) (ix2 r 0) : EReal))
    = ∑ j ∈ Finset.range 256, rm m c (256 * t.val + j) := by
  rw [Finset.sum_range]
  refine Finset.sum_congr rfl fun r _ => ?_
  refine rm_eq m c ?_ (tile_best m c t r).1
  have := (row t r).isLt; unfold row at this; simp only at this; omega

theorem accS_eq (q : S1x1.Idx) : ∀ (n : ℕ) (h : n < cfg1.N), accS (W3 m) c n h q = ∑ j ∈ Finset.range (256 * (n + 1)), rm m c j
  | 0, h => by
    rw [accS, pay2_apply, blk_sum]
    simp
  | n + 1, h => by
    rw [accS, pay4_apply, accS_eq (ix2 0 0) n, blk_sum, Nat.mul_succ 256 (n + 1), Finset.sum_range_add]

end Cert.Val
-- ==== Proof.V.Loss.lean ====
module

public import proofs.«01_k».proof.Proof.V.Rows

@[expose] public section

noncomputable section

namespace Cert.Val

open Idealize.ShloMosaic Idealize.SL.Sem Cert.KernelIdeal Cert.KernelIdeal.Gen Cert.KernelIdeal.KI

/-! # The loss -/

theorem bits_half : Ideal.ofBits .f32 0x3F000000#32 = ((1 / 2 : ℝ) : EReal) := by
  simp [Ideal.ofBits, Ideal.ieee]
  rw [← EReal.coe_mul]
  norm_num
theorem bits_two : Ideal.ofBits .f32 0x40000000#32 = ((2 : ℝ) : EReal) := by
  simp [Ideal.ofBits, Ideal.ieee]
  rw [← EReal.coe_mul]
  norm_num

theorem half_mul (x : EReal) : x * Ideal.ofBits .f32 0x3F000000#32 = Ideal.div x (Ideal.ofBits .f32 0x40000000#32) := by
  have h : ((2 : ℝ) : EReal) ≠ 0 := by norm_num
  rw [bits_half, bits_two, Ideal.div, if_neg h, ← EReal.coe_inv]
  norm_num

/-- The least of the 32 partial column minima and the running one. -/
def colM (v9 : FVec Ideal S32x4096 .f32) (v13 : FVec Ideal S1x4096 .f32) : FVec Ideal S1x4096 .f32 :=
  minimumf (shapeCast S1x4096 (multiReduction .minimumf [0] S4096 v9 0x7F800000#32 reduces_S32x4096_S4096 (.inl rfl) rfl) shapeCasts_S4096_S1x4096) v13

theorem colM_le (v9 : FVec Ideal S32x4096 .f32) (v13 : FVec Ideal S1x4096 .f32) (k : Fin 4096) (z : EReal) :
    z ≤ colM v9 v13 (ix2 0 k) ↔ (∀ w : Fin 32, z ≤ v9 (ix2 w k)) ∧ z ≤ v13 (ix2 0 k) := by
  rw [← min_p v9 reduces_S32x4096_S4096 (.inl rfl) rfl k z]
  unfold colM
  have e := Idealize.ShloMosaic.shapeCast_apply (multiReduction .minimumf [0] S4096 v9 0x7F800000#32 reduces_S32x4096_S4096 (.inl rfl) rfl) shapeCasts_S4096_S1x4096 (ix2 0 k) (ix1 k) (rm_row k)
  refine Iff.trans (iff_of_eq (congrArg (fun q : EReal => z ≤ min q (v13 (ix2 0 k))) e)) ?_
  exact le_min_iff

theorem sum_8 (v : FVec Ideal S8x64 .f32) (h1 h2) :
    multiReduction .add [1, 2] S1 (shapeCast S1x8x64 v shapeCasts_S8x64_S1x8x64) 0x00000000#32 reduces_S1x8x64_S1 h1 h2 (ix1 0) = ∑ i : S8x64.Idx, (v i : EReal) := by
  rw [Ideal.multiReduction_add_total _ _ _ (fun b => by fin_cases b; rfl)]
  unfold shapeCast
  exact Equiv.sum_comp (Shape.reshapeEquiv shapeCasts_S8x64_S1x8x64) (fun i => (v i : EReal))

theorem sum_row (v : FVec Ideal S1x4096 .f32) (h1 h2) :
    multiReduction .add [1, 2] S1 (shapeCast S1x1x4096 v shapeCasts_S1x4096_S1x1x4096) 0x00000000#32 reduces_S1x1x4096_S1 h1 h2 (ix1 0) = ∑ k : Fin 4096, (v (ix2 0 k) : EReal) := by
  rw [Ideal.multiReduction_add_total _ _ _ (fun b => by fin_cases b; rfl)]
  unfold shapeCast
  refine (Equiv.sum_comp (Shape.reshapeEquiv shapeCasts_S1x4096_S1x1x4096) (fun i => (v i : EReal))).trans ?_
  exact (ValueIdx.sum_idx2 (n0 := 1) (n1 := 4096) _).trans (Fin.sum_univ_one _)

/-- The loss body's result. -/
theorem loss_apply (v0 : FVec Ideal S1x1 .f32) (v2 : FVec Ideal S8x64 .f32) (v9 : FVec Ideal S32x4096 .f32) (v13 : FVec Ideal S1x4096 .f32) (q : S1x1.Idx) :
    k2_pay1 (F := Ideal) v0 v2 v9 v13 q
      = Ideal.div (Ideal.div (v0 (ix2 0 0) + ∑ i : S8x64.Idx, (v2 i : EReal)) (Ideal.ofBits .f32 0x45800000#32)
          + Ideal.div (∑ k : Fin 4096, (colM v9 v13 (ix2 0 k) : EReal)) (Ideal.ofBits .f32 0x45800000#32)) (Ideal.ofBits .f32 0x40000000#32) := by
  rw [← half_mul, ← sum_8 v2 (.inl rfl) rfl, ← sum_row (colM v9 v13) (.inl rfl) rfl]
  unfold k2_pay1 colM
  rw [sc_self v2, sc_self v9, sc_self v13]
  refine congrArg (fun s : EReal => s * Ideal.ofBits .f32 0x3F000000#32) ?_
  refine congrArg₂ (fun a b : EReal => Ideal.div a (Ideal.ofBits .f32 0x45800000#32) + Ideal.div b (Ideal.ofBits .f32 0x45800000#32)) ?_ ?_
  · refine congrArg₂ (fun a b : EReal => a + b) ?_ (Idealize.ShloMosaic.shapeCast_apply (s := S1) (t := S1x1x1) _ _ _ (ix1 0) (by rfl))
    refine congrArg v0 ?_
    funext b; fin_cases b <;> exact Subsingleton.elim (α := Fin 1) _ _
  · exact Idealize.ShloMosaic.shapeCast_apply (s := S1) (t := S1x1x1) _ _ _ (ix1 0) (by rfl)

/-- Sixteen lanes hold the sums of two halves: the halves together are all rows. -/
theorem sum_halves (h : ℕ → EReal) (T : ℕ) :
    (∑ n ∈ Finset.range (16 * T), (h (32 * (n / 16) + n % 16) + h (32 * (n / 16) + 16 + n % 16))) = ∑ j ∈ Finset.range (32 * T), h j := by
  induction T with
  | zero => simp
  | succ T ih =>
    rw [Nat.mul_succ, Nat.mul_succ, Finset.sum_range_add, Finset.sum_range_add, ih]
    congr 1
    rw [show (32 : ℕ) = 16 + 16 from rfl, Finset.sum_range_add, ← Finset.sum_add_distrib]
    refine Finset.sum_congr rfl fun j hj => ?_
    have hj := Finset.mem_range.1 hj
    rw [show (16 * T + j) / 16 = T by omega, show (16 * T + j) % 16 = j by omega, add_assoc]

variable (m : (ℓ : Loc nD τ sig) → Buf (Elt Ideal) ℓ) (c : Dev nD)

/-- The array the vector subcores read. -/
abbrev fw0 : FVec Ideal S24576 .f32 := flat (p2c (xs m c)) (p2c (ys m c))

theorem fw_eq : (arrIn m c).fw = fw0 m c := by
  show W1 m c (Proc.devRef .tc main_v12) = _
  unfold W1
  rw [v12_eq]
  rfl

theorem dF_fw (i j : ℕ) (hi : i < 4096) (hj : j < 4096) : dF (fw0 m c) i j = eD (xs m c) (ys m c) i j := dF_eq _ _ i j hi hj

theorem half_eq (w : Fin 32) (hf : Fin 2) (acc : FVec Ideal S16 .f32) (x : Fin 16) :
    (halfM (fw0 m c) w hf acc (at1 x.val x.isLt) : EReal) = rm m c (qn w hf x.val) := by
  have hq : qn w hf x.val < 4096 := by have := w.isLt; have := hf.isLt; have := x.isLt; unfold qn; omega
  exact rm_eq m c hq ((half_best (fw0 m c) w hf acc (broadcast S16 0#32) x).1.congr fun j hj => dF_fw m c _ j hq hj)

theorem su_apply (n : Fin 512) : (outSu (fw0 m c) (at1 n.val n.isLt) : EReal)
    = rm m c (3072 + (32 * (n.val / 16) + n.val % 16)) + rm m c (3072 + (32 * (n.val / 16) + 16 + n.val % 16)) := by
  have hn := n.isLt
  have hw : n.val / 16 < 32 := by omega
  rw [outSu_at (fw0 m c) ⟨n.val / 16, hw⟩ (at1 (n.val % 16) (Nat.mod_lt _ (by omega))) _ (by show n.val = 16 * (n.val / 16) + n.val % 16; omega)]
  unfold sumT mins0 mins1
  have e0 := half_eq m c ⟨n.val / 16, hw⟩ 0 zeroM ⟨n.val % 16, Nat.mod_lt _ (by omega)⟩
  have e1 := half_eq m c ⟨n.val / 16, hw⟩ 1 (mins0 (fw0 m c) ⟨n.val / 16, hw⟩) ⟨n.val % 16, Nat.mod_lt _ (by omega)⟩
  rw [show qn ⟨n.val / 16, hw⟩ 0 (n.val % 16) = 3072 + (32 * (n.val / 16) + n.val % 16) by unfold qn; simp; omega] at e0
  rw [show qn ⟨n.val / 16, hw⟩ 1 (n.val % 16) = 3072 + (32 * (n.val / 16) + 16 + n.val % 16) by unfold qn; simp; omega] at e1
  rw [← e0, ← e1]
  refine congrArg₂ (fun a b : EReal => a + b) ?_ rfl
  refine (congrArg (fun a : EReal => a + _) (Ideal.ofBits_zero_f32)).trans (zero_add _)

/-- The places of the partial sums, by number. -/
def e512 : S512.Idx ≃ Fin 512 where
  toFun i := i 0
  invFun n := at1 n.val n.isLt
  left_inv i := idx1_eta i
  right_inv n := rfl

theorem su_sum : (∑ i : S8x64.Idx, (shapeCast S8x64 (outSu (fw0 m c)) shapeCasts_S512_S8x64 i : EReal)) = ∑ j ∈ Finset.range 1024, rm m c (3072 + j) := by
  unfold shapeCast
  refine (Equiv.sum_comp (Shape.reshapeEquiv shapeCasts_S512_S8x64) (fun i => (outSu (fw0 m c) i : EReal))).trans ?_
  rw [← sum_halves (fun j => rm m c (3072 + j)) 32, Finset.sum_range]
  refine (Fintype.sum_equiv e512 _ (fun n : Fin 512 => (outSu (fw0 m c) (at1 n.val n.isLt) : EReal)) fun i => congrArg (outSu (fw0 m c)) (idx1_eta i).symm).trans ?_
  exact Finset.sum_congr rfl fun n _ => su_apply m c n

theorem co_le (k : Fin 4096) (z : EReal) :
    (∀ w : Fin 32, z ≤ (shapeCast S32x4096 (outCo (fw0 m c)) shapeCasts_S131072_S32x4096 (ix2 w k) : EReal)) ↔ ∀ i, 3072 ≤ i → i < 4096 → z ≤ eD (xs m c) (ys m c) i k.val := by
  have e : ∀ w : Fin 32, shapeCast S32x4096 (outCo (fw0 m c)) shapeCasts_S131072_S32x4096 (ix2 w k) = colT (fw0 m c) w (at1 k.val k.isLt) := by
    intro w
    have hw := w.isLt; have hk := k.isLt
    have hb : 4096 * w.val + k.val < 131072 := by omega
    refine (Idealize.ShloMosaic.shapeCast_apply _ _ _ (at1 (4096 * w.val + k.val) hb) ?_).trans (outCo_at (fw0 m c) w (at1 k.val k.isLt) _ rfl)
    rw [Shape.rowMajor_val_one, Shape.rowMajor_val_two]
    show 4096 * w.val + k.val = w.val * 4096 + k.val
    omega
  simp only [e, colT_le]
  constructor
  · intro H i h1 h2
    have := H ⟨(i - 3072) / 32, by omega⟩ ((i - 3072) % 32) (by omega)
    rw [show 3072 + 32 * ((i - 3072) / 32) + (i - 3072) % 32 = i by omega] at this
    exact (dF_fw m c i k.val h2 k.isLt) ▸ this
  · intro H w y hy
    have hw := w.isLt
    have := H (3072 + 32 * w.val + y) (by omega) (by omega)
    rw [← dF_fw m c _ _ (by omega) k.isLt] at this
    exact this

end Cert.Val
-- ==== Proof.V.Alg.lean ====
module

public import proofs.«01_k».proof.Defs
public import proofs.«01_k».proof.Proof.V.Loss

@[expose] public section

noncomputable section

namespace Cert.Val

open Idealize.ShloMosaic Idealize.SL.Sem Cert.KernelIdeal Cert.KernelIdeal.Gen Cert.KernelIdeal.KI

/-! # The three results are the reference's -/

variable (m : (ℓ : Loc nD τ sig) → Buf (Elt Ideal) ℓ) (c : Dev nD)

/-! ## What the buffers hold on the way -/

theorem W2_v13_0 : W2 m c (Proc.devRef .tc main_v13_0) = outCh (fw0 m c) := by
  rw [← fw_eq]
  unfold W2 setOuts
  rw [Function.update_of_ne (by decide), Function.update_of_ne (by decide), Function.update_of_ne (by decide), Function.update_self]
  rfl
theorem W2_v13_1 : W2 m c (Proc.devRef .tc main_v13_1) = outIx (fw0 m c) := by
  rw [← fw_eq]
  unfold W2 setOuts
  rw [Function.update_of_ne (by decide), Function.update_of_ne (by decide), Function.update_self]
  rfl
theorem W2_v13_2 : W2 m c (Proc.devRef .tc main_v13_2) = outCo (fw0 m c) := by
  rw [← fw_eq]
  unfold W2 setOuts
  rw [Function.update_of_ne (by decide), Function.update_self]
  rfl
theorem W2_v13_3 : W2 m c (Proc.devRef .tc main_v13_3) = outSu (fw0 m c) := by
  rw [← fw_eq]
  unfold W2 setOuts
  rw [Function.update_self]
  rfl

theorem inj1 : Function.Injective (Pipeline.arrRef cfg1.spec) := by decide
theorem inj2 : Function.Injective (Pipeline.arrRef cfg2.spec) := by decide

theorem keep3 (V : Valuation τ sig (Elt Ideal)) (b : Ref sig .tc) (hb : b ∉ ([main_v17, main_v18] : List (Ref sig .tc))) : StableHlo.after ops3 V (Proc.devRef .tc b) = V (Proc.devRef .tc b) :=
  StableHlo.after_of_writes_sub (W := [main_v17, main_v18]) _ _ (StableHlo.forall_writes_sub_of_map rfl) hb

theorem W4_off (b : Ref sig .tc) (hb : b ∉ ([main_v14, main_v15] : List (Ref sig .tc))) (ha : ∀ w, b ≠ Pipeline.arrRef cfg1.spec w) : W4 m c (Proc.devRef .tc b) = W2 m c (Proc.devRef .tc b) := by
  unfold W4
  rw [Pipeline.afterRegion_of_not_arr _ _ ha]
  unfold W3
  exact keep2 _ _ hb
theorem W6_off (b : Ref sig .tc) (hb : b ∉ ([main_v17, main_v18] : List (Ref sig .tc))) (ha : ∀ w, b ≠ Pipeline.arrRef cfg2.spec w) : W6 m c (Proc.devRef .tc b) = W4 m c (Proc.devRef .tc b) := by
  unfold W6
  rw [Pipeline.afterRegion_of_not_arr _ _ ha]
  unfold W5
  exact keep3 _ _ hb

theorem W4_v16_0 : W4 m c (Proc.devRef .tc main_v16_0) = G3 (W3 m) c := (Pipeline.afterRegion_arr (dat1 (W3 m) c) (W3 m c) inj1 3).trans (arr3 (W3 m) c)
theorem W4_v16_1 : W4 m c (Proc.devRef .tc main_v16_1) = G4 (W3 m) c := (Pipeline.afterRegion_arr (dat1 (W3 m) c) (W3 m c) inj1 4).trans (arr4 (W3 m) c)
theorem W4_v16_2 : W4 m c (Proc.devRef .tc main_v16_2) = accC (W3 m) c tL.val tL.isLt := (Pipeline.afterRegion_arr (dat1 (W3 m) c) (W3 m c) inj1 5).trans (arr5 (W3 m) c)
theorem W4_v16_3 : W4 m c (Proc.devRef .tc main_v16_3) = accS (W3 m) c tL.val tL.isLt := (Pipeline.afterRegion_arr (dat1 (W3 m) c) (W3 m c) inj1 6).trans (arr6 (W3 m) c)

theorem r17 (V : Valuation τ sig (Elt Ideal)) : StableHlo.after ops3 V (Proc.devRef .tc main_v17) = shapeCast S8x64 (V (Proc.devRef .tc main_v13_3)) shapeCasts_S512_S8x64 := by
  unfold ops3
  after_reads_simp
  rfl
theorem r18 (V : Valuation τ sig (Elt Ideal)) : StableHlo.after ops3 V (Proc.devRef .tc main_v18) = shapeCast S32x4096 (V (Proc.devRef .tc main_v13_2)) shapeCasts_S131072_S32x4096 := by
  unfold ops3
  after_reads_simp
  rfl

theorem y0 : yb0 (W5 m) c = shapeCast S8x64 (outSu (fw0 m c)) shapeCasts_S512_S8x64 := by
  rw [yb0_eq]
  unfold W5
  rw [r17, W4_off m c main_v13_3 (by decide) (by decide), W2_v13_3]
theorem y1 : yb1 (W5 m) c = shapeCast S32x4096 (outCo (fw0 m c)) shapeCasts_S131072_S32x4096 := by
  rw [yb1_eq]
  unfold W5
  rw [r18, W4_off m c main_v13_2 (by decide) (by decide), W2_v13_2]
theorem y2 : yb2 (W5 m) c = accC (W3 m) c tL.val tL.isLt := by
  rw [yb2_eq]
  unfold W5
  rw [keep3 _ _ (by decide), W4_v16_2]
theorem y3 : yb3 (W5 m) c = accS (W3 m) c tL.val tL.isLt := by
  rw [yb3_eq]
  unfold W5
  rw [keep3 _ _ (by decide), W4_v16_3]

theorem W6_v19 : W6 m c (Proc.devRef .tc main_v19) = k2_pay1 (F := Ideal) (yb3 (W5 m) c) (yb0 (W5 m) c) (yb1 (W5 m) c) (yb2 (W5 m) c) :=
  (Pipeline.afterRegion_arr (dat2 (W5 m) c) (W5 m c) inj2 4).trans (arr2_4 (W5 m) c)

/-! ## The loss -/

theorem col_eq (k : Fin 4096) : (colM (yb1 (W5 m) c) (yb2 (W5 m) c) (ix2 0 k) : EReal) = refM (ys m c) (xs m c) (ix2 0 k) := by
  refine Inf.uniq (d := eD (ys m c) (xs m c) k.val) (n := 4096) (fun z => ?_) (ref_best (ys m c) (xs m c) k).1
  rw [colM_le, y1, y2, co_le, accC_le]
  have h12 : 256 * (tL.val + 1) = 3072 := rfl
  rw [h12]
  constructor
  · rintro ⟨H1, H2⟩ i hi
    rw [eD_symm]
    by_cases h : i < 3072
    · exact H2 i h
    · exact H1 i (by omega) hi
  · intro H
    exact ⟨fun i _ hi => by rw [eD_symm]; exact H i hi, fun i hi => by rw [eD_symm]; exact H i (by omega)⟩

theorem row_sum : (yb3 (W5 m) c (ix2 0 0) + ∑ i : S8x64.Idx, (yb0 (W5 m) c i : EReal) : EReal) = ∑ k : Fin 4096, (refM (xs m c) (ys m c) (ix2 0 k) : EReal) := by
  rw [y3, y0, su_sum, accS_eq]
  have h12 : 256 * (tL.val + 1) = 3072 := rfl
  rw [h12, ← Finset.sum_range_add, Finset.sum_range]
  refine Finset.sum_congr rfl fun k _ => ?_
  unfold rm
  exact dif_pos k.isLt

theorem loss_eq (q : S1x1.Idx) : k2_pay1 (F := Ideal) (yb3 (W5 m) c) (yb0 (W5 m) c) (yb1 (W5 m) c) (yb2 (W5 m) c) q
    = Ideal.div (Ideal.div (∑ k : Fin 4096, (refM (xs m c) (ys m c) (ix2 0 k) : EReal)) (Ideal.ofBits .f32 0x45800000#32)
          + Ideal.div (∑ k : Fin 4096, (refM (ys m c) (xs m c) (ix2 0 k) : EReal)) (Ideal.ofBits .f32 0x45800000#32)) (Ideal.ofBits .f32 0x40000000#32) := by
  rw [loss_apply, row_sum]
  simp only [col_eq]

theorem r24 (V : Valuation τ sig (Elt Ideal)) : StableHlo.after ops4 V (Proc.devRef .tc main_v24) = shapeCast S_ (V (Proc.devRef .tc main_v19)) shapeCasts_S1x1_S_ := by
  unfold ops4
  after_reads_simp
  rfl

theorem res0 : W7 m c (Proc.devRef .tc main_v24) = refL (xs m c) (ys m c) := by
  unfold W7
  rw [r24, W6_v19]
  funext q
  refine (loss_eq m c _).trans ?_
  rw [← refMean_apply (refM (xs m c) (ys m c)) q, ← refMean_apply (refM (ys m c) (xs m c)) q]
  rfl

/-! ## The least distances and their places -/

/-- The two parts of a result, at a row. -/
theorem joined {α : Type} (A : S3072x1.Idx → α) (B : S1024.Idx → α) (k : Fin 4096) :
    shapeCast S1x4096 (concatenate S4096 0 [⟨S3072, shapeCast S3072 A shapeCasts_S3072x1_S3072⟩, ⟨S1024, B⟩] concatenates_S3072_S1024_S4096_d0) shapeCasts_S4096_S1x4096 (ix2 0 k)
      = if h : k.val < 3072 then A (ix2 ⟨k.val, h⟩ 0) else B (at1 (k.val - 3072) (by have := k.isLt; omega)) := by
  have hk := k.isLt
  refine (Idealize.ShloMosaic.shapeCast_apply _ _ _ (ix1 k) (rm_row k)).trans ?_
  split
  · rename_i h
    refine (concatenate_pair_apply_left (s₁ := S3072) (s₂ := S1024) (t := S4096) 0 _ _ _ (ix1 k) rfl (ix1 ⟨k.val, h⟩) (fun b => by fin_cases b; rfl)).trans ?_
    refine Idealize.ShloMosaic.shapeCast_apply _ _ _ _ ?_
    rw [Shape.rowMajor_val_one, Shape.rowMajor_val_two]
    show k.val * 1 + 0 = k.val
    omega
  · rename_i h
    exact concatenate_pair_apply_right (s₁ := S3072) (s₂ := S1024) (t := S4096) 0 _ _ _ (ix1 k) rfl rfl (at1 (k.val - 3072) (by omega))
      (fun b hb => absurd (Subsingleton.elim (α := Fin 1) _ _) hb) (by show k.val - 3072 + 3072 = k.val; omega)

theorem r25 (V : Valuation τ sig (Elt Ideal)) : StableHlo.after ops4 V (Proc.devRef .tc main_v25)
    = shapeCast S1x4096 (concatenate S4096 0 [⟨S3072, shapeCast S3072 (V (Proc.devRef .tc main_v16_0)) shapeCasts_S3072x1_S3072⟩, ⟨S1024, V (Proc.devRef .tc main_v13_0)⟩] concatenates_S3072_S1024_S4096_d0) shapeCasts_S4096_S1x4096 := by
  unfold ops4
  after_reads_simp
  rfl
theorem r26 (V : Valuation τ sig (Elt Ideal)) : StableHlo.after ops4 V (Proc.devRef .tc main_v26)
    = shapeCast S1x4096 (concatenate S4096 0 [⟨S3072, shapeCast S3072 (V (Proc.devRef .tc main_v16_1)) shapeCasts_S3072x1_S3072⟩, ⟨S1024, V (Proc.devRef .tc main_v13_1)⟩] concatenates_S3072_S1024_S4096_d0) shapeCasts_S4096_S1x4096 := by
  unfold ops4
  after_reads_simp
  rfl

theorem tail_best (k : Fin 4096) (h : ¬ k.val < 3072) :
    Best (eD (xs m c) (ys m c) k.val) 4096 (outCh (fw0 m c) (at1 (k.val - 3072) (by have := k.isLt; omega))) (outIx (fw0 m c) (at1 (k.val - 3072) (by have := k.isLt; omega))).toNat := by
  have hk := k.isLt
  have := out_best (fw0 m c) ⟨k.val - 3072, by omega⟩
  have e : 3072 + (k.val - 3072) = k.val := by omega
  simp only [e] at this
  exact this.congr fun j hj => dF_fw m c _ j hk hj

theorem ix_ext (q : S1x4096.Idx) : ∃ k : Fin 4096, q = ix2 0 k := ⟨q 1, by
  funext a
  match a with
  | ⟨0, _⟩ => exact Subsingleton.elim (α := Fin 1) _ _
  | ⟨1, _⟩ => rfl⟩

theorem res1 : W7 m c (Proc.devRef .tc main_v25) = refM (xs m c) (ys m c) := by
  unfold W7
  rw [r25, W6_off m c main_v16_0 (by decide) (by decide), W6_off m c main_v13_0 (by decide) (by decide), W4_off m c main_v13_0 (by decide) (by decide), W4_v16_0, W2_v13_0]
  funext q
  obtain ⟨k, rfl⟩ := ix_ext q
  refine (joined _ _ k).trans ?_
  split
  · rename_i h
    exact (g_best m c ⟨k.val, h⟩).1.uniq (ref_best (xs m c) (ys m c) k).1
  · rename_i h
    exact (tail_best m c k h).1.uniq (ref_best (xs m c) (ys m c) k).1

theorem res2 : W7 m c (Proc.devRef .tc main_v26) = refI (xs m c) (ys m c) := by
  unfold W7
  rw [r26, W6_off m c main_v16_1 (by decide) (by decide), W6_off m c main_v13_1 (by decide) (by decide), W4_off m c main_v13_1 (by decide) (by decide), W4_v16_1, W2_v13_1]
  funext q
  obtain ⟨k, rfl⟩ := ix_ext q
  refine (joined _ _ k).trans ?_
  apply BitVec.eq_of_toNat_eq
  split
  · rename_i h
    exact (g_best m c ⟨k.val, h⟩).uniq (ref_best (xs m c) (ys m c) k)
  · rename_i h
    exact (tail_best m c k h).uniq (ref_best (xs m c) (ys m c) k)

/-! ## The claim -/

theorem run_res (ρ : Dev nD → PrngReg) : θ_run (Cert.KernelIdeal.defs (F := Ideal)) (Cert.KernelIdeal.threads (F := Ideal)) ⟨m, fun _ => 0, ρ⟩ (fun r => ∀ c : Dev nD,
      r.2.mem ((c.tc : Thread nD τ).loc main_v24) = refL (xs m c) (ys m c)
      ∧ r.2.mem ((c.tc : Thread nD τ).loc main_v25) = refM (xs m c) (ys m c)
      ∧ r.2.mem ((c.tc : Thread nD τ).loc main_v26) = refI (xs m c) (ys m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (Cert.KernelIdeal.defs (F := Ideal)) _ _).mono (fun r h c => ?_) (run_main m ρ)
  have hb := fun b hb => (h.1 c _ (arg_not_call b hb).2.2.2.2).trans (W7_arg m c b hb)
  exact ⟨(h.1 c (Proc.devRef .tc main_v24) (by decide)).trans (res0 m c), (h.1 c (Proc.devRef .tc main_v25) (by decide)).trans (res1 m c),
    (h.1 c (Proc.devRef .tc main_v26) (by decide)).trans (res2 m c), hb main_arg0 (by decide), hb main_arg1 (by decide), hb main_arg2 (by decide)⟩

/-- The idealized kernel's three results are the reference's. -/
theorem algebraic : Cert.algebraic_KernelIdeal_ReferenceIdeal := by
  intro m g m' g' _ hagree
  refine ⟨fun c => refL (xs m c) (ys m c), fun c => refM (xs m c) (ys m c), fun c => refI (xs m c) (ys m c), run_res m g, ?_⟩
  refine (θ_run (Cert.ReferenceIdeal.defs (F := Ideal)) _ _).mono (fun r h c => ?_) (ref_run m' g')
  obtain ⟨h0, h1, h2, h3⟩ := h c
  obtain ⟨a0, a1, a2⟩ := hagree c
  refine ⟨h0.trans ?_, h1.trans ?_, h2.trans ?_, h3⟩
  all_goals (rw [a0, a1, a2]; rfl)

end Cert.Val
-- ==== Proof.lean ====
module

public import proofs.«01_k».proof.Defs
public import proofs.«01_k».proof.Proof.KB.Ends
public import proofs.«01_k».proof.Proof.KI.Ends
public import proofs.«01_k».proof.Proof.Ref
public import proofs.«01_k».proof.Proof.V.Alg
public import Idealize.ShloMosaic.Adequacy
public import Idealize.ShloMosaic.Init

@[expose] public section

noncomputable section

namespace Cert.Proof

open Idealize.ShloMosaic Idealize.SL.Sem

/-- The kernel's run, at its own words. -/
theorem frame_p : Cert.quiescent_Kernel := fun m ρ _ => Cert.Kernel.KB.run_args (F := Bits) m ρ
/-- The idealized kernel's run. -/
theorem frame_pi : Cert.quiescent_KernelIdeal := fun m ρ _ => Cert.KernelIdeal.KI.run_args (F := Ideal) m ρ
/-- The one named constant. -/
theorem preserves : Cert.preserves_Kernel_KernelIdeal :=
  IdealRules.named_const.statement _ _ _ _ _ rfl

theorem claim : Cert.Claim := ⟨Cert.Kernel.Gen.facts, Cert.KernelIdeal.Gen.facts, Cert.ReferenceIdeal.Gen.facts,
  frame_p, frame_pi, Cert.ReferenceIdeal.Ref.quiescent, preserves, Cert.Val.algebraic⟩

end Cert.Proof

end
